-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v581) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S10x10000x4 : Shape := ⟨3, ![10, 10000, 4]⟩
abbrev S10x2x160000 : Shape := ⟨3, ![10, 2, 160000]⟩
abbrev S10000 : Shape := ⟨1, ![10000]⟩
abbrev S10x50x3 : Shape := ⟨3, ![10, 50, 3]⟩
abbrev S10x4x8 : Shape := ⟨3, ![10, 4, 8]⟩
abbrev S10x8 : Shape := ⟨2, ![10, 8]⟩
abbrev S19x64 : Shape := ⟨2, ![19, 64]⟩
abbrev S4x16 : Shape := ⟨2, ![4, 16]⟩
abbrev S64 : Shape := ⟨1, ![64]⟩
abbrev S64x16 : Shape := ⟨2, ![64, 16]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S10x2x160000 : S_.BroadcastsInDim S10x2x160000 (![] : Fin 0 → Fin S10x2x160000.rank)
  reducesTo_S10x2x160000_S_d0_1_2 : S10x2x160000.ReducesTo [0, 1, 2] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10x10000x4 .f32) (main_arg1 : IVec S10x2x160000 32) (main_arg2 : IVec S10000 32) (main_arg3 : FVec F S10x50x3 .f32) (main_arg4 : FVec F S10x4x8 .f32) (main_arg5 : FVec F S10x8 .f32) (main_arg6 : FVec F S10x8 .f32) (main_arg7 : FVec F S10x8 .f32) (main_arg8 : FVec F S10x8 .f32) (main_arg9 : FVec F S19x64 .f32) (main_arg10 : FVec F S4x16 .f32) (main_arg11 : FVec F S4x16 .f32) (main_arg12 : FVec F S64 .f32) (main_arg13 : FVec F S64 .f32) (main_arg14 : FVec F S64 .f32) (main_arg15 : FVec F S64x16 .f32) (main_arg16 : FVec F S1x16 .f32) (main_arg17 : FVec F S1x16 .f32) (main_arg18 : FVec F S16 .f32) (main_arg19 : FVec F S16 .f32) (main_arg20 : FVec F S16 .f32) (main_arg21 : FVec F S16x2 .f32) (main_arg22 : FVec F S2 .f32) : IVec S_ 1 :=
  let main_c : IVec S_ 32 := constantI S_ 32 0#32
  let main_v0 : IVec S10x2x160000 32 := broadcastInDim S10x2x160000 ![] bcast_S_S10x2x160000 main_c
  let main_v1 : IVec S10x2x160000 1 := cmpi .sge main_arg1 main_v0
  let main_c_0 : IVec S_ 1 := constantI S_ 1 1#1
  let main_v2 : IVec S_ 1 := (fun x v => Host.reduce IntOp.andi x v reducesTo_S10x2x160000_S_d0_1_2 h_S_) main_v1 main_c_0
  let main_c_1 : IVec S_ 32 := constantI S_ 32 10000#32
  let main_v3 : IVec S10x2x160000 32 := broadcastInDim S10x2x160000 ![] bcast_S_S10x2x160000 main_c_1
  let main_v4 : IVec S10x2x160000 1 := cmpi .slt main_arg1 main_v3
  let main_c_2 : IVec S_ 1 := constantI S_ 1 1#1
  let main_v5 : IVec S_ 1 := (fun x v => Host.reduce IntOp.andi x v reducesTo_S10x2x160000_S_d0_1_2 h_S_) main_v4 main_c_2
  let main_v6 : IVec S_ 1 := andi main_v2 main_v5
  let main_v7 : IVec S10000 32 := iotaInDim S10000 32 0
  let main_c_3 : IVec S_ 32 := constantI S_ 32 200#32
  let main_v8 : IVec S10000 32 := broadcastInDim S10000 ![] bcast_S_S10000 main_c_3
  let main_v9 : IVec S10000 32 := Host.divsi main_v7 main_v8
  let main_v10 : IVec S10000 1 := cmpi .eq main_arg2 main_v9
  let main_c_4 : IVec S_ 1 := constantI S_ 1 1#1
  let main_v11 : IVec S_ 1 := (fun x v => Host.reduce IntOp.andi x v reducesTo_S10000_S_d0 h_S_) main_v10 main_c_4
  let main_v12 : IVec S_ 1 := andi main_v6 main_v11
  main_v12
-- ==== Kernel.lean ====
abbrev S10x10000x4 : Shape := ⟨3, ![10, 10000, 4]⟩
abbrev S10x2x160000 : Shape := ⟨3, ![10, 2, 160000]⟩
abbrev S10000 : Shape := ⟨1, ![10000]⟩
abbrev S10x50x3 : Shape := ⟨3, ![10, 50, 3]⟩
abbrev S10x4x8 : Shape := ⟨3, ![10, 4, 8]⟩
abbrev S10x8 : Shape := ⟨2, ![10, 8]⟩
abbrev S19x64 : Shape := ⟨2, ![19, 64]⟩
abbrev S4x16 : Shape := ⟨2, ![4, 16]⟩
abbrev S64 : Shape := ⟨1, ![64]⟩
abbrev S64x16 : Shape := ⟨2, ![64, 16]⟩
abbrev S1x16 : Shape := ⟨2, ![1, 16]⟩
abbrev S16 : Shape := ⟨1, ![16]⟩
abbrev S16x2 : Shape := ⟨2, ![16, 2]⟩
abbrev S2 : Shape := ⟨1, ![2]⟩
abbrev S10 : Shape := ⟨1, ![10]⟩
abbrev S_ : Shape := ⟨0, ![]⟩
abbrev S10x1 : Shape := ⟨2, ![10, 1]⟩
abbrev S10x1x160000 : Shape := ⟨3, ![10, 1, 160000]⟩
abbrev S10x160000 : Shape := ⟨2, ![10, 160000]⟩
abbrev S1600000 : Shape := ⟨1, ![1600000]⟩
abbrev S100000 : Shape := ⟨1, ![100000]⟩
abbrev S1600000x1 : Shape := ⟨2, ![1600000, 1]⟩
abbrev S10x10000x4x1 : Shape := ⟨4, ![10, 10000, 4, 1]⟩
abbrev S10x1x4x8 : Shape := ⟨4, ![10, 1, 4, 8]⟩
abbrev S10x10000x4x8 : Shape := ⟨4, ![10, 10000, 4, 8]⟩
abbrev S10x10000x8 : Shape := ⟨3, ![10, 10000, 8]⟩
abbrev S100000x8 : Shape := ⟨2, ![100000, 8]⟩
abbrev S1600000x8 : Shape := ⟨2, ![1600000, 8]⟩
abbrev S100000x1 : Shape := ⟨2, ![100000, 1]⟩
abbrev S10x1x8 : Shape := ⟨3, ![10, 1, 8]⟩
abbrev S10x50x200x8 : Shape := ⟨4, ![10, 50, 200, 8]⟩
abbrev S10x50 : Shape := ⟨2, ![10, 50]⟩
abbrev S10x50x1x1 : Shape := ⟨4, ![10, 50, 1, 1]⟩
abbrev S10x1x1x8 : Shape := ⟨4, ![10, 1, 1, 8]⟩
abbrev S10x50x8 : Shape := ⟨3, ![10, 50, 8]⟩
abbrev S10x50x200 : Shape := ⟨3, ![10, 50, 200]⟩
abbrev S10x1x1 : Shape := ⟨3, ![10, 1, 1]⟩
abbrev S10x50x100 : Shape := ⟨3, ![10, 50, 100]⟩
abbrev S10x50x100x1 : Shape := ⟨4, ![10, 50, 100, 1]⟩
abbrev S1 : Shape := ⟨1, ![1]⟩
abbrev S1x1x1x1 : Shape := ⟨4, ![1, 1, 1, 1]⟩
abbrev S10x50x100x8 : Shape := ⟨4, ![10, 50, 100, 8]⟩
abbrev S10x50x19 : Shape := ⟨3, ![10, 50, 19]⟩
abbrev S50x10x19 : Shape := ⟨3, ![50, 10, 19]⟩
abbrev S500x19 : Shape := ⟨2, ![500, 19]⟩
abbrev S500 : Shape := ⟨1, ![500]⟩
abbrev S500x1 : Shape := ⟨2, ![500, 1]⟩
abbrev S4x64 : Shape := ⟨2, ![4, 64]⟩
abbrev S4x4 : Shape := ⟨2, ![4, 4]⟩
abbrev S4x1x4 : Shape := ⟨3, ![4, 1, 4]⟩
abbrev S4x16x1 : Shape := ⟨3, ![4, 16, 1]⟩
abbrev S4x16x4 : Shape := ⟨3, ![4, 16, 4]⟩
abbrev S64x4 : Shape := ⟨2, ![64, 4]⟩
abbrev S16x1 : Shape := ⟨2, ![16, 1]⟩
abbrev S1x64 : Shape := ⟨2, ![1, 64]⟩
abbrev S1x2 : Shape := ⟨2, ![1, 2]⟩
abbrev S500x500 : Shape := ⟨2, ![500, 500]⟩
abbrev S50x500 : Shape := ⟨2, ![50, 500]⟩
abbrev S50x2 : Shape := ⟨2, ![50, 2]⟩
abbrev S500x64 : Shape := ⟨2, ![500, 64]⟩
abbrev S500x4 : Shape := ⟨2, ![500, 4]⟩
abbrev S500x16 : Shape := ⟨2, ![500, 16]⟩
abbrev S50x16 : Shape := ⟨2, ![50, 16]⟩

abbrev nBuf : Space → Nat
  | .hbm => 275
  | .vmem => 21
  | .smem => 0
  | _ => 0

abbrev hbmTy0_0 (i : Nat) : BufTy := match i % 128 with
  | 0 => ⟨S10x10000x4, .f32⟩
  | 1 => ⟨S10x2x160000, .i32⟩
  | 2 => ⟨S10000, .i32⟩
  | 3 => ⟨S10x50x3, .f32⟩
  | 4 => ⟨S10x4x8, .f32⟩
  | 5 => ⟨S10x8, .f32⟩
  | 6 => ⟨S10x8, .f32⟩
  | 7 => ⟨S10x8, .f32⟩
  | 8 => ⟨S10x8, .f32⟩
  | 9 => ⟨S19x64, .f32⟩
  | 10 => ⟨S4x16, .f32⟩
  | 11 => ⟨S4x16, .f32⟩
  | 12 => ⟨S64, .f32⟩
  | 13 => ⟨S64, .f32⟩
  | 14 => ⟨S64, .f32⟩
  | 15 => ⟨S64x16, .f32⟩
  | 16 => ⟨S1x16, .f32⟩
  | 17 => ⟨S1x16, .f32⟩
  | 18 => ⟨S16, .f32⟩
  | 19 => ⟨S16, .f32⟩
  | 20 => ⟨S16, .f32⟩
  | 21 => ⟨S16x2, .f32⟩
  | 22 => ⟨S2, .f32⟩
  | 23 => ⟨S10, .i32⟩
  | 24 => ⟨S_, .i32⟩
  | 25 => ⟨S10, .i32⟩
  | 26 => ⟨S10, .i32⟩
  | 27 => ⟨S10x1, .i32⟩
  | 28 => ⟨S10x1x160000, .i32⟩
  | 29 => ⟨S10x160000, .i32⟩
  | 30 => ⟨S10x160000, .i32⟩
  | 31 => ⟨S10x160000, .i32⟩
  | 32 => ⟨S1600000, .i32⟩
  | 33 => ⟨S10x1x160000, .i32⟩
  | 34 => ⟨S10x160000, .i32⟩
  | 35 => ⟨S10x160000, .i32⟩
  | 36 => ⟨S10x160000, .i32⟩
  | 37 => ⟨S1600000, .i32⟩
  | 38 => ⟨S_, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S_, .f32⟩
  | 49 => ⟨S1600000, .f32⟩
  | 50 => ⟨S100000, .f32⟩
  | 51 => ⟨S_, .f32⟩
  | 52 => ⟨S100000, .f32⟩
  | 53 => ⟨S100000, .f32⟩
  | 54 => ⟨S100000, .f32⟩
  | 55 => ⟨S10x10000x4x1, .f32⟩
  | 56 => ⟨S10x1x4x8, .f32⟩
  | 57 => ⟨S10x10000x4x8, .f32⟩
  | 58 => ⟨S10x10000x4x8, .f32⟩
  | 59 => ⟨S10x10000x4x8, .f32⟩
  | 60 => ⟨S_, .f32⟩
  | 61 => ⟨S10x10000x8, .f32⟩
  | 62 => ⟨S100000x8, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S1600000, .f32⟩
  | 82 => ⟨S_, .f32⟩
  | 83 => ⟨S100000x8, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x8, .f32⟩
  | 93 => ⟨S1600000x1, .f32⟩
  | 94 => ⟨S1600000x8, .f32⟩
  | 95 => ⟨S1600000x8, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S100000x8, .f32⟩
  | 105 => ⟨S100000, .f32⟩
  | 106 => ⟨S100000x1, .f32⟩
  | 107 => ⟨S100000x8, .f32⟩
  | 108 => ⟨S100000x8, .f32⟩
  | 109 => ⟨S100000x8, .f32⟩
  | 110 => ⟨S10x10000x8, .f32⟩
  | 111 => ⟨S10x1x8, .f32⟩
  | 112 => ⟨S10x10000x8, .f32⟩
  | 113 => ⟨S10x10000x8, .f32⟩
  | 114 => ⟨S_, .f32⟩
  | 115 => ⟨S10x10000x8, .f32⟩
  | 116 => ⟨S10x10000x8, .f32⟩
  | 117 => ⟨S10x50x200x8, .f32⟩
  | 118 => ⟨S_, .f32⟩
  | 119 => ⟨S10x50, .f32⟩
  | 120 => ⟨S10x50x1x1, .f32⟩
  | 121 => ⟨S_, .f32⟩
  | 122 => ⟨S10x50x1x1, .f32⟩
  | 123 => ⟨S10x50x1x1, .f32⟩
  | 124 => ⟨S10x50x200x8, .f32⟩
  | 125 => ⟨S10x50x200x8, .f32⟩
  | 126 => ⟨S10x50x200x8, .f32⟩
  | 127 => ⟨S_, .f32⟩
  | _ => ⟨S10x10000x4, .f32⟩

abbrev hbmTy0_1 (i : Nat) : BufTy := match i % 128 with
  | 0 => ⟨S10x50, .f32⟩
  | 1 => ⟨S10x50x1x1, .f32⟩
  | 2 => ⟨S_, .f32⟩
  | 3 => ⟨S10x50x1x1, .f32⟩
  | 4 => ⟨S10x50x1x1, .f32⟩
  | 5 => ⟨S_, .f32⟩
  | 6 => ⟨S10x50x1x1, .f32⟩
  | 7 => ⟨S10x50x1x1, .f32⟩
  | 8 => ⟨S10x50x1x1, .f32⟩
  | 9 => ⟨S10x50x200x8, .f32⟩
  | 10 => ⟨S10x50x200x8, .f32⟩
  | 11 => ⟨S10x1x1x8, .f32⟩
  | 12 => ⟨S10x50x200x8, .f32⟩
  | 13 => ⟨S10x50x200x8, .f32⟩
  | 14 => ⟨S10x1x1x8, .f32⟩
  | 15 => ⟨S10x50x200x8, .f32⟩
  | 16 => ⟨S10x50x200x8, .f32⟩
  | 17 => ⟨S_, .f32⟩
  | 18 => ⟨S10x50x8, .f32⟩
  | 19 => ⟨S_, .f32⟩
  | 20 => ⟨S10x50x8, .f32⟩
  | 21 => ⟨S10x50x8, .f32⟩
  | 22 => ⟨S10x8, .f32⟩
  | 23 => ⟨S_, .f32⟩
  | 24 => ⟨S10, .f32⟩
  | 25 => ⟨S10, .f32⟩
  | 26 => ⟨S_, .f32⟩
  | 27 => ⟨S10, .f32⟩
  | 28 => ⟨S10, .f32⟩
  | 29 => ⟨S10x50x200, .f32⟩
  | 30 => ⟨S10x1x1, .f32⟩
  | 31 => ⟨S10x50x200, .f32⟩
  | 32 => ⟨S10x50x200, .f32⟩
  | 33 => ⟨S10x50x100, .f32⟩
  | 34 => ⟨S10x50x100, .i32⟩
  | 35 => ⟨S10x50x100x1, .i32⟩
  | 36 => ⟨S_, .i32⟩
  | 37 => ⟨S10x50x100x1, .i32⟩
  | 38 => ⟨S10x50x100x1, .i1⟩
  | 39 => ⟨S_, .i32⟩
  | 40 => ⟨S10x50x100x1, .i32⟩
  | 41 => ⟨S10x50x100x1, .i32⟩
  | 42 => ⟨S10x50x100x1, .i32⟩
  | 43 => ⟨S1, .i32⟩
  | 44 => ⟨S_, .i32⟩
  | 45 => ⟨S10x50x100x1, .i32⟩
  | 46 => ⟨S10x50x100x1, .i1⟩
  | 47 => ⟨S1x1x1x1, .i32⟩
  | 48 => ⟨S10x50x100x1, .i32⟩
  | 49 => ⟨S10x50x100x1, .i1⟩
  | 50 => ⟨S10x50x100x1, .i1⟩
  | 51 => ⟨S_, .i1⟩
  | 52 => ⟨S10x50x100, .i1⟩
  | 53 => ⟨S10x50x100x8, .f32⟩
  | 54 => ⟨S10x50x100x8, .i1⟩
  | 55 => ⟨S_, .f32⟩
  | 56 => ⟨S10x50x100x8, .f32⟩
  | 57 => ⟨S10x50x100x8, .f32⟩
  | 58 => ⟨S10x50x100, .f32⟩
  | 59 => ⟨S10x50x100x1, .f32⟩
  | 60 => ⟨S10x50x100x8, .f32⟩
  | 61 => ⟨S10x50x100x8, .f32⟩
  | 62 => ⟨S_, .f32⟩
  | 63 => ⟨S10x50x8, .f32⟩
  | 64 => ⟨S_, .f32⟩
  | 65 => ⟨S10x50x8, .f32⟩
  | 66 => ⟨S10x50x8, .f32⟩
  | 67 => ⟨S10x50x19, .f32⟩
  | 68 => ⟨S50x10x19, .f32⟩
  | 69 => ⟨S500x19, .f32⟩
  | 70 => ⟨S500, .f32⟩
  | 71 => ⟨S500x1, .f32⟩
  | 72 => ⟨S4x64, .f32⟩
  | 73 => ⟨S4x4, .i32⟩
  | 74 => ⟨S4x4, .i32⟩
  | 75 => ⟨S_, .i32⟩
  | 76 => ⟨S4x4, .i32⟩
  | 77 => ⟨S4x4, .i32⟩
  | 78 => ⟨S4x4, .i1⟩
  | 79 => ⟨S4x4, .f32⟩
  | 80 => ⟨S4x1x4, .f32⟩
  | 81 => ⟨S4x16x1, .f32⟩
  | 82 => ⟨S4x16x4, .f32⟩
  | 83 => ⟨S4x16x4, .f32⟩
  | 84 => ⟨S4x16x4, .f32⟩
  | 85 => ⟨S64x4, .f32⟩
  | 86 => ⟨S4x1x4, .f32⟩
  | 87 => ⟨S4x16x1, .f32⟩
  | 88 => ⟨S4x16x4, .f32⟩
  | 89 => ⟨S4x16x4, .f32⟩
  | 90 => ⟨S4x16x4, .f32⟩
  | 91 => ⟨S64x4, .f32⟩
  | 92 => ⟨S16x1, .f32⟩
  | 93 => ⟨S16x1, .f32⟩
  | 94 => ⟨S1x64, .f32⟩
  | 95 => ⟨S1x64, .f32⟩
  | 96 => ⟨S1x64, .f32⟩
  | 97 => ⟨S1x16, .f32⟩
  | 98 => ⟨S1x16, .f32⟩
  | 99 => ⟨S1x16, .f32⟩
  | 100 => ⟨S1x2, .f32⟩
  | 101 => ⟨S500x500, .i32⟩
  | 102 => ⟨S500x500, .i32⟩
  | 103 => ⟨S_, .i32⟩
  | 104 => ⟨S500x500, .i32⟩
  | 105 => ⟨S500x500, .i32⟩
  | 106 => ⟨S_, .i32⟩
  | 107 => ⟨S500x500, .i32⟩
  | 108 => ⟨S500x500, .i32⟩
  | 109 => ⟨S500x500, .i1⟩
  | 110 => ⟨S_, .f32⟩
  | 111 => ⟨S_, .f32⟩
  | 112 => ⟨S500x500, .f32⟩
  | 113 => ⟨S500x500, .f32⟩
  | 114 => ⟨S500x500, .f32⟩
  | 115 => ⟨S500x500, .i32⟩
  | 116 => ⟨S500x500, .i32⟩
  | 117 => ⟨S_, .i32⟩
  | 118 => ⟨S500x500, .i32⟩
  | 119 => ⟨S500x500, .i32⟩
  | 120 => ⟨S_, .i32⟩
  | 121 => ⟨S500x500, .i32⟩
  | 122 => ⟨S500x500, .i32⟩
  | 123 => ⟨S500x500, .i1⟩
  | 124 => ⟨S_, .f32⟩
  | 125 => ⟨S_, .f32⟩
  | 126 => ⟨S500x500, .f32⟩
  | 127 => ⟨S500x500, .f32⟩
  | _ => ⟨S10x10000x4, .f32⟩

abbrev hbmTy0_2 (i : Nat) : BufTy := match i % 128 with
  | 0 => ⟨S500x500, .f32⟩
  | 1 => ⟨S_, .f32⟩
  | 2 => ⟨S500x500, .f32⟩
  | 3 => ⟨S500x500, .f32⟩
  | 4 => ⟨S50x500, .i32⟩
  | 5 => ⟨S50x500, .i32⟩
  | 6 => ⟨S_, .i32⟩
  | 7 => ⟨S50x500, .i32⟩
  | 8 => ⟨S50x500, .i32⟩
  | 9 => ⟨S50x500, .i1⟩
  | 10 => ⟨S_, .f32⟩
  | 11 => ⟨S_, .f32⟩
  | 12 => ⟨S50x500, .f32⟩
  | 13 => ⟨S50x500, .f32⟩
  | 14 => ⟨S50x500, .f32⟩
  | 15 => ⟨S_, .f32⟩
  | 16 => ⟨S50x500, .f32⟩
  | 17 => ⟨S50x500, .f32⟩
  | 18 => ⟨S50x2, .f32⟩
  | _ => ⟨S10x10000x4, .f32⟩

abbrev hbmTy (i : Nat) : BufTy := match i / 128 with
  | 0 => hbmTy0_0 i
  | 1 => hbmTy0_1 i
  | 2 => hbmTy0_2 i
  | _ => ⟨S10x10000x4, .f32⟩

abbrev bufTy : (tb : Table) → Fin (tcTables nBuf tb) → BufTy
  | .hbm, ⟨i, _⟩ => hbmTy i
  | .local _ .vmem, ⟨0, _⟩ => ⟨S500x19, .f32⟩
  | .local _ .vmem, ⟨1, _⟩ => ⟨S19x64, .f32⟩
  | .local _ .vmem, ⟨2, _⟩ => ⟨S64x4, .f32⟩
  | .local _ .vmem, ⟨3, _⟩ => ⟨S64x4, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S64x16, .f32⟩
  | .local _ .vmem, ⟨8, _⟩ => ⟨S16x1, .f32⟩
  | .local _ .vmem, ⟨9, _⟩ => ⟨S16x1, .f32⟩
  | .local _ .vmem, ⟨10, _⟩ => ⟨S1x16, .f32⟩
  | .local _ .vmem, ⟨11, _⟩ => ⟨S1x16, .f32⟩
  | .local _ .vmem, ⟨12, _⟩ => ⟨S1x16, .f32⟩
  | .local _ .vmem, ⟨13, _⟩ => ⟨S16x2, .f32⟩
  | .local _ .vmem, ⟨14, _⟩ => ⟨S1x2, .f32⟩
  | .local _ .vmem, ⟨15, _⟩ => ⟨S500x500, .f32⟩
  | .local _ .vmem, ⟨16, _⟩ => ⟨S500x500, .f32⟩
  | .local _ .vmem, ⟨17, _⟩ => ⟨S50x500, .f32⟩
  | .local _ .vmem, ⟨18, _⟩ => ⟨S500x1, .f32⟩
  | .local _ .vmem, ⟨19, _⟩ => ⟨S4x64, .f32⟩
  | .local _ .vmem, ⟨20, _⟩ => ⟨S50x2, .f32⟩
  | _, _ => ⟨S10x10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_c_0 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_v40 : Ref sig .tc := ⟨.hbm, 73, rfl⟩
abbrev main_v41 : Ref sig .tc := ⟨.hbm, 74, rfl⟩
abbrev main_c_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_c_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_12 : Ref sig .tc := ⟨.hbm, 96, rfl⟩
abbrev main_v59 : Ref sig .tc := ⟨.hbm, 97, rfl⟩
abbrev main_v60 : Ref sig .tc := ⟨.hbm, 98, rfl⟩
abbrev main_c_13 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call0_cst : Ref sig .tc := ⟨.hbm, 114, rfl⟩
abbrev main_call0_v0 : Ref sig .tc := ⟨.hbm, 115, rfl⟩
abbrev main_v75 : Ref sig .tc := ⟨.hbm, 116, rfl⟩
abbrev main_v76 : Ref sig .tc := ⟨.hbm, 117, rfl⟩
abbrev main_cst_14 : Ref sig .tc := ⟨.hbm, 118, rfl⟩
abbrev main_v77 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_cst_17 : Ref sig .tc := ⟨.hbm, 130, rfl⟩
abbrev main_v86 : Ref sig .tc := ⟨.hbm, 131, rfl⟩
abbrev main_v87 : Ref sig .tc := ⟨.hbm, 132, rfl⟩
abbrev main_cst_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_19 : Ref sig .tc := ⟨.hbm, 145, rfl⟩
abbrev main_v99 : Ref sig .tc := ⟨.hbm, 146, rfl⟩
abbrev main_cst_20 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_21 : Ref sig .tc := ⟨.hbm, 151, rfl⟩
abbrev main_v103 : Ref sig .tc := ⟨.hbm, 152, rfl⟩
abbrev main_v104 : Ref sig .tc := ⟨.hbm, 153, rfl⟩
abbrev main_cst_22 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_values : Ref sig .tc := ⟨.hbm, 161, rfl⟩
abbrev main_indices : Ref sig .tc := ⟨.hbm, 162, rfl⟩
abbrev main_v111 : Ref sig .tc := ⟨.hbm, 163, rfl⟩
abbrev main_call1_c : Ref sig .tc := ⟨.hbm, 164, rfl⟩
abbrev main_call1_v0 : Ref sig .tc := ⟨.hbm, 165, rfl⟩
abbrev main_call1_v1 : Ref sig .tc := ⟨.hbm, 166, rfl⟩
abbrev main_call1_c_0 : Ref sig .tc := ⟨.hbm, 167, rfl⟩
abbrev main_call1_v2 : Ref sig .tc := ⟨.hbm, 168, rfl⟩
abbrev main_call1_v3 : Ref sig .tc := ⟨.hbm, 169, rfl⟩
abbrev main_call1_v4 : Ref sig .tc := ⟨.hbm, 170, rfl⟩
abbrev main_call1_c_1 : Ref sig .tc := ⟨.hbm, 171, rfl⟩
abbrev main_call1_c_2 : Ref sig .tc := ⟨.hbm, 172, rfl⟩
abbrev main_call1_v5 : Ref sig .tc := ⟨.hbm, 173, rfl⟩
abbrev main_call1_v6 : Ref sig .tc := ⟨.hbm, 174, rfl⟩
abbrev main_call1_v7 : Ref sig .tc := ⟨.hbm, 175, rfl⟩
abbrev main_call1_v8 : Ref sig .tc := ⟨.hbm, 176, rfl⟩
abbrev main_call1_v9 : Ref sig .tc := ⟨.hbm, 177, rfl⟩
abbrev main_call1_v10 : Ref sig .tc := ⟨.hbm, 178, rfl⟩
abbrev main_call1_c_3 : Ref sig .tc := ⟨.hbm, 179, rfl⟩
abbrev main_call1_v11 : Ref sig .tc := ⟨.hbm, 180, rfl⟩
abbrev main_call1_v12 : Ref sig .tc := ⟨.hbm, 181, rfl⟩
abbrev main_call1_v13 : Ref sig .tc := ⟨.hbm, 182, rfl⟩
abbrev main_call1_cst : Ref sig .tc := ⟨.hbm, 183, rfl⟩
abbrev main_call1_v14 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_23 : Ref sig .tc := ⟨.hbm, 190, rfl⟩
abbrev main_v117 : Ref sig .tc := ⟨.hbm, 191, rfl⟩
abbrev main_cst_24 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_call2_cst : Ref sig .tc := ⟨.hbm, 198, rfl⟩
abbrev main_call2_v0 : Ref sig .tc := ⟨.hbm, 199, rfl⟩
abbrev main_call2_cst_0 : Ref sig .tc := ⟨.hbm, 200, rfl⟩
abbrev main_call2_v1 : Ref sig .tc := ⟨.hbm, 201, rfl⟩
abbrev main_call2_v2 : Ref sig .tc := ⟨.hbm, 202, rfl⟩
abbrev main_call2_c : Ref sig .tc := ⟨.hbm, 203, rfl⟩
abbrev main_call2_v3 : Ref sig .tc := ⟨.hbm, 204, rfl⟩
abbrev main_call2_v4 : Ref sig .tc := ⟨.hbm, 205, rfl⟩
abbrev main_call2_v5 : Ref sig .tc := ⟨.hbm, 206, rfl⟩
abbrev main_call2_v6 : Ref sig .tc := ⟨.hbm, 207, rfl⟩
abbrev main_call2_v7 : Ref sig .tc := ⟨.hbm, 208, rfl⟩
abbrev main_call2_v8 : Ref sig .tc := ⟨.hbm, 209, rfl⟩
abbrev main_call2_v9 : Ref sig .tc := ⟨.hbm, 210, rfl⟩
abbrev main_call2_v10 : Ref sig .tc := ⟨.hbm, 211, rfl⟩
abbrev main_call2_v11 : Ref sig .tc := ⟨.hbm, 212, rfl⟩
abbrev main_call2_v12 : Ref sig .tc := ⟨.hbm, 213, rfl⟩
abbrev main_call2_v13 : Ref sig .tc := ⟨.hbm, 214, rfl⟩
abbrev main_call2_v14 : Ref sig .tc := ⟨.hbm, 215, rfl⟩
abbrev main_call2_v15 : Ref sig .tc := ⟨.hbm, 216, rfl⟩
abbrev main_call2_v16 : Ref sig .tc := ⟨.hbm, 217, rfl⟩
abbrev main_call2_v17 : Ref sig .tc := ⟨.hbm, 218, rfl⟩
abbrev main_call2_v18 : Ref sig .tc := ⟨.hbm, 219, rfl⟩
abbrev main_call2_v19 : Ref sig .tc := ⟨.hbm, 220, rfl⟩
abbrev main_call2_v20 : Ref sig .tc := ⟨.hbm, 221, rfl⟩
abbrev main_call2_v21 : Ref sig .tc := ⟨.hbm, 222, rfl⟩
abbrev main_call2_v22 : Ref sig .tc := ⟨.hbm, 223, rfl⟩
abbrev main_call2_v23 : Ref sig .tc := ⟨.hbm, 224, rfl⟩
abbrev main_call2_v24 : Ref sig .tc := ⟨.hbm, 225, rfl⟩
abbrev main_call2_v25 : Ref sig .tc := ⟨.hbm, 226, rfl⟩
abbrev main_call2_v26 : Ref sig .tc := ⟨.hbm, 227, rfl⟩
abbrev main_call2_v27 : Ref sig .tc := ⟨.hbm, 228, rfl⟩
abbrev main_call2_v28 : Ref sig .tc := ⟨.hbm, 229, rfl⟩
abbrev main_call2_v29 : Ref sig .tc := ⟨.hbm, 230, rfl⟩
abbrev main_call2_c_1 : Ref sig .tc := ⟨.hbm, 231, rfl⟩
abbrev main_call2_v30 : Ref sig .tc := ⟨.hbm, 232, rfl⟩
abbrev main_call2_v31 : Ref sig .tc := ⟨.hbm, 233, rfl⟩
abbrev main_call2_c_2 : Ref sig .tc := ⟨.hbm, 234, rfl⟩
abbrev main_call2_v32 : Ref sig .tc := ⟨.hbm, 235, rfl⟩
abbrev main_call2_v33 : Ref sig .tc := ⟨.hbm, 236, rfl⟩
abbrev main_call2_v34 : Ref sig .tc := ⟨.hbm, 237, rfl⟩
abbrev main_call2_cst_3 : Ref sig .tc := ⟨.hbm, 238, rfl⟩
abbrev main_call2_cst_4 : Ref sig .tc := ⟨.hbm, 239, rfl⟩
abbrev main_call2_call0_v0 : Ref sig .tc := ⟨.hbm, 240, rfl⟩
abbrev main_call2_call0_v1 : Ref sig .tc := ⟨.hbm, 241, rfl⟩
abbrev main_call2_v35 : Ref sig .tc := ⟨.hbm, 242, rfl⟩
abbrev main_call2_v36 : Ref sig .tc := ⟨.hbm, 243, rfl⟩
abbrev main_call2_v37 : Ref sig .tc := ⟨.hbm, 244, rfl⟩
abbrev main_call2_c_5 : Ref sig .tc := ⟨.hbm, 245, rfl⟩
abbrev main_call2_v38 : Ref sig .tc := ⟨.hbm, 246, rfl⟩
abbrev main_call2_v39 : Ref sig .tc := ⟨.hbm, 247, rfl⟩
abbrev main_call2_c_6 : Ref sig .tc := ⟨.hbm, 248, rfl⟩
abbrev main_call2_v40 : Ref sig .tc := ⟨.hbm, 249, rfl⟩
abbrev main_call2_v41 : Ref sig .tc := ⟨.hbm, 250, rfl⟩
abbrev main_call2_v42 : Ref sig .tc := ⟨.hbm, 251, rfl⟩
abbrev main_call2_cst_7 : Ref sig .tc := ⟨.hbm, 252, rfl⟩
abbrev main_call2_cst_8 : Ref sig .tc := ⟨.hbm, 253, rfl⟩
abbrev main_call2_call1_v0 : Ref sig .tc := ⟨.hbm, 254, rfl⟩
abbrev main_call2_call1_v1 : Ref sig .tc := ⟨.hbm, 255, rfl⟩
abbrev main_call2_v43 : Ref sig .tc := ⟨.hbm, 256, rfl⟩
abbrev main_call2_cst_9 : Ref sig .tc := ⟨.hbm, 257, rfl⟩
abbrev main_call2_v44 : Ref sig .tc := ⟨.hbm, 258, rfl⟩
abbrev main_call2_v45 : Ref sig .tc := ⟨.hbm, 259, rfl⟩
abbrev main_call2_v46 : Ref sig .tc := ⟨.hbm, 260, rfl⟩
abbrev main_call2_v47 : Ref sig .tc := ⟨.hbm, 261, rfl⟩
abbrev main_call2_c_10 : Ref sig .tc := ⟨.hbm, 262, rfl⟩
abbrev main_call2_v48 : Ref sig .tc := ⟨.hbm, 263, rfl⟩
abbrev main_call2_v49 : Ref sig .tc := ⟨.hbm, 264, rfl⟩
abbrev main_call2_v50 : Ref sig .tc := ⟨.hbm, 265, rfl⟩
abbrev main_call2_cst_11 : Ref sig .tc := ⟨.hbm, 266, rfl⟩
abbrev main_call2_cst_12 : Ref sig .tc := ⟨.hbm, 267, rfl⟩
abbrev main_call2_call2_v0 : Ref sig .tc := ⟨.hbm, 268, rfl⟩
abbrev main_call2_call2_v1 : Ref sig .tc := ⟨.hbm, 269, rfl⟩
abbrev main_call2_v51 : Ref sig .tc := ⟨.hbm, 270, rfl⟩
abbrev main_call2_cst_13 : Ref sig .tc := ⟨.hbm, 271, rfl⟩
abbrev main_call2_v52 : Ref sig .tc := ⟨.hbm, 272, rfl⟩
abbrev main_call2_v53 : Ref sig .tc := ⟨.hbm, 273, rfl⟩
abbrev main_v123 : Ref sig .tc := ⟨.hbm, 274, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S500x19 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S500x500 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S500x500 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S50x500 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S500x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S50x2 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S10x10000x4 : Shape := ⟨3, ![10, 10000, 4]⟩
abbrev S10x2x160000 : Shape := ⟨3, ![10, 2, 160000]⟩
abbrev S10000 : Shape := ⟨1, ![10000]⟩
abbrev S10x50x3 : Shape := ⟨3, ![10, 50, 3]⟩
abbrev S10x4x8 : Shape := ⟨3, ![10, 4, 8]⟩
abbrev S10x8 : Shape := ⟨2, ![10, 8]⟩
abbrev S19x64 : Shape := ⟨2, ![19, 64]⟩
abbrev S4x16 : Shape := ⟨2, ![4, 16]⟩
abbrev S64 : Shape := ⟨1, ![64]⟩
abbrev S64x16 : Shape := ⟨2, ![64, 16]⟩
abbrev S1x16 : Shape := ⟨2, ![1, 16]⟩
abbrev S16 : Shape := ⟨1, ![16]⟩
abbrev S16x2 : Shape := ⟨2, ![16, 2]⟩
abbrev S2 : Shape := ⟨1, ![2]⟩
abbrev S10x10000 : Shape := ⟨2, ![10, 10000]⟩
abbrev S10x1x160000 : Shape := ⟨3, ![10, 1, 160000]⟩
abbrev S10x160000 : Shape := ⟨2, ![10, 160000]⟩
abbrev S10x170000 : Shape := ⟨2, ![10, 170000]⟩
abbrev S10 : Shape := ⟨1, ![10]⟩
abbrev S10x1 : Shape := ⟨2, ![10, 1]⟩
abbrev S_ : Shape := ⟨0, ![]⟩
abbrev S10x170000x1 : Shape := ⟨3, ![10, 170000, 1]⟩
abbrev S10x170000x2 : Shape := ⟨3, ![10, 170000, 2]⟩
abbrev S10x10000x8 : Shape := ⟨3, ![10, 10000, 8]⟩
abbrev S10x170000x8 : Shape := ⟨3, ![10, 170000, 8]⟩
abbrev S10x1x8 : Shape := ⟨3, ![10, 1, 8]⟩
abbrev S50 : Shape := ⟨1, ![50]⟩
abbrev S10000x1 : Shape := ⟨2, ![10000, 1]⟩
abbrev S10x50 : Shape := ⟨2, ![10, 50]⟩
abbrev S1x50 : Shape := ⟨2, ![1, 50]⟩
abbrev S10x10000x1 : Shape := ⟨3, ![10, 10000, 1]⟩
abbrev S10x50x8 : Shape := ⟨3, ![10, 50, 8]⟩
abbrev S1x50x1 : Shape := ⟨3, ![1, 50, 1]⟩
abbrev S10x50x200 : Shape := ⟨3, ![10, 50, 200]⟩
abbrev S10x50x100 : Shape := ⟨3, ![10, 50, 100]⟩
abbrev S10x50x200x8 : Shape := ⟨4, ![10, 50, 200, 8]⟩
abbrev S10x50x100x1 : Shape := ⟨4, ![10, 50, 100, 1]⟩
abbrev S1 : Shape := ⟨1, ![1]⟩
abbrev S1x1x1x1 : Shape := ⟨4, ![1, 1, 1, 1]⟩
abbrev S10x50x100x8 : Shape := ⟨4, ![10, 50, 100, 8]⟩
abbrev S10x5000x8 : Shape := ⟨3, ![10, 5000, 8]⟩
abbrev S50x100 : Shape := ⟨2, ![50, 100]⟩
abbrev S5000 : Shape := ⟨1, ![5000]⟩
abbrev S5000x1 : Shape := ⟨2, ![5000, 1]⟩
abbrev S10x50x19 : Shape := ⟨3, ![10, 50, 19]⟩
abbrev S50x10x19 : Shape := ⟨3, ![50, 10, 19]⟩
abbrev S500x19 : Shape := ⟨2, ![500, 19]⟩
abbrev S50x9 : Shape := ⟨2, ![50, 9]⟩
abbrev S450 : Shape := ⟨1, ![450]⟩
abbrev S50x1 : Shape := ⟨2, ![50, 1]⟩
abbrev S9 : Shape := ⟨1, ![9]⟩
abbrev S1x9 : Shape := ⟨2, ![1, 9]⟩
abbrev S1x450 : Shape := ⟨2, ![1, 450]⟩
abbrev S2x450 : Shape := ⟨2, ![2, 450]⟩
abbrev S50x10 : Shape := ⟨2, ![50, 10]⟩
abbrev S500 : Shape := ⟨1, ![500]⟩
abbrev S950 : Shape := ⟨1, ![950]⟩
abbrev S500x64 : Shape := ⟨2, ![500, 64]⟩
abbrev S500x4x16 : Shape := ⟨3, ![500, 4, 16]⟩
abbrev S1x4x16 : Shape := ⟨3, ![1, 4, 16]⟩
abbrev S500x4 : Shape := ⟨2, ![500, 4]⟩
abbrev S950x1 : Shape := ⟨2, ![950, 1]⟩
abbrev S950x4 : Shape := ⟨2, ![950, 4]⟩
abbrev S1x500 : Shape := ⟨2, ![1, 500]⟩
abbrev S950x500 : Shape := ⟨2, ![950, 500]⟩
abbrev S950x500x1 : Shape := ⟨3, ![950, 500, 1]⟩
abbrev S950x1x4 : Shape := ⟨3, ![950, 1, 4]⟩
abbrev S950x500x4 : Shape := ⟨3, ![950, 500, 4]⟩
abbrev S950x4x16 : Shape := ⟨3, ![950, 4, 16]⟩
abbrev S950x4x1 : Shape := ⟨3, ![950, 4, 1]⟩
abbrev S1x64 : Shape := ⟨2, ![1, 64]⟩
abbrev S500x1 : Shape := ⟨2, ![500, 1]⟩
abbrev S500x16 : Shape := ⟨2, ![500, 16]⟩
abbrev S500x1x16 : Shape := ⟨3, ![500, 1, 16]⟩
abbrev S1x1x16 : Shape := ⟨3, ![1, 1, 16]⟩
abbrev S950x1x1 : Shape := ⟨3, ![950, 1, 1]⟩
abbrev S950x1x16 : Shape := ⟨3, ![950, 1, 16]⟩
abbrev S50x16 : Shape := ⟨2, ![50, 16]⟩
abbrev S50x2 : Shape := ⟨2, ![50, 2]⟩
abbrev S1x2 : Shape := ⟨2, ![1, 2]⟩

abbrev nBuf : Space → Nat
  | .hbm => 835
  | .vmem => 0
  | .smem => 0
  | _ => 0

abbrev hbmTy0_0 (i : Nat) : BufTy := match i % 128 with
  | 0 => ⟨S10x10000x4, .f32⟩
  | 1 => ⟨S10x2x160000, .i32⟩
  | 2 => ⟨S10000, .i32⟩
  | 3 => ⟨S10x50x3, .f32⟩
  | 4 => ⟨S10x4x8, .f32⟩
  | 5 => ⟨S10x8, .f32⟩
  | 6 => ⟨S10x8, .f32⟩
  | 7 => ⟨S10x8, .f32⟩
  | 8 => ⟨S10x8, .f32⟩
  | 9 => ⟨S19x64, .f32⟩
  | 10 => ⟨S4x16, .f32⟩
  | 11 => ⟨S4x16, .f32⟩
  | 12 => ⟨S64, .f32⟩
  | 13 => ⟨S64, .f32⟩
  | 14 => ⟨S64, .f32⟩
  | 15 => ⟨S64x16, .f32⟩
  | 16 => ⟨S1x16, .f32⟩
  | 17 => ⟨S1x16, .f32⟩
  | 18 => ⟨S16, .f32⟩
  | 19 => ⟨S16, .f32⟩
  | 20 => ⟨S16, .f32⟩
  | 21 => ⟨S16x2, .f32⟩
  | 22 => ⟨S2, .f32⟩
  | 23 => ⟨S10000, .i32⟩
  | 24 => ⟨S10x10000, .i32⟩
  | 25 => ⟨S10x1x160000, .i32⟩
  | 26 => ⟨S10x160000, .i32⟩
  | 27 => ⟨S10x170000, .i32⟩
  | 28 => ⟨S10x1x160000, .i32⟩
  | 29 => ⟨S10x160000, .i32⟩
  | 30 => ⟨S10x170000, .i32⟩
  | 31 => ⟨S10, .i32⟩
  | 32 => ⟨S10x1, .i32⟩
  | 33 => ⟨S_, .f32⟩
  | 34 => ⟨S10x10000, .f32⟩
  | 35 => ⟨S_, .i32⟩
  | 36 => ⟨S10x1, .i32⟩
  | 37 => ⟨S10x1, .i1⟩
  | 38 => ⟨S_, .i32⟩
  | 39 => ⟨S10x1, .i32⟩
  | 40 => ⟨S10x1, .i32⟩
  | 41 => ⟨S10x1, .i32⟩
  | 42 => ⟨S_, .i32⟩
  | 43 => ⟨S10x170000, .i32⟩
  | 44 => ⟨S10x170000, .i1⟩
  | 45 => ⟨S_, .i32⟩
  | 46 => ⟨S10x170000, .i32⟩
  | 47 => ⟨S10x170000, .i32⟩
  | 48 => ⟨S10x170000, .i32⟩
  | 49 => ⟨S10x170000, .i32⟩
  | 50 => ⟨S10x170000x1, .i32⟩
  | 51 => ⟨S10x170000x1, .i32⟩
  | 52 => ⟨S10x170000x2, .i32⟩
  | 53 => ⟨S_, .f32⟩
  | 54 => ⟨S10x170000, .f32⟩
  | 55 => ⟨S10x10000, .f32⟩
  | 56 => ⟨S_, .f32⟩
  | 57 => ⟨S_, .f32⟩
  | 58 => ⟨S10x10000, .f32⟩
  | 59 => ⟨S10x10000, .f32⟩
  | 60 => ⟨S10x10000, .f32⟩
  | 61 => ⟨S_, .i32⟩
  | 62 => ⟨S10x1, .i32⟩
  | 63 => ⟨S10x1, .i1⟩
  | 64 => ⟨S_, .i32⟩
  | 65 => ⟨S10x1, .i32⟩
  | 66 => ⟨S10x1, .i32⟩
  | 67 => ⟨S10x1, .i32⟩
  | 68 => ⟨S_, .i32⟩
  | 69 => ⟨S10x170000, .i32⟩
  | 70 => ⟨S10x170000, .i1⟩
  | 71 => ⟨S_, .i32⟩
  | 72 => ⟨S10x170000, .i32⟩
  | 73 => ⟨S10x170000, .i32⟩
  | 74 => ⟨S10x170000, .i32⟩
  | 75 => ⟨S10x170000, .i32⟩
  | 76 => ⟨S10x170000x1, .i32⟩
  | 77 => ⟨S10x170000x1, .i32⟩
  | 78 => ⟨S10x170000x2, .i32⟩
  | 79 => ⟨S10x170000, .f32⟩
  | 80 => ⟨S_, .i32⟩
  | 81 => ⟨S10x1, .i32⟩
  | 82 => ⟨S10x1, .i1⟩
  | 83 => ⟨S_, .i32⟩
  | 84 => ⟨S10x1, .i32⟩
  | 85 => ⟨S10x1, .i32⟩
  | 86 => ⟨S10x1, .i32⟩
  | 87 => ⟨S_, .i32⟩
  | 88 => ⟨S10x170000, .i32⟩
  | 89 => ⟨S10x170000, .i1⟩
  | 90 => ⟨S_, .i32⟩
  | 91 => ⟨S10x170000, .i32⟩
  | 92 => ⟨S10x170000, .i32⟩
  | 93 => ⟨S10x170000, .i32⟩
  | 94 => ⟨S10x170000, .i32⟩
  | 95 => ⟨S10x170000x1, .i32⟩
  | 96 => ⟨S10x170000x1, .i32⟩
  | 97 => ⟨S10x170000x2, .i32⟩
  | 98 => ⟨S10x170000, .f32⟩
  | 99 => ⟨S10x170000, .f32⟩
  | 100 => ⟨S10x10000x8, .f32⟩
  | 101 => ⟨S_, .f32⟩
  | 102 => ⟨S10x10000x8, .f32⟩
  | 103 => ⟨S_, .i32⟩
  | 104 => ⟨S10x1, .i32⟩
  | 105 => ⟨S10x1, .i1⟩
  | 106 => ⟨S_, .i32⟩
  | 107 => ⟨S10x1, .i32⟩
  | 108 => ⟨S10x1, .i32⟩
  | 109 => ⟨S10x1, .i32⟩
  | 110 => ⟨S_, .i32⟩
  | 111 => ⟨S10x170000, .i32⟩
  | 112 => ⟨S10x170000, .i1⟩
  | 113 => ⟨S_, .i32⟩
  | 114 => ⟨S10x170000, .i32⟩
  | 115 => ⟨S10x170000, .i32⟩
  | 116 => ⟨S10x170000, .i32⟩
  | 117 => ⟨S10x170000, .i32⟩
  | 118 => ⟨S10x170000x1, .i32⟩
  | 119 => ⟨S10x170000x1, .i32⟩
  | 120 => ⟨S10x170000x2, .i32⟩
  | 121 => ⟨S10x170000x8, .f32⟩
  | 122 => ⟨S10x170000x1, .f32⟩
  | 123 => ⟨S10x170000x8, .f32⟩
  | 124 => ⟨S10x170000x8, .f32⟩
  | 125 => ⟨S_, .i32⟩
  | 126 => ⟨S10x1, .i32⟩
  | 127 => ⟨S10x1, .i1⟩
  | _ => ⟨S10x10000x4, .f32⟩

abbrev hbmTy0_1 (i : Nat) : BufTy := match i % 128 with
  | 0 => ⟨S_, .i32⟩
  | 1 => ⟨S10x1, .i32⟩
  | 2 => ⟨S10x1, .i32⟩
  | 3 => ⟨S10x1, .i32⟩
  | 4 => ⟨S_, .i32⟩
  | 5 => ⟨S10x170000, .i32⟩
  | 6 => ⟨S10x170000, .i1⟩
  | 7 => ⟨S_, .i32⟩
  | 8 => ⟨S10x170000, .i32⟩
  | 9 => ⟨S10x170000, .i32⟩
  | 10 => ⟨S10x170000, .i32⟩
  | 11 => ⟨S10x170000, .i32⟩
  | 12 => ⟨S10x170000x1, .i32⟩
  | 13 => ⟨S10x170000x1, .i32⟩
  | 14 => ⟨S10x170000x2, .i32⟩
  | 15 => ⟨S10x10000x8, .f32⟩
  | 16 => ⟨S10x1x8, .f32⟩
  | 17 => ⟨S10x10000x8, .f32⟩
  | 18 => ⟨S10x10000x8, .f32⟩
  | 19 => ⟨S_, .f32⟩
  | 20 => ⟨S10x10000x8, .f32⟩
  | 21 => ⟨S10x10000x8, .f32⟩
  | 22 => ⟨S_, .f32⟩
  | 23 => ⟨S10000, .f32⟩
  | 24 => ⟨S_, .f32⟩
  | 25 => ⟨S50, .f32⟩
  | 26 => ⟨S_, .i32⟩
  | 27 => ⟨S10000, .i32⟩
  | 28 => ⟨S10000, .i1⟩
  | 29 => ⟨S_, .i32⟩
  | 30 => ⟨S10000, .i32⟩
  | 31 => ⟨S10000, .i32⟩
  | 32 => ⟨S10000, .i32⟩
  | 33 => ⟨S10000x1, .i32⟩
  | 34 => ⟨S50, .f32⟩
  | 35 => ⟨S_, .f32⟩
  | 36 => ⟨S50, .f32⟩
  | 37 => ⟨S50, .f32⟩
  | 38 => ⟨S_, .f32⟩
  | 39 => ⟨S10x10000, .f32⟩
  | 40 => ⟨S_, .f32⟩
  | 41 => ⟨S10x50, .f32⟩
  | 42 => ⟨S_, .i32⟩
  | 43 => ⟨S10000, .i32⟩
  | 44 => ⟨S10000, .i1⟩
  | 45 => ⟨S_, .i32⟩
  | 46 => ⟨S10000, .i32⟩
  | 47 => ⟨S10000, .i32⟩
  | 48 => ⟨S10000, .i32⟩
  | 49 => ⟨S10000x1, .i32⟩
  | 50 => ⟨S10x50, .f32⟩
  | 51 => ⟨S1x50, .f32⟩
  | 52 => ⟨S10x50, .f32⟩
  | 53 => ⟨S10x50, .f32⟩
  | 54 => ⟨S_, .i32⟩
  | 55 => ⟨S10000, .i32⟩
  | 56 => ⟨S10000, .i1⟩
  | 57 => ⟨S_, .i32⟩
  | 58 => ⟨S10000, .i32⟩
  | 59 => ⟨S10000, .i32⟩
  | 60 => ⟨S10000, .i32⟩
  | 61 => ⟨S10000x1, .i32⟩
  | 62 => ⟨S10x10000, .f32⟩
  | 63 => ⟨S10x10000x1, .f32⟩
  | 64 => ⟨S10x10000x8, .f32⟩
  | 65 => ⟨S10x10000x8, .f32⟩
  | 66 => ⟨S10x10000x8, .f32⟩
  | 67 => ⟨S_, .f32⟩
  | 68 => ⟨S10x10000, .f32⟩
  | 69 => ⟨S_, .f32⟩
  | 70 => ⟨S10x50, .f32⟩
  | 71 => ⟨S_, .i32⟩
  | 72 => ⟨S10000, .i32⟩
  | 73 => ⟨S10000, .i1⟩
  | 74 => ⟨S_, .i32⟩
  | 75 => ⟨S10000, .i32⟩
  | 76 => ⟨S10000, .i32⟩
  | 77 => ⟨S10000, .i32⟩
  | 78 => ⟨S10000x1, .i32⟩
  | 79 => ⟨S10x50, .f32⟩
  | 80 => ⟨S1x50, .f32⟩
  | 81 => ⟨S10x50, .f32⟩
  | 82 => ⟨S10x50, .f32⟩
  | 83 => ⟨S_, .f32⟩
  | 84 => ⟨S10x50, .f32⟩
  | 85 => ⟨S10x50, .f32⟩
  | 86 => ⟨S10x50, .f32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S10x10000, .f32⟩
  | 96 => ⟨S10x10000x1, .f32⟩
  | 97 => ⟨S10x10000x8, .f32⟩
  | 98 => ⟨S10x10000x8, .f32⟩
  | 99 => ⟨S10x1x8, .f32⟩
  | 100 => ⟨S10x10000x8, .f32⟩
  | 101 => ⟨S10x10000x8, .f32⟩
  | 102 => ⟨S10x1x8, .f32⟩
  | 103 => ⟨S10x10000x8, .f32⟩
  | 104 => ⟨S10x10000x8, .f32⟩
  | 105 => ⟨S_, .f32⟩
  | 106 => ⟨S10000, .f32⟩
  | 107 => ⟨S_, .f32⟩
  | 108 => ⟨S50, .f32⟩
  | 109 => ⟨S_, .i32⟩
  | 110 => ⟨S10000, .i32⟩
  | 111 => ⟨S10000, .i1⟩
  | 112 => ⟨S_, .i32⟩
  | 113 => ⟨S10000, .i32⟩
  | 114 => ⟨S10000, .i32⟩
  | 115 => ⟨S10000, .i32⟩
  | 116 => ⟨S10000x1, .i32⟩
  | 117 => ⟨S50, .f32⟩
  | 118 => ⟨S_, .f32⟩
  | 119 => ⟨S10x50x8, .f32⟩
  | 120 => ⟨S_, .i32⟩
  | 121 => ⟨S10000, .i32⟩
  | 122 => ⟨S10000, .i1⟩
  | 123 => ⟨S_, .i32⟩
  | 124 => ⟨S10000, .i32⟩
  | 125 => ⟨S10000, .i32⟩
  | 126 => ⟨S10000, .i32⟩
  | 127 => ⟨S10000x1, .i32⟩
  | _ => ⟨S10x10000x4, .f32⟩

abbrev hbmTy0_2 (i : Nat) : BufTy := match i % 128 with
  | 0 => ⟨S10x50x8, .f32⟩
  | 1 => ⟨S_, .f32⟩
  | 2 => ⟨S_, .f32⟩
  | 3 => ⟨S50, .f32⟩
  | 4 => ⟨S50, .f32⟩
  | 5 => ⟨S1x50x1, .f32⟩
  | 6 => ⟨S10x50x8, .f32⟩
  | 7 => ⟨S10x50x8, .f32⟩
  | 8 => ⟨S10x8, .f32⟩
  | 9 => ⟨S_, .f32⟩
  | 10 => ⟨S10, .f32⟩
  | 11 => ⟨S10, .f32⟩
  | 12 => ⟨S10x10000, .f32⟩
  | 13 => ⟨S_, .f32⟩
  | 14 => ⟨S10, .f32⟩
  | 15 => ⟨S10, .f32⟩
  | 16 => ⟨S10x1, .f32⟩
  | 17 => ⟨S10x10000, .f32⟩
  | 18 => ⟨S10x10000, .f32⟩
  | 19 => ⟨S10x50x200, .f32⟩
  | 20 => ⟨S10x50x100, .f32⟩
  | 21 => ⟨S10x50x100, .i32⟩
  | 22 => ⟨S10x50x200x8, .f32⟩
  | 23 => ⟨S10x50x100x1, .i32⟩
  | 24 => ⟨S_, .i32⟩
  | 25 => ⟨S10x50x100x1, .i32⟩
  | 26 => ⟨S10x50x100x1, .i1⟩
  | 27 => ⟨S_, .i32⟩
  | 28 => ⟨S10x50x100x1, .i32⟩
  | 29 => ⟨S10x50x100x1, .i32⟩
  | 30 => ⟨S10x50x100x1, .i32⟩
  | 31 => ⟨S1, .i32⟩
  | 32 => ⟨S_, .i32⟩
  | 33 => ⟨S10x50x100x1, .i32⟩
  | 34 => ⟨S10x50x100x1, .i1⟩
  | 35 => ⟨S1x1x1x1, .i32⟩
  | 36 => ⟨S10x50x100x1, .i32⟩
  | 37 => ⟨S10x50x100x1, .i1⟩
  | 38 => ⟨S10x50x100x1, .i1⟩
  | 39 => ⟨S_, .i1⟩
  | 40 => ⟨S10x50x100, .i1⟩
  | 41 => ⟨S10x50x100x8, .f32⟩
  | 42 => ⟨S10x50x100x8, .i1⟩
  | 43 => ⟨S_, .f32⟩
  | 44 => ⟨S10x50x100x8, .f32⟩
  | 45 => ⟨S10x50x100x8, .f32⟩
  | 46 => ⟨S10x50x100, .f32⟩
  | 47 => ⟨S10x50x100x1, .f32⟩
  | 48 => ⟨S10x50x100x8, .f32⟩
  | 49 => ⟨S10x50x100x8, .f32⟩
  | 50 => ⟨S10x5000x8, .f32⟩
  | 51 => ⟨S50, .i32⟩
  | 52 => ⟨S50x100, .i32⟩
  | 53 => ⟨S5000, .i32⟩
  | 54 => ⟨S_, .f32⟩
  | 55 => ⟨S5000, .f32⟩
  | 56 => ⟨S_, .f32⟩
  | 57 => ⟨S50, .f32⟩
  | 58 => ⟨S_, .i32⟩
  | 59 => ⟨S5000, .i32⟩
  | 60 => ⟨S5000, .i1⟩
  | 61 => ⟨S_, .i32⟩
  | 62 => ⟨S5000, .i32⟩
  | 63 => ⟨S5000, .i32⟩
  | 64 => ⟨S5000, .i32⟩
  | 65 => ⟨S5000x1, .i32⟩
  | 66 => ⟨S50, .f32⟩
  | 67 => ⟨S_, .f32⟩
  | 68 => ⟨S10x50x8, .f32⟩
  | 69 => ⟨S_, .i32⟩
  | 70 => ⟨S5000, .i32⟩
  | 71 => ⟨S5000, .i1⟩
  | 72 => ⟨S_, .i32⟩
  | 73 => ⟨S5000, .i32⟩
  | 74 => ⟨S5000, .i32⟩
  | 75 => ⟨S5000, .i32⟩
  | 76 => ⟨S5000x1, .i32⟩
  | 77 => ⟨S10x50x8, .f32⟩
  | 78 => ⟨S_, .f32⟩
  | 79 => ⟨S_, .f32⟩
  | 80 => ⟨S50, .f32⟩
  | 81 => ⟨S50, .f32⟩
  | 82 => ⟨S1x50x1, .f32⟩
  | 83 => ⟨S10x50x8, .f32⟩
  | 84 => ⟨S10x50x8, .f32⟩
  | 85 => ⟨S10x50x19, .f32⟩
  | 86 => ⟨S50x10x19, .f32⟩
  | 87 => ⟨S500x19, .f32⟩
  | 88 => ⟨S50, .i32⟩
  | 89 => ⟨S_, .i32⟩
  | 90 => ⟨S50, .i32⟩
  | 91 => ⟨S50, .i32⟩
  | 92 => ⟨S50x9, .i32⟩
  | 93 => ⟨S450, .i32⟩
  | 94 => ⟨S50x1, .i32⟩
  | 95 => ⟨S9, .i32⟩
  | 96 => ⟨S_, .i32⟩
  | 97 => ⟨S9, .i32⟩
  | 98 => ⟨S9, .i32⟩
  | 99 => ⟨S1x9, .i32⟩
  | 100 => ⟨S50x9, .i32⟩
  | 101 => ⟨S50x9, .i32⟩
  | 102 => ⟨S50x9, .i32⟩
  | 103 => ⟨S450, .i32⟩
  | 104 => ⟨S1x450, .i32⟩
  | 105 => ⟨S1x450, .i32⟩
  | 106 => ⟨S2x450, .i32⟩
  | 107 => ⟨S50, .i32⟩
  | 108 => ⟨S50x10, .i32⟩
  | 109 => ⟨S500, .i32⟩
  | 110 => ⟨S500, .i32⟩
  | 111 => ⟨S1x450, .i32⟩
  | 112 => ⟨S450, .i32⟩
  | 113 => ⟨S950, .i32⟩
  | 114 => ⟨S1x450, .i32⟩
  | 115 => ⟨S450, .i32⟩
  | 116 => ⟨S950, .i32⟩
  | 117 => ⟨S500x64, .f32⟩
  | 118 => ⟨S500x4x16, .f32⟩
  | 119 => ⟨S1x4x16, .f32⟩
  | 120 => ⟨S500x4x16, .f32⟩
  | 121 => ⟨S500x4x16, .f32⟩
  | 122 => ⟨S_, .f32⟩
  | 123 => ⟨S500x4, .f32⟩
  | 124 => ⟨S_, .i32⟩
  | 125 => ⟨S950, .i32⟩
  | 126 => ⟨S950, .i1⟩
  | 127 => ⟨S_, .i32⟩
  | _ => ⟨S10x10000x4, .f32⟩

abbrev hbmTy0_3 (i : Nat) : BufTy := match i % 128 with
  | 0 => ⟨S950, .i32⟩
  | 1 => ⟨S950, .i32⟩
  | 2 => ⟨S950, .i32⟩
  | 3 => ⟨S950x1, .i32⟩
  | 4 => ⟨S950x4, .f32⟩
  | 5 => ⟨S1x4x16, .f32⟩
  | 6 => ⟨S500x4x16, .f32⟩
  | 7 => ⟨S500x4x16, .f32⟩
  | 8 => ⟨S_, .f32⟩
  | 9 => ⟨S500x4, .f32⟩
  | 10 => ⟨S_, .i32⟩
  | 11 => ⟨S950, .i32⟩
  | 12 => ⟨S950, .i1⟩
  | 13 => ⟨S_, .i32⟩
  | 14 => ⟨S950, .i32⟩
  | 15 => ⟨S950, .i32⟩
  | 16 => ⟨S950, .i32⟩
  | 17 => ⟨S950x1, .i32⟩
  | 18 => ⟨S950x4, .f32⟩
  | 19 => ⟨S950x4, .f32⟩
  | 20 => ⟨S_, .f32⟩
  | 21 => ⟨S_, .f32⟩
  | 22 => ⟨S950x4, .f32⟩
  | 23 => ⟨S950x4, .i1⟩
  | 24 => ⟨S_, .f32⟩
  | 25 => ⟨S950x4, .f32⟩
  | 26 => ⟨S950x4, .f32⟩
  | 27 => ⟨S950x4, .f32⟩
  | 28 => ⟨S950x1, .i32⟩
  | 29 => ⟨S500, .i32⟩
  | 30 => ⟨S1x500, .i32⟩
  | 31 => ⟨S950x500, .i32⟩
  | 32 => ⟨S950x500, .i32⟩
  | 33 => ⟨S950x500, .i1⟩
  | 34 => ⟨S950x500x1, .i1⟩
  | 35 => ⟨S950x1x4, .f32⟩
  | 36 => ⟨S_, .f32⟩
  | 37 => ⟨S_, .f32⟩
  | 38 => ⟨S950x500x4, .i1⟩
  | 39 => ⟨S950x500x4, .f32⟩
  | 40 => ⟨S950x500x4, .f32⟩
  | 41 => ⟨S950x500x4, .f32⟩
  | 42 => ⟨S_, .f32⟩
  | 43 => ⟨S500x4, .f32⟩
  | 44 => ⟨S_, .i32⟩
  | 45 => ⟨S950, .i32⟩
  | 46 => ⟨S950, .i1⟩
  | 47 => ⟨S_, .i32⟩
  | 48 => ⟨S950, .i32⟩
  | 49 => ⟨S950, .i32⟩
  | 50 => ⟨S950, .i32⟩
  | 51 => ⟨S950x1, .i32⟩
  | 52 => ⟨S950x4, .f32⟩
  | 53 => ⟨S950x4, .f32⟩
  | 54 => ⟨S950x4, .f32⟩
  | 55 => ⟨S_, .f32⟩
  | 56 => ⟨S500x4, .f32⟩
  | 57 => ⟨S_, .i32⟩
  | 58 => ⟨S950, .i32⟩
  | 59 => ⟨S950, .i1⟩
  | 60 => ⟨S_, .i32⟩
  | 61 => ⟨S950, .i32⟩
  | 62 => ⟨S950, .i32⟩
  | 63 => ⟨S950, .i32⟩
  | 64 => ⟨S950x1, .i32⟩
  | 65 => ⟨S500x4, .f32⟩
  | 66 => ⟨S_, .i32⟩
  | 67 => ⟨S950, .i32⟩
  | 68 => ⟨S950, .i1⟩
  | 69 => ⟨S_, .i32⟩
  | 70 => ⟨S950, .i32⟩
  | 71 => ⟨S950, .i32⟩
  | 72 => ⟨S950, .i32⟩
  | 73 => ⟨S950x1, .i32⟩
  | 74 => ⟨S950x4, .f32⟩
  | 75 => ⟨S_, .f32⟩
  | 76 => ⟨S950x4, .f32⟩
  | 77 => ⟨S950x4, .f32⟩
  | 78 => ⟨S950x4, .f32⟩
  | 79 => ⟨S_, .i32⟩
  | 80 => ⟨S950, .i32⟩
  | 81 => ⟨S950, .i1⟩
  | 82 => ⟨S_, .i32⟩
  | 83 => ⟨S950, .i32⟩
  | 84 => ⟨S950, .i32⟩
  | 85 => ⟨S950, .i32⟩
  | 86 => ⟨S950x1, .i32⟩
  | 87 => ⟨S950x4x16, .f32⟩
  | 88 => ⟨S950x4x1, .f32⟩
  | 89 => ⟨S950x4x16, .f32⟩
  | 90 => ⟨S950x4x16, .f32⟩
  | 91 => ⟨S_, .f32⟩
  | 92 => ⟨S500x4x16, .f32⟩
  | 93 => ⟨S_, .i32⟩
  | 94 => ⟨S950, .i32⟩
  | 95 => ⟨S950, .i1⟩
  | 96 => ⟨S_, .i32⟩
  | 97 => ⟨S950, .i32⟩
  | 98 => ⟨S950, .i32⟩
  | 99 => ⟨S950, .i32⟩
  | 100 => ⟨S950x1, .i32⟩
  | 101 => ⟨S500x4x16, .f32⟩
  | 102 => ⟨S500x64, .f32⟩
  | 103 => ⟨S1x64, .f32⟩
  | 104 => ⟨S500x64, .f32⟩
  | 105 => ⟨S500x64, .f32⟩
  | 106 => ⟨S_, .f32⟩
  | 107 => ⟨S500x64, .f32⟩
  | 108 => ⟨S500x64, .i1⟩
  | 109 => ⟨S_, .f32⟩
  | 110 => ⟨S500x64, .f32⟩
  | 111 => ⟨S500x64, .i1⟩
  | 112 => ⟨S_, .f32⟩
  | 113 => ⟨S_, .f32⟩
  | 114 => ⟨S500x64, .f32⟩
  | 115 => ⟨S500x64, .f32⟩
  | 116 => ⟨S500x64, .f32⟩
  | 117 => ⟨S_, .f32⟩
  | 118 => ⟨S500x64, .f32⟩
  | 119 => ⟨S500x64, .f32⟩
  | 120 => ⟨S500x64, .f32⟩
  | 121 => ⟨S_, .f32⟩
  | 122 => ⟨S500, .f32⟩
  | 123 => ⟨S_, .f32⟩
  | 124 => ⟨S50, .f32⟩
  | 125 => ⟨S_, .i32⟩
  | 126 => ⟨S500, .i32⟩
  | 127 => ⟨S500, .i1⟩
  | _ => ⟨S10x10000x4, .f32⟩

abbrev hbmTy0_4 (i : Nat) : BufTy := match i % 128 with
  | 0 => ⟨S_, .i32⟩
  | 1 => ⟨S500, .i32⟩
  | 2 => ⟨S500, .i32⟩
  | 3 => ⟨S500, .i32⟩
  | 4 => ⟨S500x1, .i32⟩
  | 5 => ⟨S50, .f32⟩
  | 6 => ⟨S_, .f32⟩
  | 7 => ⟨S50, .f32⟩
  | 8 => ⟨S50, .f32⟩
  | 9 => ⟨S_, .f32⟩
  | 10 => ⟨S500, .f32⟩
  | 11 => ⟨S_, .f32⟩
  | 12 => ⟨S50, .f32⟩
  | 13 => ⟨S_, .i32⟩
  | 14 => ⟨S500, .i32⟩
  | 15 => ⟨S500, .i1⟩
  | 16 => ⟨S_, .i32⟩
  | 17 => ⟨S500, .i32⟩
  | 18 => ⟨S500, .i32⟩
  | 19 => ⟨S500, .i32⟩
  | 20 => ⟨S500x1, .i32⟩
  | 21 => ⟨S50, .f32⟩
  | 22 => ⟨S50, .f32⟩
  | 23 => ⟨S_, .i32⟩
  | 24 => ⟨S500, .i32⟩
  | 25 => ⟨S500, .i1⟩
  | 26 => ⟨S_, .i32⟩
  | 27 => ⟨S500, .i32⟩
  | 28 => ⟨S500, .i32⟩
  | 29 => ⟨S500, .i32⟩
  | 30 => ⟨S500x1, .i32⟩
  | 31 => ⟨S500, .f32⟩
  | 32 => ⟨S500x1, .f32⟩
  | 33 => ⟨S500x64, .f32⟩
  | 34 => ⟨S500x64, .f32⟩
  | 35 => ⟨S500x64, .f32⟩
  | 36 => ⟨S_, .f32⟩
  | 37 => ⟨S500, .f32⟩
  | 38 => ⟨S_, .f32⟩
  | 39 => ⟨S50, .f32⟩
  | 40 => ⟨S_, .i32⟩
  | 41 => ⟨S500, .i32⟩
  | 42 => ⟨S500, .i1⟩
  | 43 => ⟨S_, .i32⟩
  | 44 => ⟨S500, .i32⟩
  | 45 => ⟨S500, .i32⟩
  | 46 => ⟨S500, .i32⟩
  | 47 => ⟨S500x1, .i32⟩
  | 48 => ⟨S50, .f32⟩
  | 49 => ⟨S50, .f32⟩
  | 50 => ⟨S_, .f32⟩
  | 51 => ⟨S50, .f32⟩
  | 52 => ⟨S50, .f32⟩
  | 53 => ⟨S50, .f32⟩
  | 54 => ⟨S_, .i32⟩
  | 55 => ⟨S500, .i32⟩
  | 56 => ⟨S500, .i1⟩
  | 57 => ⟨S_, .i32⟩
  | 58 => ⟨S500, .i32⟩
  | 59 => ⟨S500, .i32⟩
  | 60 => ⟨S500, .i32⟩
  | 61 => ⟨S500x1, .i32⟩
  | 62 => ⟨S500, .f32⟩
  | 63 => ⟨S500x1, .f32⟩
  | 64 => ⟨S500x64, .f32⟩
  | 65 => ⟨S500x64, .f32⟩
  | 66 => ⟨S1x64, .f32⟩
  | 67 => ⟨S500x64, .f32⟩
  | 68 => ⟨S500x64, .f32⟩
  | 69 => ⟨S1x64, .f32⟩
  | 70 => ⟨S500x64, .f32⟩
  | 71 => ⟨S500x64, .f32⟩
  | 72 => ⟨S500, .i32⟩
  | 73 => ⟨S1x450, .i32⟩
  | 74 => ⟨S450, .i32⟩
  | 75 => ⟨S950, .i32⟩
  | 76 => ⟨S1x450, .i32⟩
  | 77 => ⟨S450, .i32⟩
  | 78 => ⟨S950, .i32⟩
  | 79 => ⟨S500x16, .f32⟩
  | 80 => ⟨S500x1x16, .f32⟩
  | 81 => ⟨S1x1x16, .f32⟩
  | 82 => ⟨S500x1x16, .f32⟩
  | 83 => ⟨S500x1x16, .f32⟩
  | 84 => ⟨S_, .f32⟩
  | 85 => ⟨S500x1, .f32⟩
  | 86 => ⟨S_, .i32⟩
  | 87 => ⟨S950, .i32⟩
  | 88 => ⟨S950, .i1⟩
  | 89 => ⟨S_, .i32⟩
  | 90 => ⟨S950, .i32⟩
  | 91 => ⟨S950, .i32⟩
  | 92 => ⟨S950, .i32⟩
  | 93 => ⟨S950x1, .i32⟩
  | 94 => ⟨S950x1, .f32⟩
  | 95 => ⟨S1x1x16, .f32⟩
  | 96 => ⟨S500x1x16, .f32⟩
  | 97 => ⟨S500x1x16, .f32⟩
  | 98 => ⟨S_, .f32⟩
  | 99 => ⟨S500x1, .f32⟩
  | 100 => ⟨S_, .i32⟩
  | 101 => ⟨S950, .i32⟩
  | 102 => ⟨S950, .i1⟩
  | 103 => ⟨S_, .i32⟩
  | 104 => ⟨S950, .i32⟩
  | 105 => ⟨S950, .i32⟩
  | 106 => ⟨S950, .i32⟩
  | 107 => ⟨S950x1, .i32⟩
  | 108 => ⟨S950x1, .f32⟩
  | 109 => ⟨S950x1, .f32⟩
  | 110 => ⟨S_, .f32⟩
  | 111 => ⟨S_, .f32⟩
  | 112 => ⟨S950x1, .f32⟩
  | 113 => ⟨S950x1, .i1⟩
  | 114 => ⟨S_, .f32⟩
  | 115 => ⟨S950x1, .f32⟩
  | 116 => ⟨S950x1, .f32⟩
  | 117 => ⟨S950x1, .f32⟩
  | 118 => ⟨S950x1, .i32⟩
  | 119 => ⟨S500, .i32⟩
  | 120 => ⟨S1x500, .i32⟩
  | 121 => ⟨S950x500, .i32⟩
  | 122 => ⟨S950x500, .i32⟩
  | 123 => ⟨S950x500, .i1⟩
  | 124 => ⟨S950x500x1, .i1⟩
  | 125 => ⟨S950x1x1, .f32⟩
  | 126 => ⟨S_, .f32⟩
  | 127 => ⟨S_, .f32⟩
  | _ => ⟨S10x10000x4, .f32⟩

abbrev hbmTy0_5 (i : Nat) : BufTy := match i % 128 with
  | 0 => ⟨S950x500x1, .f32⟩
  | 1 => ⟨S950x500x1, .f32⟩
  | 2 => ⟨S950x500x1, .f32⟩
  | 3 => ⟨S_, .f32⟩
  | 4 => ⟨S500x1, .f32⟩
  | 5 => ⟨S_, .i32⟩
  | 6 => ⟨S950, .i32⟩
  | 7 => ⟨S950, .i1⟩
  | 8 => ⟨S_, .i32⟩
  | 9 => ⟨S950, .i32⟩
  | 10 => ⟨S950, .i32⟩
  | 11 => ⟨S950, .i32⟩
  | 12 => ⟨S950x1, .i32⟩
  | 13 => ⟨S950x1, .f32⟩
  | 14 => ⟨S950x1, .f32⟩
  | 15 => ⟨S950x1, .f32⟩
  | 16 => ⟨S_, .f32⟩
  | 17 => ⟨S500x1, .f32⟩
  | 18 => ⟨S_, .i32⟩
  | 19 => ⟨S950, .i32⟩
  | 20 => ⟨S950, .i1⟩
  | 21 => ⟨S_, .i32⟩
  | 22 => ⟨S950, .i32⟩
  | 23 => ⟨S950, .i32⟩
  | 24 => ⟨S950, .i32⟩
  | 25 => ⟨S950x1, .i32⟩
  | 26 => ⟨S500x1, .f32⟩
  | 27 => ⟨S_, .i32⟩
  | 28 => ⟨S950, .i32⟩
  | 29 => ⟨S950, .i1⟩
  | 30 => ⟨S_, .i32⟩
  | 31 => ⟨S950, .i32⟩
  | 32 => ⟨S950, .i32⟩
  | 33 => ⟨S950, .i32⟩
  | 34 => ⟨S950x1, .i32⟩
  | 35 => ⟨S950x1, .f32⟩
  | 36 => ⟨S_, .f32⟩
  | 37 => ⟨S950x1, .f32⟩
  | 38 => ⟨S950x1, .f32⟩
  | 39 => ⟨S950x1, .f32⟩
  | 40 => ⟨S_, .i32⟩
  | 41 => ⟨S950, .i32⟩
  | 42 => ⟨S950, .i1⟩
  | 43 => ⟨S_, .i32⟩
  | 44 => ⟨S950, .i32⟩
  | 45 => ⟨S950, .i32⟩
  | 46 => ⟨S950, .i32⟩
  | 47 => ⟨S950x1, .i32⟩
  | 48 => ⟨S950x1x16, .f32⟩
  | 49 => ⟨S950x1x1, .f32⟩
  | 50 => ⟨S950x1x16, .f32⟩
  | 51 => ⟨S950x1x16, .f32⟩
  | 52 => ⟨S_, .f32⟩
  | 53 => ⟨S500x1x16, .f32⟩
  | 54 => ⟨S_, .i32⟩
  | 55 => ⟨S950, .i32⟩
  | 56 => ⟨S950, .i1⟩
  | 57 => ⟨S_, .i32⟩
  | 58 => ⟨S950, .i32⟩
  | 59 => ⟨S950, .i32⟩
  | 60 => ⟨S950, .i32⟩
  | 61 => ⟨S950x1, .i32⟩
  | 62 => ⟨S500x1x16, .f32⟩
  | 63 => ⟨S500x16, .f32⟩
  | 64 => ⟨S1x16, .f32⟩
  | 65 => ⟨S500x16, .f32⟩
  | 66 => ⟨S500x16, .f32⟩
  | 67 => ⟨S_, .f32⟩
  | 68 => ⟨S500x16, .f32⟩
  | 69 => ⟨S500x16, .i1⟩
  | 70 => ⟨S_, .f32⟩
  | 71 => ⟨S500x16, .f32⟩
  | 72 => ⟨S500x16, .i1⟩
  | 73 => ⟨S_, .f32⟩
  | 74 => ⟨S_, .f32⟩
  | 75 => ⟨S500x16, .f32⟩
  | 76 => ⟨S500x16, .f32⟩
  | 77 => ⟨S500x16, .f32⟩
  | 78 => ⟨S_, .f32⟩
  | 79 => ⟨S500x16, .f32⟩
  | 80 => ⟨S500x16, .f32⟩
  | 81 => ⟨S500x16, .f32⟩
  | 82 => ⟨S_, .f32⟩
  | 83 => ⟨S500, .f32⟩
  | 84 => ⟨S_, .f32⟩
  | 85 => ⟨S50, .f32⟩
  | 86 => ⟨S_, .i32⟩
  | 87 => ⟨S500, .i32⟩
  | 88 => ⟨S500, .i1⟩
  | 89 => ⟨S_, .i32⟩
  | 90 => ⟨S500, .i32⟩
  | 91 => ⟨S500, .i32⟩
  | 92 => ⟨S500, .i32⟩
  | 93 => ⟨S500x1, .i32⟩
  | 94 => ⟨S50, .f32⟩
  | 95 => ⟨S_, .f32⟩
  | 96 => ⟨S50, .f32⟩
  | 97 => ⟨S50, .f32⟩
  | 98 => ⟨S_, .f32⟩
  | 99 => ⟨S500, .f32⟩
  | 100 => ⟨S_, .f32⟩
  | 101 => ⟨S50, .f32⟩
  | 102 => ⟨S_, .i32⟩
  | 103 => ⟨S500, .i32⟩
  | 104 => ⟨S500, .i1⟩
  | 105 => ⟨S_, .i32⟩
  | 106 => ⟨S500, .i32⟩
  | 107 => ⟨S500, .i32⟩
  | 108 => ⟨S500, .i32⟩
  | 109 => ⟨S500x1, .i32⟩
  | 110 => ⟨S50, .f32⟩
  | 111 => ⟨S50, .f32⟩
  | 112 => ⟨S_, .i32⟩
  | 113 => ⟨S500, .i32⟩
  | 114 => ⟨S500, .i1⟩
  | 115 => ⟨S_, .i32⟩
  | 116 => ⟨S500, .i32⟩
  | 117 => ⟨S500, .i32⟩
  | 118 => ⟨S500, .i32⟩
  | 119 => ⟨S500x1, .i32⟩
  | 120 => ⟨S500, .f32⟩
  | 121 => ⟨S500x1, .f32⟩
  | 122 => ⟨S500x16, .f32⟩
  | 123 => ⟨S500x16, .f32⟩
  | 124 => ⟨S500x16, .f32⟩
  | 125 => ⟨S_, .f32⟩
  | 126 => ⟨S500, .f32⟩
  | 127 => ⟨S_, .f32⟩
  | _ => ⟨S10x10000x4, .f32⟩

abbrev hbmTy0_6 (i : Nat) : BufTy := match i % 128 with
  | 0 => ⟨S50, .f32⟩
  | 1 => ⟨S_, .i32⟩
  | 2 => ⟨S500, .i32⟩
  | 3 => ⟨S500, .i1⟩
  | 4 => ⟨S_, .i32⟩
  | 5 => ⟨S500, .i32⟩
  | 6 => ⟨S500, .i32⟩
  | 7 => ⟨S500, .i32⟩
  | 8 => ⟨S500x1, .i32⟩
  | 9 => ⟨S50, .f32⟩
  | 10 => ⟨S50, .f32⟩
  | 11 => ⟨S_, .f32⟩
  | 12 => ⟨S50, .f32⟩
  | 13 => ⟨S50, .f32⟩
  | 14 => ⟨S50, .f32⟩
  | 15 => ⟨S_, .i32⟩
  | 16 => ⟨S500, .i32⟩
  | 17 => ⟨S500, .i1⟩
  | 18 => ⟨S_, .i32⟩
  | 19 => ⟨S500, .i32⟩
  | 20 => ⟨S500, .i32⟩
  | 21 => ⟨S500, .i32⟩
  | 22 => ⟨S500x1, .i32⟩
  | 23 => ⟨S500, .f32⟩
  | 24 => ⟨S500x1, .f32⟩
  | 25 => ⟨S500x16, .f32⟩
  | 26 => ⟨S500x16, .f32⟩
  | 27 => ⟨S1x16, .f32⟩
  | 28 => ⟨S500x16, .f32⟩
  | 29 => ⟨S500x16, .f32⟩
  | 30 => ⟨S1x16, .f32⟩
  | 31 => ⟨S500x16, .f32⟩
  | 32 => ⟨S500x16, .f32⟩
  | 33 => ⟨S_, .f32⟩
  | 34 => ⟨S50x16, .f32⟩
  | 35 => ⟨S_, .i32⟩
  | 36 => ⟨S500, .i32⟩
  | 37 => ⟨S500, .i1⟩
  | 38 => ⟨S_, .i32⟩
  | 39 => ⟨S500, .i32⟩
  | 40 => ⟨S500, .i32⟩
  | 41 => ⟨S500, .i32⟩
  | 42 => ⟨S500x1, .i32⟩
  | 43 => ⟨S50x16, .f32⟩
  | 44 => ⟨S_, .f32⟩
  | 45 => ⟨S500x1, .f32⟩
  | 46 => ⟨S_, .f32⟩
  | 47 => ⟨S50x1, .f32⟩
  | 48 => ⟨S_, .i32⟩
  | 49 => ⟨S500, .i32⟩
  | 50 => ⟨S500, .i1⟩
  | 51 => ⟨S_, .i32⟩
  | 52 => ⟨S500, .i32⟩
  | 53 => ⟨S500, .i32⟩
  | 54 => ⟨S500, .i32⟩
  | 55 => ⟨S500x1, .i32⟩
  | 56 => ⟨S50x1, .f32⟩
  | 57 => ⟨S_, .f32⟩
  | 58 => ⟨S_, .f32⟩
  | 59 => ⟨S50x1, .f32⟩
  | 60 => ⟨S50x1, .f32⟩
  | 61 => ⟨S50x16, .f32⟩
  | 62 => ⟨S50x16, .f32⟩
  | 63 => ⟨S50x2, .f32⟩
  | 64 => ⟨S1x2, .f32⟩
  | 65 => ⟨S50x2, .f32⟩
  | 66 => ⟨S50x2, .f32⟩
  | _ => ⟨S10x10000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10x10000x4, .f32⟩

abbrev bufTy : (tb : Table) → Fin (tcTables nBuf tb) → BufTy
  | .hbm, ⟨i, _⟩ => hbmTy i
  | _, _ => ⟨S10x10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_c_8 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_c_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_11 : Ref sig .tc := ⟨.hbm, 87, rfl⟩
abbrev main_v49 : Ref sig .tc := ⟨.hbm, 88, rfl⟩
abbrev main_v50 : Ref sig .tc := ⟨.hbm, 89, rfl⟩
abbrev main_c_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_13 : Ref sig .tc := ⟨.hbm, 101, rfl⟩
abbrev main_v61 : Ref sig .tc := ⟨.hbm, 102, rfl⟩
abbrev main_c_14 : Ref sig .tc := ⟨.hbm, 103, rfl⟩
abbrev main_v62 : Ref sig .tc := ⟨.hbm, 104, rfl⟩
abbrev main_v63 : Ref sig .tc := ⟨.hbm, 105, rfl⟩
abbrev main_c_15 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_18 : Ref sig .tc := ⟨.hbm, 125, rfl⟩
abbrev main_v80 : Ref sig .tc := ⟨.hbm, 126, rfl⟩
abbrev main_v81 : Ref sig .tc := ⟨.hbm, 127, rfl⟩
abbrev main_c_19 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_20 : Ref sig .tc := ⟨.hbm, 132, rfl⟩
abbrev main_v85 : Ref sig .tc := ⟨.hbm, 133, rfl⟩
abbrev main_v86 : Ref sig .tc := ⟨.hbm, 134, rfl⟩
abbrev main_c_21 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_call1_cst : Ref sig .tc := ⟨.hbm, 147, rfl⟩
abbrev main_call1_v0 : Ref sig .tc := ⟨.hbm, 148, rfl⟩
abbrev main_v98 : Ref sig .tc := ⟨.hbm, 149, rfl⟩
abbrev main_cst_22 : Ref sig .tc := ⟨.hbm, 150, rfl⟩
abbrev main_v99 : Ref sig .tc := ⟨.hbm, 151, rfl⟩
abbrev main_cst_23 : Ref sig .tc := ⟨.hbm, 152, rfl⟩
abbrev main_v100 : Ref sig .tc := ⟨.hbm, 153, rfl⟩
abbrev main_c_24 : Ref sig .tc := ⟨.hbm, 154, rfl⟩
abbrev main_v101 : Ref sig .tc := ⟨.hbm, 155, rfl⟩
abbrev main_v102 : Ref sig .tc := ⟨.hbm, 156, rfl⟩
abbrev main_c_25 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_26 : Ref sig .tc := ⟨.hbm, 163, rfl⟩
abbrev main_v108 : Ref sig .tc := ⟨.hbm, 164, rfl⟩
abbrev main_v109 : Ref sig .tc := ⟨.hbm, 165, rfl⟩
abbrev main_cst_27 : Ref sig .tc := ⟨.hbm, 166, rfl⟩
abbrev main_v110 : Ref sig .tc := ⟨.hbm, 167, rfl⟩
abbrev main_cst_28 : Ref sig .tc := ⟨.hbm, 168, rfl⟩
abbrev main_v111 : Ref sig .tc := ⟨.hbm, 169, rfl⟩
abbrev main_c_29 : Ref sig .tc := ⟨.hbm, 170, rfl⟩
abbrev main_v112 : Ref sig .tc := ⟨.hbm, 171, rfl⟩
abbrev main_v113 : Ref sig .tc := ⟨.hbm, 172, rfl⟩
abbrev main_c_30 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_31 : Ref sig .tc := ⟨.hbm, 182, rfl⟩
abbrev main_v122 : Ref sig .tc := ⟨.hbm, 183, rfl⟩
abbrev main_v123 : Ref sig .tc := ⟨.hbm, 184, rfl⟩
abbrev main_c_32 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_33 : Ref sig .tc := ⟨.hbm, 195, rfl⟩
abbrev main_v133 : Ref sig .tc := ⟨.hbm, 196, rfl⟩
abbrev main_cst_34 : Ref sig .tc := ⟨.hbm, 197, rfl⟩
abbrev main_v134 : Ref sig .tc := ⟨.hbm, 198, rfl⟩
abbrev main_c_35 : Ref sig .tc := ⟨.hbm, 199, rfl⟩
abbrev main_v135 : Ref sig .tc := ⟨.hbm, 200, rfl⟩
abbrev main_v136 : Ref sig .tc := ⟨.hbm, 201, rfl⟩
abbrev main_c_36 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_37 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_c_38 : Ref sig .tc := ⟨.hbm, 215, rfl⟩
abbrev main_v148 : Ref sig .tc := ⟨.hbm, 216, rfl⟩
abbrev main_v149 : Ref sig .tc := ⟨.hbm, 217, rfl⟩
abbrev main_c_39 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_cst_40 : Ref sig .tc := ⟨.hbm, 233, rfl⟩
abbrev main_v164 : Ref sig .tc := ⟨.hbm, 234, rfl⟩
abbrev main_cst_41 : Ref sig .tc := ⟨.hbm, 235, rfl⟩
abbrev main_v165 : Ref sig .tc := ⟨.hbm, 236, rfl⟩
abbrev main_c_42 : Ref sig .tc := ⟨.hbm, 237, rfl⟩
abbrev main_v166 : Ref sig .tc := ⟨.hbm, 238, rfl⟩
abbrev main_v167 : Ref sig .tc := ⟨.hbm, 239, rfl⟩
abbrev main_c_43 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_44 : Ref sig .tc := ⟨.hbm, 246, rfl⟩
abbrev main_v173 : Ref sig .tc := ⟨.hbm, 247, rfl⟩
abbrev main_c_45 : Ref sig .tc := ⟨.hbm, 248, rfl⟩
abbrev main_v174 : Ref sig .tc := ⟨.hbm, 249, rfl⟩
abbrev main_v175 : Ref sig .tc := ⟨.hbm, 250, rfl⟩
abbrev main_c_46 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_47 : Ref sig .tc := ⟨.hbm, 257, rfl⟩
abbrev main_call2_v0 : Ref sig .tc := ⟨.hbm, 258, rfl⟩
abbrev main_call2_v1 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_cst_48 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_cst_49 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_values : Ref sig .tc := ⟨.hbm, 276, rfl⟩
abbrev main_indices : Ref sig .tc := ⟨.hbm, 277, rfl⟩
abbrev main_v195 : Ref sig .tc := ⟨.hbm, 278, rfl⟩
abbrev main_v196 : Ref sig .tc := ⟨.hbm, 279, rfl⟩
abbrev main_call3_c : Ref sig .tc := ⟨.hbm, 280, rfl⟩
abbrev main_call3_v0 : Ref sig .tc := ⟨.hbm, 281, rfl⟩
abbrev main_call3_v1 : Ref sig .tc := ⟨.hbm, 282, rfl⟩
abbrev main_call3_c_0 : Ref sig .tc := ⟨.hbm, 283, rfl⟩
abbrev main_call3_v2 : Ref sig .tc := ⟨.hbm, 284, rfl⟩
abbrev main_call3_v3 : Ref sig .tc := ⟨.hbm, 285, rfl⟩
abbrev main_call3_v4 : Ref sig .tc := ⟨.hbm, 286, rfl⟩
abbrev main_call3_c_1 : Ref sig .tc := ⟨.hbm, 287, rfl⟩
abbrev main_call3_c_2 : Ref sig .tc := ⟨.hbm, 288, rfl⟩
abbrev main_call3_v5 : Ref sig .tc := ⟨.hbm, 289, rfl⟩
abbrev main_call3_v6 : Ref sig .tc := ⟨.hbm, 290, rfl⟩
abbrev main_call3_v7 : Ref sig .tc := ⟨.hbm, 291, rfl⟩
abbrev main_call3_v8 : Ref sig .tc := ⟨.hbm, 292, rfl⟩
abbrev main_call3_v9 : Ref sig .tc := ⟨.hbm, 293, rfl⟩
abbrev main_call3_v10 : Ref sig .tc := ⟨.hbm, 294, rfl⟩
abbrev main_call3_c_3 : Ref sig .tc := ⟨.hbm, 295, rfl⟩
abbrev main_call3_v11 : Ref sig .tc := ⟨.hbm, 296, rfl⟩
abbrev main_call3_v12 : Ref sig .tc := ⟨.hbm, 297, rfl⟩
abbrev main_call3_v13 : Ref sig .tc := ⟨.hbm, 298, rfl⟩
abbrev main_call3_cst : Ref sig .tc := ⟨.hbm, 299, rfl⟩
abbrev main_call3_v14 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_cst_50 : Ref sig .tc := ⟨.hbm, 310, rfl⟩
abbrev main_v206 : Ref sig .tc := ⟨.hbm, 311, rfl⟩
abbrev main_cst_51 : Ref sig .tc := ⟨.hbm, 312, rfl⟩
abbrev main_v207 : Ref sig .tc := ⟨.hbm, 313, rfl⟩
abbrev main_c_52 : Ref sig .tc := ⟨.hbm, 314, rfl⟩
abbrev main_v208 : Ref sig .tc := ⟨.hbm, 315, rfl⟩
abbrev main_v209 : Ref sig .tc := ⟨.hbm, 316, rfl⟩
abbrev main_c_53 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_cst_54 : Ref sig .tc := ⟨.hbm, 323, rfl⟩
abbrev main_v215 : Ref sig .tc := ⟨.hbm, 324, rfl⟩
abbrev main_c_55 : Ref sig .tc := ⟨.hbm, 325, rfl⟩
abbrev main_v216 : Ref sig .tc := ⟨.hbm, 326, rfl⟩
abbrev main_v217 : Ref sig .tc := ⟨.hbm, 327, rfl⟩
abbrev main_c_56 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_cst_57 : Ref sig .tc := ⟨.hbm, 334, rfl⟩
abbrev main_call4_v0 : Ref sig .tc := ⟨.hbm, 335, rfl⟩
abbrev main_call4_v1 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_c_58 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_c_59 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_cst_60 : Ref sig .tc := ⟨.hbm, 378, rfl⟩
abbrev main_v262 : Ref sig .tc := ⟨.hbm, 379, rfl⟩
abbrev main_c_61 : Ref sig .tc := ⟨.hbm, 380, rfl⟩
abbrev main_v263 : Ref sig .tc := ⟨.hbm, 381, rfl⟩
abbrev main_v264 : Ref sig .tc := ⟨.hbm, 382, rfl⟩
abbrev main_c_62 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_cst_63 : Ref sig .tc := ⟨.hbm, 392, rfl⟩
abbrev main_v273 : Ref sig .tc := ⟨.hbm, 393, rfl⟩
abbrev main_c_64 : Ref sig .tc := ⟨.hbm, 394, rfl⟩
abbrev main_v274 : Ref sig .tc := ⟨.hbm, 395, rfl⟩
abbrev main_v275 : Ref sig .tc := ⟨.hbm, 396, rfl⟩
abbrev main_c_65 : Ref sig .tc := ⟨.hbm, 397, rfl⟩
abbrev main_v276 : Ref sig .tc := ⟨.hbm, 398, rfl⟩
abbrev main_v277 : Ref sig .tc := ⟨.hbm, 399, rfl⟩
abbrev main_v278 : Ref sig .tc := ⟨.hbm, 400, rfl⟩
abbrev main_v279 : Ref sig .tc := ⟨.hbm, 401, rfl⟩
abbrev main_v280 : Ref sig .tc := ⟨.hbm, 402, rfl⟩
abbrev main_v281 : Ref sig .tc := ⟨.hbm, 403, rfl⟩
abbrev main_cst_66 : Ref sig .tc := ⟨.hbm, 404, rfl⟩
abbrev main_call5_cst : Ref sig .tc := ⟨.hbm, 405, rfl⟩
abbrev main_call5_v0 : Ref sig .tc := ⟨.hbm, 406, rfl⟩
abbrev main_call5_v1 : Ref sig .tc := ⟨.hbm, 407, rfl⟩
abbrev main_call5_v2 : Ref sig .tc := ⟨.hbm, 408, rfl⟩
abbrev main_call5_v3 : Ref sig .tc := ⟨.hbm, 409, rfl⟩
abbrev main_call5_v4 : Ref sig .tc := ⟨.hbm, 410, rfl⟩
abbrev main_v282 : Ref sig .tc := ⟨.hbm, 411, rfl⟩
abbrev main_v283 : Ref sig .tc := ⟨.hbm, 412, rfl⟩
abbrev main_v284 : Ref sig .tc := ⟨.hbm, 413, rfl⟩
abbrev main_v285 : Ref sig .tc := ⟨.hbm, 414, rfl⟩
abbrev main_v286 : Ref sig .tc := ⟨.hbm, 415, rfl⟩
abbrev main_v287 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_cst_67 : Ref sig .tc := ⟨.hbm, 420, rfl⟩
abbrev main_call6_v0 : Ref sig .tc := ⟨.hbm, 421, rfl⟩
abbrev main_call6_v1 : Ref sig .tc := ⟨.hbm, 422, rfl⟩
abbrev main_call6_v2 : Ref sig .tc := ⟨.hbm, 423, rfl⟩
abbrev main_call6_v3 : Ref sig .tc := ⟨.hbm, 424, rfl⟩
abbrev main_v291 : Ref sig .tc := ⟨.hbm, 425, rfl⟩
abbrev main_cst_68 : Ref sig .tc := ⟨.hbm, 426, rfl⟩
abbrev main_v292 : Ref sig .tc := ⟨.hbm, 427, rfl⟩
abbrev main_c_69 : Ref sig .tc := ⟨.hbm, 428, rfl⟩
abbrev main_v293 : Ref sig .tc := ⟨.hbm, 429, rfl⟩
abbrev main_v294 : Ref sig .tc := ⟨.hbm, 430, rfl⟩
abbrev main_c_70 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_v301 : Ref sig .tc := ⟨.hbm, 438, rfl⟩
abbrev main_cst_71 : Ref sig .tc := ⟨.hbm, 439, rfl⟩
abbrev main_v302 : Ref sig .tc := ⟨.hbm, 440, rfl⟩
abbrev main_c_72 : Ref sig .tc := ⟨.hbm, 441, rfl⟩
abbrev main_v303 : Ref sig .tc := ⟨.hbm, 442, rfl⟩
abbrev main_v304 : Ref sig .tc := ⟨.hbm, 443, rfl⟩
abbrev main_c_73 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_c_74 : Ref sig .tc := ⟨.hbm, 450, rfl⟩
abbrev main_v310 : Ref sig .tc := ⟨.hbm, 451, rfl⟩
abbrev main_v311 : Ref sig .tc := ⟨.hbm, 452, rfl⟩
abbrev main_c_75 : Ref sig .tc := ⟨.hbm, 453, rfl⟩
abbrev main_v312 : Ref sig .tc := ⟨.hbm, 454, rfl⟩
abbrev main_v313 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_cst_76 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_c_77 : Ref sig .tc := ⟨.hbm, 463, rfl⟩
abbrev main_v320 : Ref sig .tc := ⟨.hbm, 464, rfl⟩
abbrev main_v321 : Ref sig .tc := ⟨.hbm, 465, rfl⟩
abbrev main_c_78 : Ref sig .tc := ⟨.hbm, 466, rfl⟩
abbrev main_v322 : Ref sig .tc := ⟨.hbm, 467, rfl⟩
abbrev main_v323 : Ref sig .tc := ⟨.hbm, 468, rfl⟩
abbrev main_v324 : Ref sig .tc := ⟨.hbm, 469, rfl⟩
abbrev main_v325 : Ref sig .tc := ⟨.hbm, 470, rfl⟩
abbrev main_v326 : Ref sig .tc := ⟨.hbm, 471, rfl⟩
abbrev main_v327 : Ref sig .tc := ⟨.hbm, 472, rfl⟩
abbrev main_v328 : Ref sig .tc := ⟨.hbm, 473, rfl⟩
abbrev main_v329 : Ref sig .tc := ⟨.hbm, 474, rfl⟩
abbrev main_cst_79 : Ref sig .tc := ⟨.hbm, 475, rfl⟩
abbrev main_v330 : Ref sig .tc := ⟨.hbm, 476, rfl⟩
abbrev main_c_80 : Ref sig .tc := ⟨.hbm, 477, rfl⟩
abbrev main_v331 : Ref sig .tc := ⟨.hbm, 478, rfl⟩
abbrev main_v332 : Ref sig .tc := ⟨.hbm, 479, rfl⟩
abbrev main_c_81 : Ref sig .tc := ⟨.hbm, 480, rfl⟩
abbrev main_v333 : Ref sig .tc := ⟨.hbm, 481, rfl⟩
abbrev main_v334 : Ref sig .tc := ⟨.hbm, 482, rfl⟩
abbrev main_v335 : Ref sig .tc := ⟨.hbm, 483, rfl⟩
abbrev main_v336 : Ref sig .tc := ⟨.hbm, 484, rfl⟩
abbrev main_v337 : Ref sig .tc := ⟨.hbm, 485, rfl⟩
abbrev main_v338 : Ref sig .tc := ⟨.hbm, 486, rfl⟩
abbrev main_v339 : Ref sig .tc := ⟨.hbm, 487, rfl⟩
abbrev main_v340 : Ref sig .tc := ⟨.hbm, 488, rfl⟩
abbrev main_v341 : Ref sig .tc := ⟨.hbm, 489, rfl⟩
abbrev main_call7_cst : Ref sig .tc := ⟨.hbm, 490, rfl⟩
abbrev main_call7_v0 : Ref sig .tc := ⟨.hbm, 491, rfl⟩
abbrev main_call7_v1 : Ref sig .tc := ⟨.hbm, 492, rfl⟩
abbrev main_call7_cst_0 : Ref sig .tc := ⟨.hbm, 493, rfl⟩
abbrev main_call7_v2 : Ref sig .tc := ⟨.hbm, 494, rfl⟩
abbrev main_call7_v3 : Ref sig .tc := ⟨.hbm, 495, rfl⟩
abbrev main_call7_cst_1 : Ref sig .tc := ⟨.hbm, 496, rfl⟩
abbrev main_call7_call0_v0 : Ref sig .tc := ⟨.hbm, 497, rfl⟩
abbrev main_call7_call0_v1 : Ref sig .tc := ⟨.hbm, 498, rfl⟩
abbrev main_call7_v4 : Ref sig .tc := ⟨.hbm, 499, rfl⟩
abbrev main_call7_v5 : Ref sig .tc := ⟨.hbm, 500, rfl⟩
abbrev main_call7_cst_2 : Ref sig .tc := ⟨.hbm, 501, rfl⟩
abbrev main_call7_v6 : Ref sig .tc := ⟨.hbm, 502, rfl⟩
abbrev main_call7_v7 : Ref sig .tc := ⟨.hbm, 503, rfl⟩
abbrev main_v342 : Ref sig .tc := ⟨.hbm, 504, rfl⟩
abbrev main_cst_82 : Ref sig .tc := ⟨.hbm, 505, rfl⟩
abbrev main_v343 : Ref sig .tc := ⟨.hbm, 506, rfl⟩
abbrev main_cst_83 : Ref sig .tc := ⟨.hbm, 507, rfl⟩
abbrev main_v344 : Ref sig .tc := ⟨.hbm, 508, rfl⟩
abbrev main_c_84 : Ref sig .tc := ⟨.hbm, 509, rfl⟩
abbrev main_v345 : Ref sig .tc := ⟨.hbm, 510, rfl⟩
abbrev main_v346 : Ref sig .tc := ⟨.hbm, 511, rfl⟩
abbrev main_c_85 : Ref sig .tc := ⟨.hbm, 512, rfl⟩
abbrev main_v347 : Ref sig .tc := ⟨.hbm, 513, rfl⟩
abbrev main_v348 : Ref sig .tc := ⟨.hbm, 514, rfl⟩
abbrev main_v349 : Ref sig .tc := ⟨.hbm, 515, rfl⟩
abbrev main_v350 : Ref sig .tc := ⟨.hbm, 516, rfl⟩
abbrev main_v351 : Ref sig .tc := ⟨.hbm, 517, rfl⟩
abbrev main_cst_86 : Ref sig .tc := ⟨.hbm, 518, rfl⟩
abbrev main_v352 : Ref sig .tc := ⟨.hbm, 519, rfl⟩
abbrev main_v353 : Ref sig .tc := ⟨.hbm, 520, rfl⟩
abbrev main_cst_87 : Ref sig .tc := ⟨.hbm, 521, rfl⟩
abbrev main_v354 : Ref sig .tc := ⟨.hbm, 522, rfl⟩
abbrev main_cst_88 : Ref sig .tc := ⟨.hbm, 523, rfl⟩
abbrev main_v355 : Ref sig .tc := ⟨.hbm, 524, rfl⟩
abbrev main_c_89 : Ref sig .tc := ⟨.hbm, 525, rfl⟩
abbrev main_v356 : Ref sig .tc := ⟨.hbm, 526, rfl⟩
abbrev main_v357 : Ref sig .tc := ⟨.hbm, 527, rfl⟩
abbrev main_c_90 : Ref sig .tc := ⟨.hbm, 528, rfl⟩
abbrev main_v358 : Ref sig .tc := ⟨.hbm, 529, rfl⟩
abbrev main_v359 : Ref sig .tc := ⟨.hbm, 530, rfl⟩
abbrev main_v360 : Ref sig .tc := ⟨.hbm, 531, rfl⟩
abbrev main_v361 : Ref sig .tc := ⟨.hbm, 532, rfl⟩
abbrev main_v362 : Ref sig .tc := ⟨.hbm, 533, rfl⟩
abbrev main_v363 : Ref sig .tc := ⟨.hbm, 534, rfl⟩
abbrev main_c_91 : Ref sig .tc := ⟨.hbm, 535, rfl⟩
abbrev main_v364 : Ref sig .tc := ⟨.hbm, 536, rfl⟩
abbrev main_v365 : Ref sig .tc := ⟨.hbm, 537, rfl⟩
abbrev main_c_92 : Ref sig .tc := ⟨.hbm, 538, rfl⟩
abbrev main_v366 : Ref sig .tc := ⟨.hbm, 539, rfl⟩
abbrev main_v367 : Ref sig .tc := ⟨.hbm, 540, rfl⟩
abbrev main_v368 : Ref sig .tc := ⟨.hbm, 541, rfl⟩
abbrev main_v369 : Ref sig .tc := ⟨.hbm, 542, rfl⟩
abbrev main_v370 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_cst_93 : Ref sig .tc := ⟨.hbm, 548, rfl⟩
abbrev main_v375 : Ref sig .tc := ⟨.hbm, 549, rfl⟩
abbrev main_cst_94 : Ref sig .tc := ⟨.hbm, 550, rfl⟩
abbrev main_v376 : Ref sig .tc := ⟨.hbm, 551, rfl⟩
abbrev main_c_95 : Ref sig .tc := ⟨.hbm, 552, rfl⟩
abbrev main_v377 : Ref sig .tc := ⟨.hbm, 553, rfl⟩
abbrev main_v378 : Ref sig .tc := ⟨.hbm, 554, rfl⟩
abbrev main_c_96 : Ref sig .tc := ⟨.hbm, 555, rfl⟩
abbrev main_v379 : Ref sig .tc := ⟨.hbm, 556, rfl⟩
abbrev main_v380 : Ref sig .tc := ⟨.hbm, 557, rfl⟩
abbrev main_v381 : Ref sig .tc := ⟨.hbm, 558, rfl⟩
abbrev main_v382 : Ref sig .tc := ⟨.hbm, 559, rfl⟩
abbrev main_v383 : Ref sig .tc := ⟨.hbm, 560, rfl⟩
abbrev main_v384 : Ref sig .tc := ⟨.hbm, 561, rfl⟩
abbrev main_cst_97 : Ref sig .tc := ⟨.hbm, 562, rfl⟩
abbrev main_v385 : Ref sig .tc := ⟨.hbm, 563, rfl⟩
abbrev main_v386 : Ref sig .tc := ⟨.hbm, 564, rfl⟩
abbrev main_v387 : Ref sig .tc := ⟨.hbm, 565, rfl⟩
abbrev main_c_98 : Ref sig .tc := ⟨.hbm, 566, rfl⟩
abbrev main_v388 : Ref sig .tc := ⟨.hbm, 567, rfl⟩
abbrev main_v389 : Ref sig .tc := ⟨.hbm, 568, rfl⟩
abbrev main_c_99 : Ref sig .tc := ⟨.hbm, 569, rfl⟩
abbrev main_v390 : Ref sig .tc := ⟨.hbm, 570, rfl⟩
abbrev main_v391 : Ref sig .tc := ⟨.hbm, 571, rfl⟩
abbrev main_v392 : Ref sig .tc := ⟨.hbm, 572, rfl⟩
abbrev main_v393 : Ref sig .tc := ⟨.hbm, 573, rfl⟩
abbrev main_v394 : Ref sig .tc := ⟨.hbm, 574, rfl⟩
abbrev main_v395 : Ref sig .tc := ⟨.hbm, 575, rfl⟩
abbrev main_v396 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_v400 : Ref sig .tc := ⟨.hbm, 580, rfl⟩
abbrev main_v401 : Ref sig .tc := ⟨.hbm, 581, rfl⟩
abbrev main_v402 : Ref sig .tc := ⟨.hbm, 582, rfl⟩
abbrev main_v403 : Ref sig .tc := ⟨.hbm, 583, rfl⟩
abbrev main_v404 : Ref sig .tc := ⟨.hbm, 584, rfl⟩
abbrev main_v405 : Ref sig .tc := ⟨.hbm, 585, rfl⟩
abbrev main_v406 : Ref sig .tc := ⟨.hbm, 586, rfl⟩
abbrev main_v407 : Ref sig .tc := ⟨.hbm, 587, rfl⟩
abbrev main_v408 : Ref sig .tc := ⟨.hbm, 588, rfl⟩
abbrev main_v409 : Ref sig .tc := ⟨.hbm, 589, rfl⟩
abbrev main_v410 : Ref sig .tc := ⟨.hbm, 590, rfl⟩
abbrev main_v411 : Ref sig .tc := ⟨.hbm, 591, rfl⟩
abbrev main_v412 : Ref sig .tc := ⟨.hbm, 592, rfl⟩
abbrev main_v413 : Ref sig .tc := ⟨.hbm, 593, rfl⟩
abbrev main_v414 : Ref sig .tc := ⟨.hbm, 594, rfl⟩
abbrev main_v415 : Ref sig .tc := ⟨.hbm, 595, rfl⟩
abbrev main_cst_100 : Ref sig .tc := ⟨.hbm, 596, rfl⟩
abbrev main_v416 : Ref sig .tc := ⟨.hbm, 597, rfl⟩
abbrev main_c_101 : Ref sig .tc := ⟨.hbm, 598, rfl⟩
abbrev main_v417 : Ref sig .tc := ⟨.hbm, 599, rfl⟩
abbrev main_v418 : Ref sig .tc := ⟨.hbm, 600, rfl⟩
abbrev main_c_102 : Ref sig .tc := ⟨.hbm, 601, rfl⟩
abbrev main_v419 : Ref sig .tc := ⟨.hbm, 602, rfl⟩
abbrev main_v420 : Ref sig .tc := ⟨.hbm, 603, rfl⟩
abbrev main_v421 : Ref sig .tc := ⟨.hbm, 604, rfl⟩
abbrev main_v422 : Ref sig .tc := ⟨.hbm, 605, rfl⟩
abbrev main_v423 : Ref sig .tc := ⟨.hbm, 606, rfl⟩
abbrev main_v424 : Ref sig .tc := ⟨.hbm, 607, rfl⟩
abbrev main_v425 : Ref sig .tc := ⟨.hbm, 608, rfl⟩
abbrev main_v426 : Ref sig .tc := ⟨.hbm, 609, rfl⟩
abbrev main_cst_103 : Ref sig .tc := ⟨.hbm, 610, rfl⟩
abbrev main_v427 : Ref sig .tc := ⟨.hbm, 611, rfl⟩
abbrev main_c_104 : Ref sig .tc := ⟨.hbm, 612, rfl⟩
abbrev main_v428 : Ref sig .tc := ⟨.hbm, 613, rfl⟩
abbrev main_v429 : Ref sig .tc := ⟨.hbm, 614, rfl⟩
abbrev main_c_105 : Ref sig .tc := ⟨.hbm, 615, rfl⟩
abbrev main_v430 : Ref sig .tc := ⟨.hbm, 616, rfl⟩
abbrev main_v431 : Ref sig .tc := ⟨.hbm, 617, rfl⟩
abbrev main_v432 : Ref sig .tc := ⟨.hbm, 618, rfl⟩
abbrev main_v433 : Ref sig .tc := ⟨.hbm, 619, rfl⟩
abbrev main_v434 : Ref sig .tc := ⟨.hbm, 620, rfl⟩
abbrev main_v435 : Ref sig .tc := ⟨.hbm, 621, rfl⟩
abbrev main_cst_106 : Ref sig .tc := ⟨.hbm, 622, rfl⟩
abbrev main_call8_cst : Ref sig .tc := ⟨.hbm, 623, rfl⟩
abbrev main_call8_v0 : Ref sig .tc := ⟨.hbm, 624, rfl⟩
abbrev main_call8_v1 : Ref sig .tc := ⟨.hbm, 625, rfl⟩
abbrev main_call8_v2 : Ref sig .tc := ⟨.hbm, 626, rfl⟩
abbrev main_call8_v3 : Ref sig .tc := ⟨.hbm, 627, rfl⟩
abbrev main_call8_v4 : Ref sig .tc := ⟨.hbm, 628, rfl⟩
abbrev main_v436 : Ref sig .tc := ⟨.hbm, 629, rfl⟩
abbrev main_v437 : Ref sig .tc := ⟨.hbm, 630, rfl⟩
abbrev main_v438 : Ref sig .tc := ⟨.hbm, 631, rfl⟩
abbrev main_v439 : Ref sig .tc := ⟨.hbm, 632, rfl⟩
abbrev main_v440 : Ref sig .tc := ⟨.hbm, 633, rfl⟩
abbrev main_v441 : Ref sig .tc := ⟨.hbm, 634, rfl⟩
abbrev main_v442 : Ref sig .tc := ⟨.hbm, 635, rfl⟩
abbrev main_v443 : Ref sig .tc := ⟨.hbm, 636, rfl⟩
abbrev main_v444 : Ref sig .tc := ⟨.hbm, 637, rfl⟩
abbrev main_cst_107 : Ref sig .tc := ⟨.hbm, 638, rfl⟩
abbrev main_call9_v0 : Ref sig .tc := ⟨.hbm, 639, rfl⟩
abbrev main_call9_v1 : Ref sig .tc := ⟨.hbm, 640, rfl⟩
abbrev main_call9_v2 : Ref sig .tc := ⟨.hbm, 641, rfl⟩
abbrev main_v445 : Ref sig .tc := ⟨.hbm, 642, rfl⟩
abbrev main_cst_108 : Ref sig .tc := ⟨.hbm, 643, rfl⟩
abbrev main_v446 : Ref sig .tc := ⟨.hbm, 644, rfl⟩
abbrev main_c_109 : Ref sig .tc := ⟨.hbm, 645, rfl⟩
abbrev main_v447 : Ref sig .tc := ⟨.hbm, 646, rfl⟩
abbrev main_v448 : Ref sig .tc := ⟨.hbm, 647, rfl⟩
abbrev main_c_110 : Ref sig .tc := ⟨.hbm, 648, rfl⟩
abbrev main_v449 : Ref sig .tc := ⟨.hbm, 649, rfl⟩
abbrev main_v450 : Ref sig .tc := ⟨.hbm, 650, rfl⟩
abbrev main_v451 : Ref sig .tc := ⟨.hbm, 651, rfl⟩
abbrev main_v452 : Ref sig .tc := ⟨.hbm, 652, rfl⟩
abbrev main_v453 : Ref sig .tc := ⟨.hbm, 653, rfl⟩
abbrev main_v454 : Ref sig .tc := ⟨.hbm, 654, rfl⟩
abbrev main_v455 : Ref sig .tc := ⟨.hbm, 655, rfl⟩
abbrev main_cst_111 : Ref sig .tc := ⟨.hbm, 656, rfl⟩
abbrev main_v456 : Ref sig .tc := ⟨.hbm, 657, rfl⟩
abbrev main_c_112 : Ref sig .tc := ⟨.hbm, 658, rfl⟩
abbrev main_v457 : Ref sig .tc := ⟨.hbm, 659, rfl⟩
abbrev main_v458 : Ref sig .tc := ⟨.hbm, 660, rfl⟩
abbrev main_c_113 : Ref sig .tc := ⟨.hbm, 661, rfl⟩
abbrev main_v459 : Ref sig .tc := ⟨.hbm, 662, rfl⟩
abbrev main_v460 : Ref sig .tc := ⟨.hbm, 663, rfl⟩
abbrev main_v461 : Ref sig .tc := ⟨.hbm, 664, rfl⟩
abbrev main_v462 : Ref sig .tc := ⟨.hbm, 665, rfl⟩
abbrev main_v463 : Ref sig .tc := ⟨.hbm, 666, rfl⟩
abbrev main_c_114 : Ref sig .tc := ⟨.hbm, 667, rfl⟩
abbrev main_v464 : Ref sig .tc := ⟨.hbm, 668, rfl⟩
abbrev main_v465 : Ref sig .tc := ⟨.hbm, 669, rfl⟩
abbrev main_c_115 : Ref sig .tc := ⟨.hbm, 670, rfl⟩
abbrev main_v466 : Ref sig .tc := ⟨.hbm, 671, rfl⟩
abbrev main_v467 : Ref sig .tc := ⟨.hbm, 672, rfl⟩
abbrev main_v468 : Ref sig .tc := ⟨.hbm, 673, rfl⟩
abbrev main_v469 : Ref sig .tc := ⟨.hbm, 674, rfl⟩
abbrev main_v470 : Ref sig .tc := ⟨.hbm, 675, rfl⟩
abbrev main_cst_116 : Ref sig .tc := ⟨.hbm, 676, rfl⟩
abbrev main_v471 : Ref sig .tc := ⟨.hbm, 677, rfl⟩
abbrev main_v472 : Ref sig .tc := ⟨.hbm, 678, rfl⟩
abbrev main_v473 : Ref sig .tc := ⟨.hbm, 679, rfl⟩
abbrev main_c_117 : Ref sig .tc := ⟨.hbm, 680, rfl⟩
abbrev main_v474 : Ref sig .tc := ⟨.hbm, 681, rfl⟩
abbrev main_v475 : Ref sig .tc := ⟨.hbm, 682, rfl⟩
abbrev main_c_118 : Ref sig .tc := ⟨.hbm, 683, rfl⟩
abbrev main_v476 : Ref sig .tc := ⟨.hbm, 684, rfl⟩
abbrev main_v477 : Ref sig .tc := ⟨.hbm, 685, rfl⟩
abbrev main_v478 : Ref sig .tc := ⟨.hbm, 686, rfl⟩
abbrev main_v479 : Ref sig .tc := ⟨.hbm, 687, rfl⟩
abbrev main_v480 : Ref sig .tc := ⟨.hbm, 688, rfl⟩
abbrev main_v481 : Ref sig .tc := ⟨.hbm, 689, rfl⟩
abbrev main_v482 : Ref sig .tc := ⟨.hbm, 690, rfl⟩
abbrev main_v483 : Ref sig .tc := ⟨.hbm, 691, rfl⟩
abbrev main_cst_119 : Ref sig .tc := ⟨.hbm, 692, rfl⟩
abbrev main_v484 : Ref sig .tc := ⟨.hbm, 693, rfl⟩
abbrev main_c_120 : Ref sig .tc := ⟨.hbm, 694, rfl⟩
abbrev main_v485 : Ref sig .tc := ⟨.hbm, 695, rfl⟩
abbrev main_v486 : Ref sig .tc := ⟨.hbm, 696, rfl⟩
abbrev main_c_121 : Ref sig .tc := ⟨.hbm, 697, rfl⟩
abbrev main_v487 : Ref sig .tc := ⟨.hbm, 698, rfl⟩
abbrev main_v488 : Ref sig .tc := ⟨.hbm, 699, rfl⟩
abbrev main_v489 : Ref sig .tc := ⟨.hbm, 700, rfl⟩
abbrev main_v490 : Ref sig .tc := ⟨.hbm, 701, rfl⟩
abbrev main_v491 : Ref sig .tc := ⟨.hbm, 702, rfl⟩
abbrev main_v492 : Ref sig .tc := ⟨.hbm, 703, rfl⟩
abbrev main_v493 : Ref sig .tc := ⟨.hbm, 704, rfl⟩
abbrev main_v494 : Ref sig .tc := ⟨.hbm, 705, rfl⟩
abbrev main_v495 : Ref sig .tc := ⟨.hbm, 706, rfl⟩
abbrev main_call10_cst : Ref sig .tc := ⟨.hbm, 707, rfl⟩
abbrev main_call10_v0 : Ref sig .tc := ⟨.hbm, 708, rfl⟩
abbrev main_call10_v1 : Ref sig .tc := ⟨.hbm, 709, rfl⟩
abbrev main_call10_cst_0 : Ref sig .tc := ⟨.hbm, 710, rfl⟩
abbrev main_call10_v2 : Ref sig .tc := ⟨.hbm, 711, rfl⟩
abbrev main_call10_v3 : Ref sig .tc := ⟨.hbm, 712, rfl⟩
abbrev main_call10_cst_1 : Ref sig .tc := ⟨.hbm, 713, rfl⟩
abbrev main_call10_call0_v0 : Ref sig .tc := ⟨.hbm, 714, rfl⟩
abbrev main_call10_call0_v1 : Ref sig .tc := ⟨.hbm, 715, rfl⟩
abbrev main_call10_v4 : Ref sig .tc := ⟨.hbm, 716, rfl⟩
abbrev main_call10_v5 : Ref sig .tc := ⟨.hbm, 717, rfl⟩
abbrev main_call10_cst_2 : Ref sig .tc := ⟨.hbm, 718, rfl⟩
abbrev main_call10_v6 : Ref sig .tc := ⟨.hbm, 719, rfl⟩
abbrev main_call10_v7 : Ref sig .tc := ⟨.hbm, 720, rfl⟩
abbrev main_v496 : Ref sig .tc := ⟨.hbm, 721, rfl⟩
abbrev main_cst_122 : Ref sig .tc := ⟨.hbm, 722, rfl⟩
abbrev main_v497 : Ref sig .tc := ⟨.hbm, 723, rfl⟩
abbrev main_cst_123 : Ref sig .tc := ⟨.hbm, 724, rfl⟩
abbrev main_v498 : Ref sig .tc := ⟨.hbm, 725, rfl⟩
abbrev main_c_124 : Ref sig .tc := ⟨.hbm, 726, rfl⟩
abbrev main_v499 : Ref sig .tc := ⟨.hbm, 727, rfl⟩
abbrev main_v500 : Ref sig .tc := ⟨.hbm, 728, rfl⟩
abbrev main_c_125 : Ref sig .tc := ⟨.hbm, 729, rfl⟩
abbrev main_v501 : Ref sig .tc := ⟨.hbm, 730, rfl⟩
abbrev main_v502 : Ref sig .tc := ⟨.hbm, 731, rfl⟩
abbrev main_v503 : Ref sig .tc := ⟨.hbm, 732, rfl⟩
abbrev main_v504 : Ref sig .tc := ⟨.hbm, 733, rfl⟩
abbrev main_v505 : Ref sig .tc := ⟨.hbm, 734, rfl⟩
abbrev main_cst_126 : Ref sig .tc := ⟨.hbm, 735, rfl⟩
abbrev main_v506 : Ref sig .tc := ⟨.hbm, 736, rfl⟩
abbrev main_v507 : Ref sig .tc := ⟨.hbm, 737, rfl⟩
abbrev main_cst_127 : Ref sig .tc := ⟨.hbm, 738, rfl⟩
abbrev main_v508 : Ref sig .tc := ⟨.hbm, 739, rfl⟩
abbrev main_cst_128 : Ref sig .tc := ⟨.hbm, 740, rfl⟩
abbrev main_v509 : Ref sig .tc := ⟨.hbm, 741, rfl⟩
abbrev main_c_129 : Ref sig .tc := ⟨.hbm, 742, rfl⟩
abbrev main_v510 : Ref sig .tc := ⟨.hbm, 743, rfl⟩
abbrev main_v511 : Ref sig .tc := ⟨.hbm, 744, rfl⟩
abbrev main_c_130 : Ref sig .tc := ⟨.hbm, 745, rfl⟩
abbrev main_v512 : Ref sig .tc := ⟨.hbm, 746, rfl⟩
abbrev main_v513 : Ref sig .tc := ⟨.hbm, 747, rfl⟩
abbrev main_v514 : Ref sig .tc := ⟨.hbm, 748, rfl⟩
abbrev main_v515 : Ref sig .tc := ⟨.hbm, 749, rfl⟩
abbrev main_v516 : Ref sig .tc := ⟨.hbm, 750, rfl⟩
abbrev main_v517 : Ref sig .tc := ⟨.hbm, 751, rfl⟩
abbrev main_c_131 : Ref sig .tc := ⟨.hbm, 752, rfl⟩
abbrev main_v518 : Ref sig .tc := ⟨.hbm, 753, rfl⟩
abbrev main_v519 : Ref sig .tc := ⟨.hbm, 754, rfl⟩
abbrev main_c_132 : Ref sig .tc := ⟨.hbm, 755, rfl⟩
abbrev main_v520 : Ref sig .tc := ⟨.hbm, 756, rfl⟩
abbrev main_v521 : Ref sig .tc := ⟨.hbm, 757, rfl⟩
abbrev main_v522 : Ref sig .tc := ⟨.hbm, 758, rfl⟩
abbrev main_v523 : Ref sig .tc := ⟨.hbm, 759, rfl⟩
abbrev main_v524 : Ref sig .tc := ⟨.hbm, 760, rfl⟩
abbrev main_v525 : Ref sig .tc := ⟨.hbm, 761, rfl⟩
abbrev main_v526 : Ref sig .tc := ⟨.hbm, 762, rfl⟩
abbrev main_v527 : Ref sig .tc := ⟨.hbm, 763, rfl⟩
abbrev main_v528 : Ref sig .tc := ⟨.hbm, 764, rfl⟩
abbrev main_cst_133 : Ref sig .tc := ⟨.hbm, 765, rfl⟩
abbrev main_v529 : Ref sig .tc := ⟨.hbm, 766, rfl⟩
abbrev main_cst_134 : Ref sig .tc := ⟨.hbm, 767, rfl⟩
abbrev main_v530 : Ref sig .tc := ⟨.hbm, 768, rfl⟩
abbrev main_c_135 : Ref sig .tc := ⟨.hbm, 769, rfl⟩
abbrev main_v531 : Ref sig .tc := ⟨.hbm, 770, rfl⟩
abbrev main_v532 : Ref sig .tc := ⟨.hbm, 771, rfl⟩
abbrev main_c_136 : Ref sig .tc := ⟨.hbm, 772, rfl⟩
abbrev main_v533 : Ref sig .tc := ⟨.hbm, 773, rfl⟩
abbrev main_v534 : Ref sig .tc := ⟨.hbm, 774, rfl⟩
abbrev main_v535 : Ref sig .tc := ⟨.hbm, 775, rfl⟩
abbrev main_v536 : Ref sig .tc := ⟨.hbm, 776, rfl⟩
abbrev main_v537 : Ref sig .tc := ⟨.hbm, 777, rfl⟩
abbrev main_v538 : Ref sig .tc := ⟨.hbm, 778, rfl⟩
abbrev main_cst_137 : Ref sig .tc := ⟨.hbm, 779, rfl⟩
abbrev main_v539 : Ref sig .tc := ⟨.hbm, 780, rfl⟩
abbrev main_v540 : Ref sig .tc := ⟨.hbm, 781, rfl⟩
abbrev main_v541 : Ref sig .tc := ⟨.hbm, 782, rfl⟩
abbrev main_c_138 : Ref sig .tc := ⟨.hbm, 783, rfl⟩
abbrev main_v542 : Ref sig .tc := ⟨.hbm, 784, rfl⟩
abbrev main_v543 : Ref sig .tc := ⟨.hbm, 785, rfl⟩
abbrev main_c_139 : Ref sig .tc := ⟨.hbm, 786, rfl⟩
abbrev main_v544 : Ref sig .tc := ⟨.hbm, 787, rfl⟩
abbrev main_v545 : Ref sig .tc := ⟨.hbm, 788, rfl⟩
abbrev main_v546 : Ref sig .tc := ⟨.hbm, 789, rfl⟩
abbrev main_v547 : Ref sig .tc := ⟨.hbm, 790, rfl⟩
abbrev main_v548 : Ref sig .tc := ⟨.hbm, 791, rfl⟩
abbrev main_v549 : Ref sig .tc := ⟨.hbm, 792, rfl⟩
abbrev main_v550 : Ref sig .tc := ⟨.hbm, 793, rfl⟩
abbrev main_v551 : Ref sig .tc := ⟨.hbm, 794, rfl⟩
abbrev main_v552 : Ref sig .tc := ⟨.hbm, 795, rfl⟩
abbrev main_v553 : Ref sig .tc := ⟨.hbm, 796, rfl⟩
abbrev main_v554 : Ref sig .tc := ⟨.hbm, 797, rfl⟩
abbrev main_v555 : Ref sig .tc := ⟨.hbm, 798, rfl⟩
abbrev main_v556 : Ref sig .tc := ⟨.hbm, 799, rfl⟩
abbrev main_v557 : Ref sig .tc := ⟨.hbm, 800, rfl⟩
abbrev main_cst_140 : Ref sig .tc := ⟨.hbm, 801, rfl⟩
abbrev main_v558 : Ref sig .tc := ⟨.hbm, 802, rfl⟩
abbrev main_c_141 : Ref sig .tc := ⟨.hbm, 803, rfl⟩
abbrev main_v559 : Ref sig .tc := ⟨.hbm, 804, rfl⟩
abbrev main_v560 : Ref sig .tc := ⟨.hbm, 805, rfl⟩
abbrev main_c_142 : Ref sig .tc := ⟨.hbm, 806, rfl⟩
abbrev main_v561 : Ref sig .tc := ⟨.hbm, 807, rfl⟩
abbrev main_v562 : Ref sig .tc := ⟨.hbm, 808, rfl⟩
abbrev main_v563 : Ref sig .tc := ⟨.hbm, 809, rfl⟩
abbrev main_v564 : Ref sig .tc := ⟨.hbm, 810, rfl⟩
abbrev main_v565 : Ref sig .tc := ⟨.hbm, 811, rfl⟩
abbrev main_cst_143 : Ref sig .tc := ⟨.hbm, 812, rfl⟩
abbrev main_v566 : Ref sig .tc := ⟨.hbm, 813, rfl⟩
abbrev main_cst_144 : Ref sig .tc := ⟨.hbm, 814, rfl⟩
abbrev main_v567 : Ref sig .tc := ⟨.hbm, 815, rfl⟩
abbrev main_c_145 : Ref sig .tc := ⟨.hbm, 816, rfl⟩
abbrev main_v568 : Ref sig .tc := ⟨.hbm, 817, rfl⟩
abbrev main_v569 : Ref sig .tc := ⟨.hbm, 818, rfl⟩
abbrev main_c_146 : Ref sig .tc := ⟨.hbm, 819, rfl⟩
abbrev main_v570 : Ref sig .tc := ⟨.hbm, 820, rfl⟩
abbrev main_v571 : Ref sig .tc := ⟨.hbm, 821, rfl⟩
abbrev main_v572 : Ref sig .tc := ⟨.hbm, 822, rfl⟩
abbrev main_v573 : Ref sig .tc := ⟨.hbm, 823, rfl⟩
abbrev main_v574 : Ref sig .tc := ⟨.hbm, 824, rfl⟩
abbrev main_cst_147 : Ref sig .tc := ⟨.hbm, 825, rfl⟩
abbrev main_call11_v0 : Ref sig .tc := ⟨.hbm, 826, rfl⟩
abbrev main_call11_v1 : Ref sig .tc := ⟨.hbm, 827, rfl⟩
abbrev main_v575 : Ref sig .tc := ⟨.hbm, 828, rfl⟩
abbrev main_v576 : Ref sig .tc := ⟨.hbm, 829, rfl⟩
abbrev main_v577 : Ref sig .tc := ⟨.hbm, 830, rfl⟩
abbrev main_v578 : Ref sig .tc := ⟨.hbm, 831, rfl⟩
abbrev main_v579 : Ref sig .tc := ⟨.hbm, 832, rfl⟩
abbrev main_v580 : Ref sig .tc := ⟨.hbm, 833, rfl⟩
abbrev main_v581 : Ref sig .tc := ⟨.hbm, 834, rfl⟩

abbrev nD : Nat := 1
abbrev τ : Topo := Topo.v7x

variable {F : FTy → Type} [FloatOps F]
-- ==== Proof.Frames.lean ====
/-
  The frames: each program terminates, leaves its arguments as they were, and every semaphore counter ends at zero. For the kernel
  and its idealization they are the generated frames. The reference is a line of host operations and declares no semaphore, so its
  counters are at zero trivially.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_ranges
public import Idealize.ShloMosaic.Lib.Claim
public import Idealize.ShloMosaic.Lib.Quiescent

@[expose] public section

noncomputable section

namespace Cert.Frames

open Idealize.ShloMosaic Idealize.SL.Sem

attribute [local instance] Cert.Kernel.Gen.facts Cert.KernelIdeal.Gen.facts Cert.ReferenceIdeal.Gen.facts Cert.Pre_ranges.Gen.facts

/-- The kernel's frame. -/
theorem kernel : Cert.quiescent_Kernel := fun m g _ => Cert.Kernel.Gen.frame m g

/-- The idealized kernel's frame. -/
theorem kernelIdeal : Cert.quiescent_KernelIdeal := fun m g _ => Cert.KernelIdeal.Gen.frame m g

/-- The idealized kernel's frame, under the ranges of the indices. -/
theorem kernelIdeal_pre : Cert.quiescent_KernelIdeal_pre_ranges := fun m g _ => Cert.KernelIdeal.Gen.frame m g

/-- The reference's frame. -/
theorem reference : Cert.quiescent_ReferenceIdeal := fun m g _ =>
  θ_run_mono (Cert.ReferenceIdeal.Value.run m g) fun r hr =>
    ⟨fun c => (hr c).2, sem_eq_zero_of_no_sems rfl r.2⟩

/-- The reference's frame, under the ranges of the indices. -/
theorem reference_pre : Cert.quiescent_ReferenceIdeal_pre_ranges := fun m g _ => reference m g trivial

/-- The mask written as a large negative literal is named minus infinity: the rule's own statement. -/
theorem preserves : Cert.preserves_Kernel_KernelIdeal :=
  IdealRules.named_const.statement Cert.KernelIdeal.κ "mask" .f32 0xF149F2CA#32 ⊥ rfl

end Cert.Frames

end
-- ==== Proof.Val.Scatter.lean ====
/-
  Reading a gather or an adding scatter at an index, for the patterns of dimension numbers that the two programs use: a row (or an
  element) of an array chosen by one index column, or an element chosen by a pair of index columns. Each scatter lemma reads the
  result as the operand's element plus a sum over the updates, each counted where its index is the element's.
-/
module

public import Idealize.ShloMosaic.Lib.Pointwise
public import Idealize.ShloMosaic.Lib.IdealHost

@[expose] public section

noncomputable section

namespace Cert.Val

open Idealize.ShloMosaic

/-- Where an update lands: on every axis its start plus its place in the window is the element's coordinate. -/
theorem resultIdx_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq]
    constructor
    · rintro rfl a
      have := h a
      simp only
      omega
    · intro h'
      funext a
      apply Fin.ext
      have := h' a
      simp only
      omega
  · rename_i h
    constructor
    · intro h'; cases h'
    · intro h'
      refine absurd (fun a => ?_) h
      have := h' a
      have := (i a).isLt
      omega

/-- An adding scatter at an index: the operand's element plus every update that lands there. -/
theorem scatterAdd_apply {s si u : Shape} (d : ScatterDims s si u) {w : Nat} (x : FVec Ideal s .f32) (idx : IVec si w)
    (y : FVec Ideal u .f32) (i : s.Idx) :
    Host.scatterAdd d x idx y i
      = x i + ∑ j : u.Idx, if ∀ a, d.start j idx a + d.window j a = ((i a).val : ℤ) then y j else (0 : EReal) := by
  show x i + _ = _
  congr 1
  rw [Finset.sum_filter]
  refine Finset.sum_congr rfl fun j _ => ?_
  simp only [resultIdx_eq_some_iff]

/-- A sum over one more axis, of terms counted only at one place of that axis. -/
theorem sum_if_and {n : Nat} (p : Prop) [Decidable p] (i : Fin n) (f : Fin n → EReal) :
    (∑ j : Fin n, if p ∧ j = i then f j else (0 : EReal)) = if p then f i else 0 := by
  by_cases hp : p
  · simp only [hp, true_and, if_true]
    rw [Finset.sum_ite_eq' Finset.univ i f, if_pos (Finset.mem_univ _)]
  · simp [hp]

/-- The same sum with the axis's place first. -/
theorem sum_if_and' {n : Nat} (p : Fin n → Prop) [DecidablePred p] (i : Fin n) (f : Fin n → EReal) :
    (∑ j : Fin n, if j = i ∧ p j then f j else (0 : EReal)) = if p i then f i else 0 := by
  rw [Finset.sum_eq_single i]
  · simp
  · intro b _ hb; simp [hb]
  · simp

/-- Elements of a vector chosen by one index column. -/
theorem scatter1_apply {n e : Nat} (d : ScatterDims ⟨1, ![n]⟩ ⟨2, ![e, 1]⟩ ⟨1, ![e]⟩)
    (hd : d.updateWindowDims = [] ∧ d.insertedWindowDims = [0] ∧ d.scatterDimsToOperandDims = [0] ∧ d.indexVectorDim = 1)
    (x : FVec Ideal ⟨1, ![n]⟩ .f32) (idx : IVec ⟨2, ![e, 1]⟩ 32) (y : FVec Ideal ⟨1, ![e]⟩ .f32) (v : Fin n) :
    Host.scatterAdd d x idx y (ix1 v)
      = x (ix1 v) + ∑ k : Fin e, if (idx (ix2 k 0)).toInt = (v.val : ℤ) then y (ix1 k) else (0 : EReal) := by
  rw [scatterAdd_apply, sum_idx1]
  congr 1
  refine Finset.sum_congr rfl fun k _ => ?_
  obtain ⟨uw, iw, sd, iv, wf⟩ := d
  obtain ⟨rfl, rfl, rfl, rfl⟩ := hd
  congr 1
  refine propext ⟨fun h => ?_, fun h a => ?_⟩
  · have h0 : (idx _).toInt + ((0 : Nat) : ℤ) = (v.val : ℤ) := h 0
    rw [← h0, Nat.cast_zero, add_zero]
    congr 2; funext a
    match a with | ⟨0, _⟩ => rfl | ⟨1, _⟩ => rfl
  · match a with
    | ⟨0, _⟩ =>
      show (idx _).toInt + ((0 : Nat) : ℤ) = (v.val : ℤ)
      rw [← h, Nat.cast_zero, add_zero]
      congr 2; funext a
      match a with | ⟨0, _⟩ => rfl | ⟨1, _⟩ => rfl

/-- Rows of a matrix chosen by one index column. -/
theorem scatter2_apply {n c e : Nat} (d : ScatterDims ⟨2, ![n, c]⟩ ⟨2, ![e, 1]⟩ ⟨2, ![e, c]⟩)
    (hd : d.updateWindowDims = [1] ∧ d.insertedWindowDims = [0] ∧ d.scatterDimsToOperandDims = [0] ∧ d.indexVectorDim = 1)
    (x : FVec Ideal ⟨2, ![n, c]⟩ .f32) (idx : IVec ⟨2, ![e, 1]⟩ 32) (y : FVec Ideal ⟨2, ![e, c]⟩ .f32) (v : Fin n) (q : Fin c) :
    Host.scatterAdd d x idx y (ix2 v q)
      = x (ix2 v q) + ∑ k : Fin e, if (idx (ix2 k 0)).toInt = (v.val : ℤ) then y (ix2 k q) else (0 : EReal) := by
  rw [scatterAdd_apply, sum_idx2]
  congr 1
  refine Finset.sum_congr rfl fun k _ => ?_
  obtain ⟨uw, iw, sd, iv, wf⟩ := d
  obtain ⟨rfl, rfl, rfl, rfl⟩ := hd
  rw [← sum_if_and _ q fun j => y (ix2 k j)]
  refine Finset.sum_congr rfl fun j _ => ?_
  congr 1
  refine propext ⟨fun h => ⟨?_, ?_⟩, fun h a => ?_⟩
  · have h0 : (idx _).toInt + ((0 : Nat) : ℤ) = (v.val : ℤ) := h 0
    rw [← h0, Nat.cast_zero, add_zero]
    congr 2; funext a
    match a with | ⟨0, _⟩ => rfl | ⟨1, _⟩ => rfl
  · have h1 : (0 : ℤ) + ((j.val : Nat) : ℤ) = (q.val : ℤ) := h 1
    exact Fin.ext (by omega)
  · match a with
    | ⟨0, _⟩ =>
      show (idx _).toInt + ((0 : Nat) : ℤ) = (v.val : ℤ)
      rw [← h.1, Nat.cast_zero, add_zero]
      congr 2; funext a
      match a with | ⟨0, _⟩ => rfl | ⟨1, _⟩ => rfl
    | ⟨1, _⟩ =>
      show (0 : ℤ) + ((j.val : Nat) : ℤ) = (q.val : ℤ)
      rw [h.2, zero_add]

/-- Slabs of an array of rank 3 chosen by one index column. -/
theorem scatter3_apply {n b c e : Nat} (d : ScatterDims ⟨3, ![n, b, c]⟩ ⟨2, ![e, 1]⟩ ⟨3, ![e, b, c]⟩)
    (hd : d.updateWindowDims = [1, 2] ∧ d.insertedWindowDims = [0] ∧ d.scatterDimsToOperandDims = [0] ∧ d.indexVectorDim = 1)
    (x : FVec Ideal ⟨3, ![n, b, c]⟩ .f32) (idx : IVec ⟨2, ![e, 1]⟩ 32) (y : FVec Ideal ⟨3, ![e, b, c]⟩ .f32)
    (v : Fin n) (p : Fin b) (q : Fin c) :
    Host.scatterAdd d x idx y (ix3 v p q)
      = x (ix3 v p q) + ∑ k : Fin e, if (idx (ix2 k 0)).toInt = (v.val : ℤ) then y (ix3 k p q) else (0 : EReal) := by
  rw [scatterAdd_apply, sum_idx3]
  congr 1
  refine Finset.sum_congr rfl fun k _ => ?_
  obtain ⟨uw, iw, sd, iv, wf⟩ := d
  obtain ⟨rfl, rfl, rfl, rfl⟩ := hd
  rw [← sum_if_and _ p fun i => y (ix3 k i q)]
  refine Finset.sum_congr rfl fun i _ => ?_
  rw [← sum_if_and _ q fun j => y (ix3 k i j)]
  refine Finset.sum_congr rfl fun j _ => ?_
  congr 1
  refine propext ⟨fun h => ⟨⟨?_, ?_⟩, ?_⟩, fun h a => ?_⟩
  · have h0 : (idx _).toInt + ((0 : Nat) : ℤ) = (v.val : ℤ) := h 0
    rw [← h0, Nat.cast_zero, add_zero]
    congr 2; funext a
    match a with | ⟨0, _⟩ => rfl | ⟨1, _⟩ => rfl
  · have h1 : (0 : ℤ) + ((i.val : Nat) : ℤ) = (p.val : ℤ) := h 1
    exact Fin.ext (by omega)
  · have h1 : (0 : ℤ) + ((j.val : Nat) : ℤ) = (q.val : ℤ) := h 2
    exact Fin.ext (by omega)
  · match a with
    | ⟨0, _⟩ =>
      show (idx _).toInt + ((0 : Nat) : ℤ) = (v.val : ℤ)
      rw [← h.1.1, Nat.cast_zero, add_zero]
      congr 2; funext a
      match a with | ⟨0, _⟩ => rfl | ⟨1, _⟩ => rfl
    | ⟨1, _⟩ =>
      show (0 : ℤ) + ((i.val : Nat) : ℤ) = (p.val : ℤ)
      rw [h.1.2, zero_add]
    | ⟨2, _⟩ =>
      show (0 : ℤ) + ((j.val : Nat) : ℤ) = (q.val : ℤ)
      rw [h.2, zero_add]

/-- Elements of a matrix chosen by a pair of index columns, the first of which is the row's own number. -/
theorem scatterRow2_apply {r n e : Nat} (d : ScatterDims ⟨2, ![r, n]⟩ ⟨3, ![r, e, 2]⟩ ⟨2, ![r, e]⟩)
    (hd : d.updateWindowDims = [] ∧ d.insertedWindowDims = [0, 1] ∧ d.scatterDimsToOperandDims = [0, 1] ∧ d.indexVectorDim = 2)
    (x : FVec Ideal ⟨2, ![r, n]⟩ .f32) (idx : IVec ⟨3, ![r, e, 2]⟩ 32) (y : FVec Ideal ⟨2, ![r, e]⟩ .f32)
    (hi : ∀ a k, (idx (ix3 a k 0)).toInt = (a.val : ℤ)) (a : Fin r) (v : Fin n) :
    Host.scatterAdd d x idx y (ix2 a v)
      = x (ix2 a v) + ∑ k : Fin e, if (idx (ix3 a k 1)).toInt = (v.val : ℤ) then y (ix2 a k) else (0 : EReal) := by
  rw [scatterAdd_apply, sum_idx2, Finset.sum_comm]
  congr 1
  refine Finset.sum_congr rfl fun k _ => ?_
  obtain ⟨uw, iw, sd, iv, wf⟩ := d
  obtain ⟨rfl, rfl, rfl, rfl⟩ := hd
  rw [← sum_if_and' (fun b => (idx (ix3 b k 1)).toInt = (v.val : ℤ)) a fun b => y (ix2 b k)]
  refine Finset.sum_congr rfl fun b _ => ?_
  congr 1
  have e0 : ∀ z : (⟨3, ![r, e, 2]⟩ : Shape).Idx, z = ix3 b k 0 → (idx z).toInt = (b.val : ℤ) := fun z hz => hz ▸ hi b k
  refine propext ⟨fun h => ⟨?_, ?_⟩, fun h c => ?_⟩
  · have h0 : (idx _).toInt + ((0 : Nat) : ℤ) = (a.val : ℤ) := h 0
    rw [e0 _ (by funext c; match c with | ⟨0, _⟩ => rfl | ⟨1, _⟩ => rfl | ⟨2, _⟩ => rfl)] at h0
    exact Fin.ext (by omega)
  · have h0 : (idx _).toInt + ((0 : Nat) : ℤ) = (v.val : ℤ) := h 1
    rw [← h0, Nat.cast_zero, add_zero]
    congr 2; funext c
    match c with | ⟨0, _⟩ => rfl | ⟨1, _⟩ => rfl | ⟨2, _⟩ => rfl
  · match c with
    | ⟨0, _⟩ =>
      show (idx _).toInt + ((0 : Nat) : ℤ) = (a.val : ℤ)
      rw [e0 _ (by funext c; match c with | ⟨0, _⟩ => rfl | ⟨1, _⟩ => rfl | ⟨2, _⟩ => rfl), h.1, Nat.cast_zero, add_zero]
    | ⟨1, _⟩ =>
      show (idx _).toInt + ((0 : Nat) : ℤ) = (v.val : ℤ)
      rw [← h.2, Nat.cast_zero, add_zero]
      congr 2; funext c
      match c with | ⟨0, _⟩ => rfl | ⟨1, _⟩ => rfl | ⟨2, _⟩ => rfl

/-- Rows of an array of rank 3 chosen by a pair of index columns, the first of which is the first axis's own number. -/
theorem scatterRow3_apply {r n q e : Nat} (d : ScatterDims ⟨3, ![r, n, q]⟩ ⟨3, ![r, e, 2]⟩ ⟨3, ![r, e, q]⟩)
    (hd : d.updateWindowDims = [2] ∧ d.insertedWindowDims = [0, 1] ∧ d.scatterDimsToOperandDims = [0, 1] ∧ d.indexVectorDim = 2)
    (x : FVec Ideal ⟨3, ![r, n, q]⟩ .f32) (idx : IVec ⟨3, ![r, e, 2]⟩ 32) (y : FVec Ideal ⟨3, ![r, e, q]⟩ .f32)
    (hi : ∀ a k, (idx (ix3 a k 0)).toInt = (a.val : ℤ)) (a : Fin r) (v : Fin n) (p : Fin q) :
    Host.scatterAdd d x idx y (ix3 a v p)
      = x (ix3 a v p) + ∑ k : Fin e, if (idx (ix3 a k 1)).toInt = (v.val : ℤ) then y (ix3 a k p) else (0 : EReal) := by
  rw [scatterAdd_apply, sum_idx3, Finset.sum_comm]
  congr 1
  refine Finset.sum_congr rfl fun k _ => ?_
  obtain ⟨uw, iw, sd, iv, wf⟩ := d
  obtain ⟨rfl, rfl, rfl, rfl⟩ := hd
  rw [← sum_if_and' (fun b => (idx (ix3 b k 1)).toInt = (v.val : ℤ)) a fun b => y (ix3 b k p)]
  refine Finset.sum_congr rfl fun b _ => ?_
  rw [← sum_if_and _ p fun j => y (ix3 b k j)]
  refine Finset.sum_congr rfl fun j _ => ?_
  congr 1
  have e0 : ∀ z : (⟨3, ![r, e, 2]⟩ : Shape).Idx, z = ix3 b k 0 → (idx z).toInt = (b.val : ℤ) := fun z hz => hz ▸ hi b k
  refine propext ⟨fun h => ⟨⟨?_, ?_⟩, ?_⟩, fun h c => ?_⟩
  · have h0 : (idx _).toInt + ((0 : Nat) : ℤ) = (a.val : ℤ) := h 0
    rw [e0 _ (by funext c; match c with | ⟨0, _⟩ => rfl | ⟨1, _⟩ => rfl | ⟨2, _⟩ => rfl)] at h0
    exact Fin.ext (by omega)
  · have h0 : (idx _).toInt + ((0 : Nat) : ℤ) = (v.val : ℤ) := h 1
    rw [← h0, Nat.cast_zero, add_zero]
    congr 2; funext c
    match c with | ⟨0, _⟩ => rfl | ⟨1, _⟩ => rfl | ⟨2, _⟩ => rfl
  · have h1 : (0 : ℤ) + ((j.val : Nat) : ℤ) = (p.val : ℤ) := h 2
    exact Fin.ext (by omega)
  · match c with
    | ⟨0, _⟩ =>
      show (idx _).toInt + ((0 : Nat) : ℤ) = (a.val : ℤ)
      rw [e0 _ (by funext c; match c with | ⟨0, _⟩ => rfl | ⟨1, _⟩ => rfl | ⟨2, _⟩ => rfl), h.1.1, Nat.cast_zero, add_zero]
    | ⟨1, _⟩ =>
      show (idx _).toInt + ((0 : Nat) : ℤ) = (v.val : ℤ)
      rw [← h.1.2, Nat.cast_zero, add_zero]
      congr 2; funext c
      match c with | ⟨0, _⟩ => rfl | ⟨1, _⟩ => rfl | ⟨2, _⟩ => rfl
    | ⟨2, _⟩ =>
      show (0 : ℤ) + ((j.val : Nat) : ℤ) = (p.val : ℤ)
      rw [h.2, zero_add]

/-- Columns of a matrix chosen by one index column. -/
theorem scatterCol2_apply {r n e : Nat} (d : ScatterDims ⟨2, ![r, n]⟩ ⟨2, ![e, 1]⟩ ⟨2, ![r, e]⟩)
    (hd : d.updateWindowDims = [0] ∧ d.insertedWindowDims = [1] ∧ d.scatterDimsToOperandDims = [1] ∧ d.indexVectorDim = 1)
    (x : FVec Ideal ⟨2, ![r, n]⟩ .f32) (idx : IVec ⟨2, ![e, 1]⟩ 32) (y : FVec Ideal ⟨2, ![r, e]⟩ .f32) (a : Fin r) (v : Fin n) :
    Host.scatterAdd d x idx y (ix2 a v)
      = x (ix2 a v) + ∑ k : Fin e, if (idx (ix2 k 0)).toInt = (v.val : ℤ) then y (ix2 a k) else (0 : EReal) := by
  rw [scatterAdd_apply, sum_idx2, Finset.sum_comm]
  congr 1
  refine Finset.sum_congr rfl fun k _ => ?_
  obtain ⟨uw, iw, sd, iv, wf⟩ := d
  obtain ⟨rfl, rfl, rfl, rfl⟩ := hd
  rw [← sum_if_and _ a fun b => y (ix2 b k)]
  refine Finset.sum_congr rfl fun b _ => ?_
  congr 1
  refine propext ⟨fun h => ⟨?_, ?_⟩, fun h c => ?_⟩
  · have h0 : (idx _).toInt + ((0 : Nat) : ℤ) = (v.val : ℤ) := h 1
    rw [← h0, Nat.cast_zero, add_zero]
    congr 2; funext c
    match c with | ⟨0, _⟩ => rfl | ⟨1, _⟩ => rfl
  · have h1 : (0 : ℤ) + ((b.val : Nat) : ℤ) = (a.val : ℤ) := h 0
    exact Fin.ext (by omega)
  · match c with
    | ⟨1, _⟩ =>
      show (idx _).toInt + ((0 : Nat) : ℤ) = (v.val : ℤ)
      rw [← h.1, Nat.cast_zero, add_zero]
      congr 2; funext c
      match c with | ⟨0, _⟩ => rfl | ⟨1, _⟩ => rfl
    | ⟨0, _⟩ =>
      show (0 : ℤ) + ((b.val : Nat) : ℤ) = (a.val : ℤ)
      rw [h.2, zero_add]

/-- Rows of every slab of an array of rank 3 chosen by one index column. -/
theorem scatterCol3_apply {r n q e : Nat} (d : ScatterDims ⟨3, ![r, n, q]⟩ ⟨2, ![e, 1]⟩ ⟨3, ![r, e, q]⟩)
    (hd : d.updateWindowDims = [0, 2] ∧ d.insertedWindowDims = [1] ∧ d.scatterDimsToOperandDims = [1] ∧ d.indexVectorDim = 1)
    (x : FVec Ideal ⟨3, ![r, n, q]⟩ .f32) (idx : IVec ⟨2, ![e, 1]⟩ 32) (y : FVec Ideal ⟨3, ![r, e, q]⟩ .f32)
    (a : Fin r) (v : Fin n) (p : Fin q) :
    Host.scatterAdd d x idx y (ix3 a v p)
      = x (ix3 a v p) + ∑ k : Fin e, if (idx (ix2 k 0)).toInt = (v.val : ℤ) then y (ix3 a k p) else (0 : EReal) := by
  rw [scatterAdd_apply, sum_idx3, Finset.sum_comm]
  congr 1
  refine Finset.sum_congr rfl fun k _ => ?_
  obtain ⟨uw, iw, sd, iv, wf⟩ := d
  obtain ⟨rfl, rfl, rfl, rfl⟩ := hd
  rw [← sum_if_and _ a fun b => y (ix3 b k p)]
  refine Finset.sum_congr rfl fun b _ => ?_
  rw [← sum_if_and _ p fun j => y (ix3 b k j)]
  refine Finset.sum_congr rfl fun j _ => ?_
  congr 1
  refine propext ⟨fun h => ⟨⟨?_, ?_⟩, ?_⟩, fun h c => ?_⟩
  · have h0 : (idx _).toInt + ((0 : Nat) : ℤ) = (v.val : ℤ) := h 1
    rw [← h0, Nat.cast_zero, add_zero]
    congr 2; funext c
    match c with | ⟨0, _⟩ => rfl | ⟨1, _⟩ => rfl
  · have h1 : (0 : ℤ) + ((b.val : Nat) : ℤ) = (a.val : ℤ) := h 0
    exact Fin.ext (by omega)
  · have h1 : (0 : ℤ) + ((j.val : Nat) : ℤ) = (p.val : ℤ) := h 2
    exact Fin.ext (by omega)
  · match c with
    | ⟨1, _⟩ =>
      show (idx _).toInt + ((0 : Nat) : ℤ) = (v.val : ℤ)
      rw [← h.1.1, Nat.cast_zero, add_zero]
      congr 2; funext c
      match c with | ⟨0, _⟩ => rfl | ⟨1, _⟩ => rfl
    | ⟨0, _⟩ =>
      show (0 : ℤ) + ((b.val : Nat) : ℤ) = (a.val : ℤ)
      rw [h.1.2, zero_add]
    | ⟨2, _⟩ =>
      show (0 : ℤ) + ((j.val : Nat) : ℤ) = (p.val : ℤ)
      rw [h.2, zero_add]

/-- A clamped start that the array's bound does not change. -/
theorem min_start {n v : Nat} {i : ℤ} (hi : i = (v : ℤ)) (hv : v < n) : min i.toNat (n - 1) = v := by omega

/-- An element of a vector read at an index column. -/
theorem gather1_apply {α : Type} {n e : Nat} (d : GatherDims ⟨1, ![n]⟩ ⟨2, ![e, 1]⟩ ⟨1, ![e]⟩)
    (hd : d.offsetDims = [] ∧ d.collapsedSliceDims = [0] ∧ d.operandBatchingDims = [] ∧ d.startIndicesBatchingDims = []
      ∧ d.startIndexMap = [0] ∧ d.indexVectorDim = 1 ∧ d.sliceSizes = ![1])
    (x : Shape.Idx ⟨1, ![n]⟩ → α) (idx : IVec ⟨2, ![e, 1]⟩ 32) (k : Fin e) (v : Fin n)
    (hv : (idx (ix2 k 0)).toInt = (v.val : ℤ)) : Host.gather d x idx (ix1 k) = x (ix1 v) := by
  obtain ⟨od, cd, ob, sb, sm, iv, ss, wf⟩ := d
  obtain ⟨rfl, rfl, rfl, rfl, rfl, rfl, rfl⟩ := hd
  show x _ = x _
  congr 1; funext a; apply Fin.ext
  match a with
  | ⟨0, _⟩ =>
    show min (idx _).toInt.toNat (n - 1) + 0 + 0 = v.val
    show min (idx _).toInt.toNat _ = _
    refine min_start (Eq.trans ?_ hv) v.isLt
    congr 2; funext a
    match a with | ⟨0, _⟩ => rfl | ⟨1, _⟩ => rfl

/-- A row of a matrix read at an index column. -/
theorem gather2_apply {α : Type} {n c e : Nat} (d : GatherDims ⟨2, ![n, c]⟩ ⟨2, ![e, 1]⟩ ⟨2, ![e, c]⟩)
    (hd : d.offsetDims = [1] ∧ d.collapsedSliceDims = [0] ∧ d.operandBatchingDims = [] ∧ d.startIndicesBatchingDims = []
      ∧ d.startIndexMap = [0] ∧ d.indexVectorDim = 1 ∧ d.sliceSizes = ![1, c])
    (x : Shape.Idx ⟨2, ![n, c]⟩ → α) (idx : IVec ⟨2, ![e, 1]⟩ 32) (k : Fin e) (q : Fin c) (v : Fin n)
    (hv : (idx (ix2 k 0)).toInt = (v.val : ℤ)) : Host.gather d x idx (ix2 k q) = x (ix2 v q) := by
  obtain ⟨od, cd, ob, sb, sm, iv, ss, wf⟩ := d
  obtain ⟨rfl, rfl, rfl, rfl, rfl, rfl, rfl⟩ := hd
  show x _ = x _
  congr 1; funext a; apply Fin.ext
  match a with
  | ⟨0, _⟩ =>
    show min (idx _).toInt.toNat (n - 1) + 0 + 0 = v.val
    show min (idx _).toInt.toNat _ = _
    refine min_start (Eq.trans ?_ hv) v.isLt
    congr 2; funext a
    match a with | ⟨0, _⟩ => rfl | ⟨1, _⟩ => rfl
  | ⟨1, _⟩ =>
    show 0 + 0 + q.val = q.val
    omega

/-- A slab of an array of rank 3 read at an index column. -/
theorem gather3_apply {α : Type} {n b c e : Nat} (d : GatherDims ⟨3, ![n, b, c]⟩ ⟨2, ![e, 1]⟩ ⟨3, ![e, b, c]⟩)
    (hd : d.offsetDims = [1, 2] ∧ d.collapsedSliceDims = [0] ∧ d.operandBatchingDims = [] ∧ d.startIndicesBatchingDims = []
      ∧ d.startIndexMap = [0] ∧ d.indexVectorDim = 1 ∧ d.sliceSizes = ![1, b, c])
    (x : Shape.Idx ⟨3, ![n, b, c]⟩ → α) (idx : IVec ⟨2, ![e, 1]⟩ 32) (k : Fin e) (p : Fin b) (q : Fin c) (v : Fin n)
    (hv : (idx (ix2 k 0)).toInt = (v.val : ℤ)) : Host.gather d x idx (ix3 k p q) = x (ix3 v p q) := by
  obtain ⟨od, cd, ob, sb, sm, iv, ss, wf⟩ := d
  obtain ⟨rfl, rfl, rfl, rfl, rfl, rfl, rfl⟩ := hd
  show x _ = x _
  congr 1; funext a; apply Fin.ext
  match a with
  | ⟨0, _⟩ =>
    show min (idx _).toInt.toNat (n - 1) + 0 + 0 = v.val
    show min (idx _).toInt.toNat _ = _
    refine min_start (Eq.trans ?_ hv) v.isLt
    congr 2; funext a
    match a with | ⟨0, _⟩ => rfl | ⟨1, _⟩ => rfl
  | ⟨1, _⟩ =>
    show 0 + 0 + p.val = p.val
    omega
  | ⟨2, _⟩ =>
    show 0 + 0 + q.val = q.val
    omega

/-- An element of a matrix read at a pair of index columns. -/
theorem gatherRow2_apply {α : Type} {r n e : Nat} (d : GatherDims ⟨2, ![r, n]⟩ ⟨3, ![r, e, 2]⟩ ⟨2, ![r, e]⟩)
    (hd : d.offsetDims = [] ∧ d.collapsedSliceDims = [0, 1] ∧ d.operandBatchingDims = [] ∧ d.startIndicesBatchingDims = []
      ∧ d.startIndexMap = [0, 1] ∧ d.indexVectorDim = 2 ∧ d.sliceSizes = ![1, 1])
    (x : Shape.Idx ⟨2, ![r, n]⟩ → α) (idx : IVec ⟨3, ![r, e, 2]⟩ 32) (a : Fin r) (k : Fin e) (b : Fin r) (v : Fin n)
    (hb : (idx (ix3 a k 0)).toInt = (b.val : ℤ)) (hv : (idx (ix3 a k 1)).toInt = (v.val : ℤ)) :
    Host.gather d x idx (ix2 a k) = x (ix2 b v) := by
  obtain ⟨od, cd, ob, sb, sm, iv, ss, wf⟩ := d
  obtain ⟨rfl, rfl, rfl, rfl, rfl, rfl, rfl⟩ := hd
  show x _ = x _
  congr 1; funext c; apply Fin.ext
  match c with
  | ⟨0, _⟩ =>
    show min (idx _).toInt.toNat (r - 1) + 0 + 0 = b.val
    show min (idx _).toInt.toNat _ = _
    refine min_start (Eq.trans ?_ hb) b.isLt
    congr 2; funext c
    match c with | ⟨0, _⟩ => rfl | ⟨1, _⟩ => rfl | ⟨2, _⟩ => rfl
  | ⟨1, _⟩ =>
    show min (idx _).toInt.toNat (n - 1) + 0 + 0 = v.val
    show min (idx _).toInt.toNat _ = _
    refine min_start (Eq.trans ?_ hv) v.isLt
    congr 2; funext c
    match c with | ⟨0, _⟩ => rfl | ⟨1, _⟩ => rfl | ⟨2, _⟩ => rfl

/-- A row of an array of rank 3 read at a pair of index columns. -/
theorem gatherRow3_apply {α : Type} {r n q e : Nat} (d : GatherDims ⟨3, ![r, n, q]⟩ ⟨3, ![r, e, 2]⟩ ⟨3, ![r, e, q]⟩)
    (hd : d.offsetDims = [2] ∧ d.collapsedSliceDims = [0, 1] ∧ d.operandBatchingDims = [] ∧ d.startIndicesBatchingDims = []
      ∧ d.startIndexMap = [0, 1] ∧ d.indexVectorDim = 2 ∧ d.sliceSizes = ![1, 1, q])
    (x : Shape.Idx ⟨3, ![r, n, q]⟩ → α) (idx : IVec ⟨3, ![r, e, 2]⟩ 32) (a : Fin r) (k : Fin e) (p : Fin q) (b : Fin r) (v : Fin n)
    (hb : (idx (ix3 a k 0)).toInt = (b.val : ℤ)) (hv : (idx (ix3 a k 1)).toInt = (v.val : ℤ)) :
    Host.gather d x idx (ix3 a k p) = x (ix3 b v p) := by
  obtain ⟨od, cd, ob, sb, sm, iv, ss, wf⟩ := d
  obtain ⟨rfl, rfl, rfl, rfl, rfl, rfl, rfl⟩ := hd
  show x _ = x _
  congr 1; funext c; apply Fin.ext
  match c with
  | ⟨0, _⟩ =>
    show min (idx _).toInt.toNat (r - 1) + 0 + 0 = b.val
    show min (idx _).toInt.toNat _ = _
    refine min_start (Eq.trans ?_ hb) b.isLt
    congr 2; funext c
    match c with | ⟨0, _⟩ => rfl | ⟨1, _⟩ => rfl | ⟨2, _⟩ => rfl
  | ⟨1, _⟩ =>
    show min (idx _).toInt.toNat (n - 1) + 0 + 0 = v.val
    show min (idx _).toInt.toNat _ = _
    refine min_start (Eq.trans ?_ hv) v.isLt
    congr 2; funext c
    match c with | ⟨0, _⟩ => rfl | ⟨1, _⟩ => rfl | ⟨2, _⟩ => rfl
  | ⟨2, _⟩ =>
    show 0 + 0 + p.val = p.val
    omega

/-- A column of a matrix read at an index column. -/
theorem gatherCol2_apply {α : Type} {r n e : Nat} (d : GatherDims ⟨2, ![r, n]⟩ ⟨2, ![e, 1]⟩ ⟨2, ![r, e]⟩)
    (hd : d.offsetDims = [0] ∧ d.collapsedSliceDims = [1] ∧ d.operandBatchingDims = [] ∧ d.startIndicesBatchingDims = []
      ∧ d.startIndexMap = [1] ∧ d.indexVectorDim = 1 ∧ d.sliceSizes = ![r, 1])
    (x : Shape.Idx ⟨2, ![r, n]⟩ → α) (idx : IVec ⟨2, ![e, 1]⟩ 32) (a : Fin r) (k : Fin e) (v : Fin n)
    (hv : (idx (ix2 k 0)).toInt = (v.val : ℤ)) : Host.gather d x idx (ix2 a k) = x (ix2 a v) := by
  obtain ⟨od, cd, ob, sb, sm, iv, ss, wf⟩ := d
  obtain ⟨rfl, rfl, rfl, rfl, rfl, rfl, rfl⟩ := hd
  show x _ = x _
  congr 1; funext c; apply Fin.ext
  match c with
  | ⟨0, _⟩ =>
    show 0 + 0 + a.val = a.val
    omega
  | ⟨1, _⟩ =>
    show min (idx _).toInt.toNat (n - 1) + 0 + 0 = v.val
    show min (idx _).toInt.toNat _ = _
    refine min_start (Eq.trans ?_ hv) v.isLt
    congr 2; funext c
    match c with | ⟨0, _⟩ => rfl | ⟨1, _⟩ => rfl

/-- The wrap of a negative index is no change where the index is not negative. -/
theorem wrap_apply {s : Shape} (x y z : IVec s 32) (i : s.Idx) (hy : y i = 0) (hx : 0 ≤ (x i).toInt) :
    select (cmpi .slt x y) z x i = x i := by
  show Scalar.select (Scalar.cmpi .slt (x i) (y i)) (z i) (x i) = x i
  rw [hy]
  have h : BitVec.slt (x i) 0#32 = false := by
    simp [BitVec.slt]; omega
  have : Scalar.cmpi .slt (x i) (0 : BitVec 32) = 0#1 := by
    show BitVec.ofBool (BitVec.slt (x i) 0#32) = 0#1
    rw [h]; rfl
  rw [this]; rfl

end Cert.Val

end
-- ==== Proof.Val.RIdx.lean ====
/-
  The reference's gathers and scatters read at an index, one by one.
-/
module

public import proofs.«01_k».proof.Proof.Gen.ReferenceIdeal.Run
public import proofs.«01_k».proof.Proof.Val.Scatter

@[expose] public section

set_option maxRecDepth 16384

noncomputable section

namespace Cert.Val.R

open Idealize.ShloMosaic Cert.ReferenceIdeal Cert.ReferenceIdeal.Gen

attribute [local instance] Cert.ReferenceIdeal.Gen.facts

theorem scatter_S10x10000_S10x170000x2_S10x170000_n_01_01_2_apply (x : FVec Ideal S10x10000 .f32) (d : IVec S10x170000x2 32) (y : FVec Ideal S10x170000 .f32) (hi : ∀ a k, (d (ix3 a k 0)).toInt = (a.val : ℤ)) (a : Fin 10) (v : Fin 10000) :
    Host.scatterAdd scatter_S10x10000_S10x170000x2_S10x170000_n_01_01_2 x d y (ix2 a v)
      = x (ix2 a v) + ∑ k : Fin 170000, if (d (ix3 a k 1)).toInt = (v.val : ℤ) then y (ix2 a k) else (0 : EReal) :=
  scatterRow2_apply _ ⟨rfl, rfl, rfl, rfl⟩ x d y hi a v

theorem gather_S10x10000_S10x170000x2_S10x170000_n_01_n_n_01_2_11_apply (x : FVec Ideal S10x10000 .f32) (d : IVec S10x170000x2 32) (a : Fin 10) (k : Fin 170000) (b : Fin 10) (v : Fin 10000) (hb : (d (ix3 a k 0)).toInt = (b.val : ℤ))
    (hv : ((d (ix3 a k 1))).toInt = (v.val : ℤ)) : Host.gather gather_S10x10000_S10x170000x2_S10x170000_n_01_n_n_01_2_11 x d (ix2 a k) = x (ix2 b v) :=
  gatherRow2_apply _ ⟨rfl, rfl, rfl, rfl, rfl, rfl, rfl⟩ x d a k b v hb hv

theorem gather_S10x10000x8_S10x170000x2_S10x170000x8_2_01_n_n_01_2_118_apply (x : FVec Ideal S10x10000x8 .f32) (d : IVec S10x170000x2 32) (a : Fin 10) (k : Fin 170000) (p : Fin 8) (b : Fin 10) (v : Fin 10000) (hb : (d (ix3 a k 0)).toInt = (b.val : ℤ))
    (hv : ((d (ix3 a k 1))).toInt = (v.val : ℤ)) : Host.gather gather_S10x10000x8_S10x170000x2_S10x170000x8_2_01_n_n_01_2_118 x d (ix3 a k p) = x (ix3 b v p) :=
  gatherRow3_apply _ ⟨rfl, rfl, rfl, rfl, rfl, rfl, rfl⟩ x d a k p b v hb hv

theorem scatter_S10x10000x8_S10x170000x2_S10x170000x8_2_01_01_2_apply (x : FVec Ideal S10x10000x8 .f32) (d : IVec S10x170000x2 32) (y : FVec Ideal S10x170000x8 .f32) (hi : ∀ a k, (d (ix3 a k 0)).toInt = (a.val : ℤ)) (a : Fin 10) (v : Fin 10000) (p : Fin 8) :
    Host.scatterAdd scatter_S10x10000x8_S10x170000x2_S10x170000x8_2_01_01_2 x d y (ix3 a v p)
      = x (ix3 a v p) + ∑ k : Fin 170000, if (d (ix3 a k 1)).toInt = (v.val : ℤ) then y (ix3 a k p) else (0 : EReal) :=
  scatterRow3_apply _ ⟨rfl, rfl, rfl, rfl⟩ x d y hi a v p

theorem scatter_S50_S10000x1_S10000_n_0_0_1_apply (x : FVec Ideal S50 .f32) (d : IVec S10000x1 32) (y : FVec Ideal S10000 .f32) (v : Fin 50) :
    Host.scatterAdd scatter_S50_S10000x1_S10000_n_0_0_1 x d y (ix1 v)
      = x (ix1 v) + ∑ k : Fin 10000, if (d (ix2 k 0)).toInt = (v.val : ℤ) then y (ix1 k) else (0 : EReal) :=
  scatter1_apply _ ⟨rfl, rfl, rfl, rfl⟩ x d y v

theorem scatter_S10x50_S10000x1_S10x10000_0_1_1_1_apply (x : FVec Ideal S10x50 .f32) (d : IVec S10000x1 32) (y : FVec Ideal S10x10000 .f32) (a : Fin 10) (v : Fin 50) :
    Host.scatterAdd scatter_S10x50_S10000x1_S10x10000_0_1_1_1 x d y (ix2 a v)
      = x (ix2 a v) + ∑ k : Fin 10000, if (d (ix2 k 0)).toInt = (v.val : ℤ) then y (ix2 a k) else (0 : EReal) :=
  scatterCol2_apply _ ⟨rfl, rfl, rfl, rfl⟩ x d y a v

theorem gather_S10x50_S10000x1_S10x10000_0_1_n_n_1_1_101_apply (x : FVec Ideal S10x50 .f32) (d : IVec S10000x1 32) (a : Fin 10) (k : Fin 10000) (v : Fin 50)
    (hv : ((d (ix2 k 0))).toInt = (v.val : ℤ)) : Host.gather gather_S10x50_S10000x1_S10x10000_0_1_n_n_1_1_101 x d (ix2 a k) = x (ix2 a v) :=
  gatherCol2_apply _ ⟨rfl, rfl, rfl, rfl, rfl, rfl, rfl⟩ x d a k v hv

theorem scatter_S10x50x8_S10000x1_S10x10000x8_02_1_1_1_apply (x : FVec Ideal S10x50x8 .f32) (d : IVec S10000x1 32) (y : FVec Ideal S10x10000x8 .f32) (a : Fin 10) (v : Fin 50) (p : Fin 8) :
    Host.scatterAdd scatter_S10x50x8_S10000x1_S10x10000x8_02_1_1_1 x d y (ix3 a v p)
      = x (ix3 a v p) + ∑ k : Fin 10000, if (d (ix2 k 0)).toInt = (v.val : ℤ) then y (ix3 a k p) else (0 : EReal) :=
  scatterCol3_apply _ ⟨rfl, rfl, rfl, rfl⟩ x d y a v p

theorem scatter_S50_S5000x1_S5000_n_0_0_1_apply (x : FVec Ideal S50 .f32) (d : IVec S5000x1 32) (y : FVec Ideal S5000 .f32) (v : Fin 50) :
    Host.scatterAdd scatter_S50_S5000x1_S5000_n_0_0_1 x d y (ix1 v)
      = x (ix1 v) + ∑ k : Fin 5000, if (d (ix2 k 0)).toInt = (v.val : ℤ) then y (ix1 k) else (0 : EReal) :=
  scatter1_apply _ ⟨rfl, rfl, rfl, rfl⟩ x d y v

theorem scatter_S10x50x8_S5000x1_S10x5000x8_02_1_1_1_apply (x : FVec Ideal S10x50x8 .f32) (d : IVec S5000x1 32) (y : FVec Ideal S10x5000x8 .f32) (a : Fin 10) (v : Fin 50) (p : Fin 8) :
    Host.scatterAdd scatter_S10x50x8_S5000x1_S10x5000x8_02_1_1_1 x d y (ix3 a v p)
      = x (ix3 a v p) + ∑ k : Fin 5000, if (d (ix2 k 0)).toInt = (v.val : ℤ) then y (ix3 a k p) else (0 : EReal) :=
  scatterCol3_apply _ ⟨rfl, rfl, rfl, rfl⟩ x d y a v p

theorem gather_S500x4_S950x1_S950x4_1_0_n_n_0_1_14_apply (x : FVec Ideal S500x4 .f32) (d : IVec S950x1 32) (k : Fin 950) (q : Fin 4) (v : Fin 500)
    (hv : ((d (ix2 k 0))).toInt = (v.val : ℤ)) : Host.gather gather_S500x4_S950x1_S950x4_1_0_n_n_0_1_14 x d (ix2 k q) = x (ix2 v q) :=
  gather2_apply _ ⟨rfl, rfl, rfl, rfl, rfl, rfl, rfl⟩ x d k q v hv

theorem scatter_S500x4_S950x1_S950x4_1_0_0_1_apply (x : FVec Ideal S500x4 .f32) (d : IVec S950x1 32) (y : FVec Ideal S950x4 .f32) (v : Fin 500) (q : Fin 4) :
    Host.scatterAdd scatter_S500x4_S950x1_S950x4_1_0_0_1 x d y (ix2 v q)
      = x (ix2 v q) + ∑ k : Fin 950, if (d (ix2 k 0)).toInt = (v.val : ℤ) then y (ix2 k q) else (0 : EReal) :=
  scatter2_apply _ ⟨rfl, rfl, rfl, rfl⟩ x d y v q

theorem gather_S500x4x16_S950x1_S950x4x16_12_0_n_n_0_1_1416_apply (x : FVec Ideal S500x4x16 .f32) (d : IVec S950x1 32) (k : Fin 950) (p : Fin 4) (q : Fin 16) (v : Fin 500)
    (hv : ((d (ix2 k 0))).toInt = (v.val : ℤ)) : Host.gather gather_S500x4x16_S950x1_S950x4x16_12_0_n_n_0_1_1416 x d (ix3 k p q) = x (ix3 v p q) :=
  gather3_apply _ ⟨rfl, rfl, rfl, rfl, rfl, rfl, rfl⟩ x d k p q v hv

theorem scatter_S500x4x16_S950x1_S950x4x16_12_0_0_1_apply (x : FVec Ideal S500x4x16 .f32) (d : IVec S950x1 32) (y : FVec Ideal S950x4x16 .f32) (v : Fin 500) (p : Fin 4) (q : Fin 16) :
    Host.scatterAdd scatter_S500x4x16_S950x1_S950x4x16_12_0_0_1 x d y (ix3 v p q)
      = x (ix3 v p q) + ∑ k : Fin 950, if (d (ix2 k 0)).toInt = (v.val : ℤ) then y (ix3 k p q) else (0 : EReal) :=
  scatter3_apply _ ⟨rfl, rfl, rfl, rfl⟩ x d y v p q

theorem scatter_S50_S500x1_S500_n_0_0_1_apply (x : FVec Ideal S50 .f32) (d : IVec S500x1 32) (y : FVec Ideal S500 .f32) (v : Fin 50) :
    Host.scatterAdd scatter_S50_S500x1_S500_n_0_0_1 x d y (ix1 v)
      = x (ix1 v) + ∑ k : Fin 500, if (d (ix2 k 0)).toInt = (v.val : ℤ) then y (ix1 k) else (0 : EReal) :=
  scatter1_apply _ ⟨rfl, rfl, rfl, rfl⟩ x d y v

theorem gather_S50_S500x1_S500_n_0_n_n_0_1_1_apply (x : FVec Ideal S50 .f32) (d : IVec S500x1 32) (k : Fin 500) (v : Fin 50)
    (hv : ((d (ix2 k 0))).toInt = (v.val : ℤ)) : Host.gather gather_S50_S500x1_S500_n_0_n_n_0_1_1 x d (ix1 k) = x (ix1 v) :=
  gather1_apply _ ⟨rfl, rfl, rfl, rfl, rfl, rfl, rfl⟩ x d k v hv

theorem gather_S500x1_S950x1_S950x1_1_0_n_n_0_1_11_apply (x : FVec Ideal S500x1 .f32) (d : IVec S950x1 32) (k : Fin 950) (q : Fin 1) (v : Fin 500)
    (hv : ((d (ix2 k 0))).toInt = (v.val : ℤ)) : Host.gather gather_S500x1_S950x1_S950x1_1_0_n_n_0_1_11 x d (ix2 k q) = x (ix2 v q) :=
  gather2_apply _ ⟨rfl, rfl, rfl, rfl, rfl, rfl, rfl⟩ x d k q v hv

theorem scatter_S500x1_S950x1_S950x1_1_0_0_1_apply (x : FVec Ideal S500x1 .f32) (d : IVec S950x1 32) (y : FVec Ideal S950x1 .f32) (v : Fin 500) (q : Fin 1) :
    Host.scatterAdd scatter_S500x1_S950x1_S950x1_1_0_0_1 x d y (ix2 v q)
      = x (ix2 v q) + ∑ k : Fin 950, if (d (ix2 k 0)).toInt = (v.val : ℤ) then y (ix2 k q) else (0 : EReal) :=
  scatter2_apply _ ⟨rfl, rfl, rfl, rfl⟩ x d y v q

theorem gather_S500x1x16_S950x1_S950x1x16_12_0_n_n_0_1_1116_apply (x : FVec Ideal S500x1x16 .f32) (d : IVec S950x1 32) (k : Fin 950) (p : Fin 1) (q : Fin 16) (v : Fin 500)
    (hv : ((d (ix2 k 0))).toInt = (v.val : ℤ)) : Host.gather gather_S500x1x16_S950x1_S950x1x16_12_0_n_n_0_1_1116 x d (ix3 k p q) = x (ix3 v p q) :=
  gather3_apply _ ⟨rfl, rfl, rfl, rfl, rfl, rfl, rfl⟩ x d k p q v hv

theorem scatter_S500x1x16_S950x1_S950x1x16_12_0_0_1_apply (x : FVec Ideal S500x1x16 .f32) (d : IVec S950x1 32) (y : FVec Ideal S950x1x16 .f32) (v : Fin 500) (p : Fin 1) (q : Fin 16) :
    Host.scatterAdd scatter_S500x1x16_S950x1_S950x1x16_12_0_0_1 x d y (ix3 v p q)
      = x (ix3 v p q) + ∑ k : Fin 950, if (d (ix2 k 0)).toInt = (v.val : ℤ) then y (ix3 k p q) else (0 : EReal) :=
  scatter3_apply _ ⟨rfl, rfl, rfl, rfl⟩ x d y v p q

theorem scatter_S50x16_S500x1_S500x16_1_0_0_1_apply (x : FVec Ideal S50x16 .f32) (d : IVec S500x1 32) (y : FVec Ideal S500x16 .f32) (v : Fin 50) (q : Fin 16) :
    Host.scatterAdd scatter_S50x16_S500x1_S500x16_1_0_0_1 x d y (ix2 v q)
      = x (ix2 v q) + ∑ k : Fin 500, if (d (ix2 k 0)).toInt = (v.val : ℤ) then y (ix2 k q) else (0 : EReal) :=
  scatter2_apply _ ⟨rfl, rfl, rfl, rfl⟩ x d y v q

theorem scatter_S50x1_S500x1_S500x1_1_0_0_1_apply (x : FVec Ideal S50x1 .f32) (d : IVec S500x1 32) (y : FVec Ideal S500x1 .f32) (v : Fin 50) (q : Fin 1) :
    Host.scatterAdd scatter_S50x1_S500x1_S500x1_1_0_0_1 x d y (ix2 v q)
      = x (ix2 v q) + ∑ k : Fin 500, if (d (ix2 k 0)).toInt = (v.val : ℤ) then y (ix2 k q) else (0 : EReal) :=
  scatter2_apply _ ⟨rfl, rfl, rfl, rfl⟩ x d y v q

end Cert.Val.R

end
-- ==== Proof.Val.KHostA.lean ====
/-
  The kernel's graph convolution, as its first line of host operations writes it: the flat edge indices, the inverse root degrees, the
  linear map, and the convolution before its rectifier.
-/
module

public import proofs.«01_k».proof.Proof.Gen.KernelIdeal.Launch
public import Idealize.ShloMosaic.Lib.Claim
public import Idealize.ShloMosaic.Lib.StableHlo.RunRead

@[expose] public section

set_option maxRecDepth 16384

noncomputable section

namespace Cert.Val.K

open Idealize.ShloMosaic Cert.KernelIdeal Cert.KernelIdeal.Gen

attribute [local instance] Cert.KernelIdeal.Gen.facts

/-- The offset of each region's nodes among all nodes. -/
def offs : IVec S10x1 32 :=
  broadcastInDim S10x1 ![0] bcast_S10_S10x1_0
    (muli (iotaInDim S10 32 0) (broadcastInDim S10 ![] bcast_S_S10 (constantI S_ 32 10000#32)))

/-- The edges' sources among all nodes. -/
def src (a1 : IVec S10x2x160000 32) : IVec S1600000 32 :=
  shapeCast _ (addi (shapeCast S10x160000 (extractStridedSlice S10x1x160000 ![0, 0, 0] a1 slices_S10x2x160000_S10x1x160000_0_0_0)
    shapeCasts_S10x1x160000_S10x160000) (broadcastInDim S10x160000 ![0, 1] bcast_S10x1_S10x160000_0_1 offs))
    shapeCasts_S10x160000_S1600000

/-- The edges' destinations among all nodes. -/
def dst (a1 : IVec S10x2x160000 32) : IVec S1600000 32 :=
  shapeCast _ (addi (shapeCast S10x160000 (extractStridedSlice S10x1x160000 ![0, 1, 0] a1 slices_S10x2x160000_S10x1x160000_0_1_0)
    shapeCasts_S10x1x160000_S10x160000) (broadcastInDim S10x160000 ![0, 1] bcast_S10x1_S10x160000_0_1 offs))
    shapeCasts_S10x160000_S1600000

/-- An index column, a negative index counted from the end. -/
def col (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The inverse root of each node's degree, the node's own loop counted. -/
def dinv (d : IVec S1600000x1 32) : FVec Ideal S100000 .f32 :=
  Host.rsqrt (addf (Host.scatterAdd scatter_S100000_S1600000x1_S1600000_n_0_0_1
      (broadcastInDim S100000 ![] bcast_S_S100000 (constant S_ .f32 0x00000000#32)) d
      (broadcastInDim S1600000 ![] bcast_S_S1600000 (constant S_ .f32 0x3F800000#32)))
    (broadcastInDim S100000 ![] bcast_S_S100000 (constant S_ .f32 0x3F800000#32)))

/-- Each region's linear map of its nodes' features. -/
def lin (a0 : FVec Ideal S10x10000x4 .f32) (a4 : FVec Ideal S10x4x8 .f32) : FVec Ideal S100000x8 .f32 :=
  shapeCast _ (Host.reduceAdd (mulf
      (broadcastInDim S10x10000x4x8 ![0, 1, 2, 3] bcast_S10x10000x4x1_S10x10000x4x8_0_1_2_3
        (broadcastInDim S10x10000x4x1 ![0, 1, 2] bcast_S10x10000x4_S10x10000x4x1_0_1_2 a0))
      (broadcastInDim S10x10000x4x8 ![0, 1, 2, 3] bcast_S10x1x4x8_S10x10000x4x8_0_1_2_3
        (broadcastInDim S10x1x4x8 ![0, 2, 3] bcast_S10x4x8_S10x1x4x8_0_2_3 a4)))
    (constant S_ .f32 0x00000000#32) reducesTo_S10x10000x4x8_S10x10000x8_d2 h_S_) shapeCasts_S10x10000x8_S100000x8

/-- What each edge carries to its destination. -/
def msg (h : FVec Ideal S100000x8 .f32) (w : FVec Ideal S100000 .f32) (s d : IVec S1600000x1 32) : FVec Ideal S1600000x8 .f32 :=
  mulf (Host.gather gather_S100000x8_S1600000x1_S1600000x8_1_0_n_n_0_1_18 h s)
    (broadcastInDim S1600000x8 ![0, 1] bcast_S1600000x1_S1600000x8_0_1
      (broadcastInDim S1600000x1 ![0] bcast_S1600000_S1600000x1_0
        (mulf (Host.gather gather_S100000_S1600000x1_S1600000_n_0_n_n_0_1_1 w s)
          (Host.gather gather_S100000_S1600000x1_S1600000_n_0_n_n_0_1_1 w d))))

/-- The convolution: the messages summed at their destinations, the node's own loop, the bias. -/
def conv (h : FVec Ideal S100000x8 .f32) (w : FVec Ideal S100000 .f32) (s d : IVec S1600000x1 32) (b : FVec Ideal S10x8 .f32) :
    FVec Ideal S10x10000x8 .f32 :=
  addf (shapeCast _ (addf (Host.scatterAdd scatter_S100000x8_S1600000x1_S1600000x8_1_0_0_1
        (broadcastInDim S100000x8 ![] bcast_S_S100000x8 (constant S_ .f32 0x00000000#32)) d (msg h w s d))
      (mulf h (broadcastInDim S100000x8 ![0, 1] bcast_S100000x1_S100000x8_0_1
        (broadcastInDim S100000x1 ![0] bcast_S100000_S100000x1_0 (mulf w w))))) shapeCasts_S100000x8_S10x10000x8)
    (broadcastInDim S10x10000x8 ![0, 1, 2] bcast_S10x1x8_S10x10000x8_0_1_2 (broadcastInDim S10x1x8 ![0, 2] bcast_S10x8_S10x1x8_0_2 b))

/-- What the first line of host operations leaves: the convolution of the arguments. -/
theorem after0 (W : Valuation τ sig (Elt Ideal)) :
    StableHlo.after (hostOps0 (F := Ideal)) W (Proc.devRef .tc main_v74)
      = conv (lin (W (Proc.devRef .tc main_arg0)) (W (Proc.devRef .tc main_arg4))) (dinv (col (dst (W (Proc.devRef .tc main_arg1)))))
          (col (src (W (Proc.devRef .tc main_arg1)))) (col (dst (W (Proc.devRef .tc main_arg1)))) (W (Proc.devRef .tc main_arg5)) := by
  after_reads_simp
  rfl

/-- The rectifier. -/
theorem after1 (W : Valuation τ sig (Elt Ideal)) :
    StableHlo.after (hostOps0_1 (F := Ideal)) W (Proc.devRef .tc main_v75)
      = maximumf (W (Proc.devRef .tc main_v74) : FVec Ideal S10x10000x8 .f32)
          (broadcastInDim S10x10000x8 ![] bcast_S_S10x10000x8 (constant (F := Ideal) S_ .f32 0x00000000#32)) := by
  after_reads_simp
  rfl

end Cert.Val.K

end
-- ==== Proof.Val.KHostB.lean ====
/-
  The kernel's normalisation of each region's graphs, its scores, its choice of nodes and its pooling, as its host operations write
  them, and the rows they hand to the second stage.
-/
module

public import proofs.«01_k».proof.Proof.Gen.KernelIdeal.Launch
public import Idealize.ShloMosaic.Lib.Claim
public import Idealize.ShloMosaic.Lib.StableHlo.RunRead

@[expose] public section

set_option maxRecDepth 65536

noncomputable section

namespace Cert.Val.K

open Idealize.ShloMosaic Cert.KernelIdeal Cert.KernelIdeal.Gen

attribute [local instance] Cert.KernelIdeal.Gen.facts

/-- The mean over a graph's nodes and features. -/
def gmean (x : FVec Ideal S10x50x200x8 .f32) : FVec Ideal S10x50x1x1 .f32 :=
  Host.divf (broadcastInDim S10x50x1x1 ![0, 1] bcast_S10x50_S10x50x1x1_0_1
      (Host.reduceAdd x (constant S_ .f32 0x00000000#32) reducesTo_S10x50x200x8_S10x50_d2_3 h_S_))
    (broadcastInDim S10x50x1x1 ![] bcast_S_S10x50x1x1 (constant S_ .f32 0x44C80000#32))

/-- What is left when the graph's mean is taken off. -/
def cent (x : FVec Ideal S10x50x200x8 .f32) : FVec Ideal S10x50x200x8 .f32 :=
  subf x (broadcastInDim S10x50x200x8 ![0, 1, 2, 3] bcast_S10x50x1x1_S10x50x200x8_0_1_2_3 (gmean x))

/-- The normalised features from the centred ones. -/
def nrm (x : FVec Ideal S10x50x200x8 .f32) (w b : FVec Ideal S10x8 .f32) : FVec Ideal S10x50x200x8 .f32 :=
  addf (mulf (mulf x (broadcastInDim S10x50x200x8 ![0, 1, 2, 3] bcast_S10x50x1x1_S10x50x200x8_0_1_2_3
        (Host.rsqrt (addf (gmean (mulf x x)) (broadcastInDim S10x50x1x1 ![] bcast_S_S10x50x1x1 (constant S_ .f32 0x3727C5AC#32))))))
      (broadcastInDim S10x50x200x8 ![0, 1, 2, 3] bcast_S10x1x1x8_S10x50x200x8_0_1_2_3
        (broadcastInDim S10x1x1x8 ![0, 3] bcast_S10x8_S10x1x1x8_0_3 w)))
    (broadcastInDim S10x50x200x8 ![0, 1, 2, 3] bcast_S10x1x1x8_S10x50x200x8_0_1_2_3
      (broadcastInDim S10x1x1x8 ![0, 3] bcast_S10x8_S10x1x1x8_0_3 b))

/-- The normalised features of the rectified convolution. -/
def xn (h : FVec Ideal S10x10000x8 .f32) (w b : FVec Ideal S10x8 .f32) : FVec Ideal S10x50x200x8 .f32 :=
  nrm (cent (shapeCast _ h shapeCasts_S10x10000x8_S10x50x200x8)) w b

/-- The mean of the normalised features over a graph's nodes. -/
def res (x : FVec Ideal S10x50x200x8 .f32) : FVec Ideal S10x50x8 .f32 :=
  Host.divf (Host.reduceAdd x (constant S_ .f32 0x00000000#32) reducesTo_S10x50x200x8_S10x50x8_d2 h_S_)
    (broadcastInDim S10x50x8 ![] bcast_S_S10x50x8 (constant S_ .f32 0x43480000#32))

/-- The score of each node. -/
def score (x : FVec Ideal S10x50x200x8 .f32) (p : FVec Ideal S10x8 .f32) : FVec Ideal S10x50x200 .f32 :=
  Host.divf (Host.dotGeneral dot_S10x50x200x8_S10x8_S10x50x200_3_1_12_n_0_0 none x p)
    (broadcastInDim S10x50x200 ![0, 1, 2] bcast_S10x1x1_S10x50x200_0_1_2 (broadcastInDim S10x1x1 ![0] bcast_S10_S10x1x1_0
      (addf (Host.sqrt (Host.reduceAdd (mulf p p) (constant S_ .f32 0x00000000#32) reducesTo_S10x8_S10_d1 h_S_))
        (broadcastInDim S10 ![] bcast_S_S10 (constant S_ .f32 0x24E69595#32)))))

/-- The best scores of each graph. -/
def vals (s : FVec Ideal S10x50x200 .f32) : FVec Ideal S10x50x100 .f32 :=
  (Host.topK S10x50x100 2 (FloatOps.cmpfTotal .gt) s sliceFits_S10x50x200_S10x50x100).1

/-- The nodes they are at. -/
def inds (s : FVec Ideal S10x50x200 .f32) : IVec S10x50x100x1 32 :=
  broadcastInDim S10x50x100x1 ![0, 1, 2] bcast_S10x50x100_S10x50x100x1_0_1_2
    (Host.topK S10x50x100 2 (FloatOps.cmpfTotal .gt) s sliceFits_S10x50x200_S10x50x100).2

/-- The features of the chosen nodes. -/
def chosen (x : FVec Ideal S10x50x200x8 .f32) (i : IVec S10x50x100x1 32) : FVec Ideal S10x50x100x8 .f32 :=
  select (broadcastInDim S10x50x100x8 ![0, 1, 2] bcast_S10x50x100_S10x50x100x8_0_1_2
      (Host.reduce IntOp.andi (andi
          (cmpi .sge (select (cmpi .slt i (broadcastInDim S10x50x100x1 ![] bcast_S_S10x50x100x1 (constantI S_ 32 0#32)))
            (addi i (broadcastInDim S10x50x100x1 ![] bcast_S_S10x50x100x1 (constantI S_ 32 200#32))) i)
            (broadcastInDim S10x50x100x1 ![] bcast_S_S10x50x100x1 (constantI S_ 32 0#32)))
          (cmpi .sle (select (cmpi .slt i (broadcastInDim S10x50x100x1 ![] bcast_S_S10x50x100x1 (constantI S_ 32 0#32)))
            (addi i (broadcastInDim S10x50x100x1 ![] bcast_S_S10x50x100x1 (constantI S_ 32 200#32))) i)
            (broadcastInDim S10x50x100x1 ![0, 1, 2, 3] bcast_S1x1x1x1_S10x50x100x1_0_1_2_3
              (broadcastInDim S1x1x1x1 ![3] bcast_S1_S1x1x1x1_3 (constantI S1 32 199#32)))))
        (constantI S_ 1 1#1) reducesTo_S10x50x100x1_S10x50x100_d3 h_S_))
    (Host.gather gather_S10x50x200x8_S10x50x100x1_S10x50x100x8_3_2_01_01_2_3_1118 x
      (select (cmpi .slt i (broadcastInDim S10x50x100x1 ![] bcast_S_S10x50x100x1 (constantI S_ 32 0#32)))
        (addi i (broadcastInDim S10x50x100x1 ![] bcast_S_S10x50x100x1 (constantI S_ 32 200#32))) i))
    (broadcastInDim S10x50x100x8 ![] bcast_S_S10x50x100x8 (constant S_ .f32 0x7FC00000#32))

/-- The mean of the chosen nodes' features, each weighted by its score. -/
def pool (g : FVec Ideal S10x50x100x8 .f32) (v : FVec Ideal S10x50x100 .f32) : FVec Ideal S10x50x8 .f32 :=
  Host.divf (Host.reduceAdd (mulf g (broadcastInDim S10x50x100x8 ![0, 1, 2, 3] bcast_S10x50x100x1_S10x50x100x8_0_1_2_3
        (broadcastInDim S10x50x100x1 ![0, 1, 2] bcast_S10x50x100_S10x50x100x1_0_1_2 (Host.tanh v))))
      (constant S_ .f32 0x00000000#32) reducesTo_S10x50x100x8_S10x50x8_d2 h_S_)
    (broadcastInDim S10x50x8 ![] bcast_S_S10x50x8 (constant S_ .f32 0x42C80000#32))

/-- The rows handed to the second stage: the two means and the centroids side by side, a row to each pair of graph and region. -/
def rows (a b : FVec Ideal S10x50x8 .f32) (c : FVec Ideal S10x50x3 .f32) : FVec Ideal S500x19 .f32 :=
  shapeCast _ (transpose S50x10x19 [1, 0, 2]
    (concatenate S10x50x19 2 [⟨S10x50x8, a⟩, ⟨S10x50x8, b⟩, ⟨S10x50x3, c⟩] concatenates_S10x50x8_S10x50x8_S10x50x3_S10x50x19_d2)
    transposes_S10x50x19_S50x10x19_1_0_2) shapeCasts_S50x10x19_S500x19

variable (W : Valuation τ sig (Elt Ideal))

theorem after2_xn :
    StableHlo.after (hostOps0_2 (F := Ideal)) W (Proc.devRef .tc main_v98)
      = xn (W (Proc.devRef .tc main_v75)) (W (Proc.devRef .tc main_arg6)) (W (Proc.devRef .tc main_arg7)) := by
  after_reads_simp
  rfl

theorem after2_res :
    StableHlo.after (hostOps0_2 (F := Ideal)) W (Proc.devRef .tc main_v101)
      = res (xn (W (Proc.devRef .tc main_v75)) (W (Proc.devRef .tc main_arg6)) (W (Proc.devRef .tc main_arg7))) := by
  after_reads_simp
  rfl

theorem after2_vals :
    StableHlo.after (hostOps0_2 (F := Ideal)) W (Proc.devRef .tc main_values)
      = vals (score (xn (W (Proc.devRef .tc main_v75)) (W (Proc.devRef .tc main_arg6)) (W (Proc.devRef .tc main_arg7)))
          (W (Proc.devRef .tc main_arg8))) := by
  after_reads_simp
  rfl

theorem after2_inds :
    StableHlo.after (hostOps0_2 (F := Ideal)) W (Proc.devRef .tc main_v111)
      = inds (score (xn (W (Proc.devRef .tc main_v75)) (W (Proc.devRef .tc main_arg6)) (W (Proc.devRef .tc main_arg7)))
          (W (Proc.devRef .tc main_arg8))) := by
  after_reads_simp
  rfl

theorem after3 :
    StableHlo.after (hostOps0_3 (F := Ideal)) W (Proc.devRef .tc main_v112)
      = chosen (W (Proc.devRef .tc main_v98)) (W (Proc.devRef .tc main_v111)) := by
  after_reads_simp
  rfl

theorem after3_values : StableHlo.after (hostOps0_3 (F := Ideal)) W (Proc.devRef .tc main_values) = W (Proc.devRef .tc main_values) := by
  after_reads_simp

theorem after3_res : StableHlo.after (hostOps0_3 (F := Ideal)) W (Proc.devRef .tc main_v101) = W (Proc.devRef .tc main_v101) := by
  after_reads_simp

theorem after4 :
    StableHlo.after (hostOps0_4 (F := Ideal)) W (Proc.devRef .tc main_v122)
      = rows (W (Proc.devRef .tc main_v101)) (pool (W (Proc.devRef .tc main_v112)) (W (Proc.devRef .tc main_values)))
          (W (Proc.devRef .tc main_arg3)) := by
  after_reads_simp
  rfl

theorem after5_rows : StableHlo.after (hostOps0_5 (F := Ideal)) W (Proc.devRef .tc main_v122) = W (Proc.devRef .tc main_v122) := by
  after_reads_simp

end Cert.Val.K

end
-- ==== Proof.Val.KHostC.lean ====
/-
  What the kernel hands its second stage beside the rows: the selections of a row's root, of a pair's rows and of a graph's rows, the
  attention vectors spread over the heads, and the small arguments laid out as rows.
-/
module

public import proofs.«01_k».proof.Proof.Gen.KernelIdeal.Launch
public import Idealize.ShloMosaic.Lib.Claim
public import Idealize.ShloMosaic.Lib.StableHlo.RunRead

@[expose] public section

set_option maxRecDepth 65536

noncomputable section

namespace Cert.Val.K

open Idealize.ShloMosaic Cert.KernelIdeal Cert.KernelIdeal.Gen

attribute [local instance] Cert.KernelIdeal.Gen.facts

/-- Which rows are not roots. -/
def minCol : FVec Ideal S500x1 .f32 :=
  broadcastInDim S500x1 ![0] bcast_S500_S500x1_0 (fun i => FloatOps.ofBits .f32 (lit0 (S500.rowMajor i)))

/-- Which features belong to which head. -/
def expand : FVec Ideal S4x64 .f32 := fun i => FloatOps.ofBits .f32 (lit1 (S4x64.rowMajor i))

/-- The identity of the heads. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- An attention vector spread over the heads. -/
def spread (a : FVec Ideal S4x16 .f32) : FVec Ideal S64x4 .f32 :=
  shapeCast _ (mulf (broadcastInDim S4x16x4 ![0, 1, 2] bcast_S4x1x4_S4x16x4_0_1_2 (broadcastInDim S4x1x4 ![0, 2] bcast_S4x4_S4x1x4_0_2 eye))
    (broadcastInDim S4x16x4 ![0, 1, 2] bcast_S4x16x1_S4x16x4_0_1_2 (broadcastInDim S4x16x1 ![0, 1] bcast_S4x16_S4x16x1_0_1 a)))
    shapeCasts_S4x16x4_S64x4

/-- Ten over an array of rows. -/
def ten : IVec S500x500 32 := broadcastInDim S500x500 ![] bcast_S_S500x500 (constantI S_ 32 10#32)

/-- The selection of each row's root. -/
def rootSel : FVec Ideal S500x500 .f32 :=
  select (cmpi .eq (iotaInDim S500x500 32 1) (muli (Host.divsi (iotaInDim S500x500 32 0) ten) ten))
    (broadcastInDim S500x500 ![] bcast_S_S500x500 (constant S_ .f32 0x3F800000#32))
    (broadcastInDim S500x500 ![] bcast_S_S500x500 (constant S_ .f32 0x00000000#32))

/-- The mean over the rows of a row's graph. -/
def meanSel : FVec Ideal S500x500 .f32 :=
  Host.divf (select (cmpi .eq (Host.divsi (iotaInDim S500x500 32 0) ten) (Host.divsi (iotaInDim S500x500 32 1) ten))
      (broadcastInDim S500x500 ![] bcast_S_S500x500 (constant S_ .f32 0x3F800000#32))
      (broadcastInDim S500x500 ![] bcast_S_S500x500 (constant S_ .f32 0x00000000#32)))
    (broadcastInDim S500x500 ![] bcast_S_S500x500 (constant S_ .f32 0x41200000#32))

/-- The mean over the rows of a graph. -/
def poolSel : FVec Ideal S50x500 .f32 :=
  Host.divf (select (cmpi .eq (iotaInDim S50x500 32 0)
        (Host.divsi (iotaInDim S50x500 32 1) (broadcastInDim S50x500 ![] bcast_S_S50x500 (constantI S_ 32 10#32))))
      (broadcastInDim S50x500 ![] bcast_S_S50x500 (constant S_ .f32 0x3F800000#32))
      (broadcastInDim S50x500 ![] bcast_S_S50x500 (constant S_ .f32 0x00000000#32)))
    (broadcastInDim S50x500 ![] bcast_S_S50x500 (constant S_ .f32 0x41200000#32))

/-- A row of sixty-four. -/
def row64 (x : FVec Ideal S64 .f32) : FVec Ideal S1x64 .f32 := broadcastInDim S1x64 ![1] bcast_S64_S1x64_1 x

/-- A row of sixteen. -/
def row16 (x : FVec Ideal S16 .f32) : FVec Ideal S1x16 .f32 := broadcastInDim S1x16 ![1] bcast_S16_S1x16_1 x

/-- A row of two. -/
def row2 (x : FVec Ideal S2 .f32) : FVec Ideal S1x2 .f32 := broadcastInDim S1x2 ![1] bcast_S2_S1x2_1 x

/-- A column of sixteen. -/
def col16 (x : FVec Ideal S1x16 .f32) : FVec Ideal S16x1 .f32 := shapeCast _ x shapeCasts_S1x16_S16x1

variable (W : Valuation τ sig (Elt Ideal))

theorem after5_min : StableHlo.after (hostOps0_5 (F := Ideal)) W (Proc.devRef .tc main_call2_v0) = minCol := by
  after_reads_simp
  rfl

theorem after5_expand : StableHlo.after (hostOps0_5 (F := Ideal)) W (Proc.devRef .tc main_call2_cst_0) = expand := by
  after_reads_simp
  rfl

theorem after5_a1s :
    StableHlo.after (hostOps0_5 (F := Ideal)) W (Proc.devRef .tc main_call2_v12) = spread (W (Proc.devRef .tc main_arg10)) := by
  after_reads_simp
  rfl

theorem after5_a1d :
    StableHlo.after (hostOps0_5 (F := Ideal)) W (Proc.devRef .tc main_call2_v18) = spread (W (Proc.devRef .tc main_arg11)) := by
  after_reads_simp
  rfl

theorem after5_a2s :
    StableHlo.after (hostOps0_5 (F := Ideal)) W (Proc.devRef .tc main_call2_v19) = col16 (W (Proc.devRef .tc main_arg16)) := by
  after_reads_simp
  rfl

theorem after5_a2d :
    StableHlo.after (hostOps0_5 (F := Ideal)) W (Proc.devRef .tc main_call2_v20) = col16 (W (Proc.devRef .tc main_arg17)) := by
  after_reads_simp
  rfl

theorem after5_b1 :
    StableHlo.after (hostOps0_5 (F := Ideal)) W (Proc.devRef .tc main_call2_v21) = row64 (W (Proc.devRef .tc main_arg12)) := by
  after_reads_simp
  rfl

theorem after5_lnw1 :
    StableHlo.after (hostOps0_5 (F := Ideal)) W (Proc.devRef .tc main_call2_v22) = row64 (W (Proc.devRef .tc main_arg13)) := by
  after_reads_simp
  rfl

theorem after5_lnb1 :
    StableHlo.after (hostOps0_5 (F := Ideal)) W (Proc.devRef .tc main_call2_v23) = row64 (W (Proc.devRef .tc main_arg14)) := by
  after_reads_simp
  rfl

theorem after5_b2 :
    StableHlo.after (hostOps0_5 (F := Ideal)) W (Proc.devRef .tc main_call2_v24) = row16 (W (Proc.devRef .tc main_arg18)) := by
  after_reads_simp
  rfl

theorem after5_lnw2 :
    StableHlo.after (hostOps0_5 (F := Ideal)) W (Proc.devRef .tc main_call2_v25) = row16 (W (Proc.devRef .tc main_arg19)) := by
  after_reads_simp
  rfl

theorem after5_lnb2 :
    StableHlo.after (hostOps0_5 (F := Ideal)) W (Proc.devRef .tc main_call2_v26) = row16 (W (Proc.devRef .tc main_arg20)) := by
  after_reads_simp
  rfl

theorem after5_linb :
    StableHlo.after (hostOps0_5 (F := Ideal)) W (Proc.devRef .tc main_call2_v27) = row2 (W (Proc.devRef .tc main_arg22)) := by
  after_reads_simp
  rfl

theorem after5_root : StableHlo.after (hostOps0_5 (F := Ideal)) W (Proc.devRef .tc main_call2_v35) = rootSel := by
  after_reads_simp
  rfl

theorem after5_mean : StableHlo.after (hostOps0_5 (F := Ideal)) W (Proc.devRef .tc main_call2_v45) = meanSel := by
  after_reads_simp
  rfl

theorem after5_pool : StableHlo.after (hostOps0_5 (F := Ideal)) W (Proc.devRef .tc main_call2_v53) = poolSel := by
  after_reads_simp
  rfl

end Cert.Val.K

end
-- ==== Proof.Val.KArr.lean ====
/-
  The arrays that the kernel's second stage finds, in terms of the arguments, and its one block: the whole of each.
-/
module

public import proofs.«01_k».proof.Proof.Val.KHostA
public import proofs.«01_k».proof.Proof.Val.KHostB
public import proofs.«01_k».proof.Proof.Val.KHostC
public import proofs.«01_k».proof.Proof.Gen.KernelIdeal.Value
public import Idealize.ShloMosaic.Lib.Pipeline.ValueKit

@[expose] public section

set_option maxRecDepth 65536

noncomputable section

namespace Cert.Val.K

open Idealize.ShloMosaic Cert.KernelIdeal Cert.KernelIdeal.Gen Idealize.ShloMosaic.TcCoe Idealize.SL.Sem

attribute [local instance] Cert.KernelIdeal.Gen.facts

variable (W : Valuation τ sig (Elt Ideal))

/-- What the host operations before the last line leave. -/
def before5 : Valuation τ sig (Elt Ideal) :=
  StableHlo.after (hostOps0_4 (F := Ideal)) (StableHlo.after (hostOps0_3 (F := Ideal)) (StableHlo.after (hostOps0_2 (F := Ideal))
    (StableHlo.after (hostOps0_1 (F := Ideal)) (StableHlo.after (hostOps0 (F := Ideal)) W))))

theorem keep0_arg3 : StableHlo.after (hostOps0 (F := Ideal)) W (Proc.devRef .tc main_arg3) = W (Proc.devRef .tc main_arg3) := by
  after_reads_simp

theorem keep0_arg6 : StableHlo.after (hostOps0 (F := Ideal)) W (Proc.devRef .tc main_arg6) = W (Proc.devRef .tc main_arg6) := by
  after_reads_simp

theorem keep0_arg7 : StableHlo.after (hostOps0 (F := Ideal)) W (Proc.devRef .tc main_arg7) = W (Proc.devRef .tc main_arg7) := by
  after_reads_simp

theorem keep0_arg8 : StableHlo.after (hostOps0 (F := Ideal)) W (Proc.devRef .tc main_arg8) = W (Proc.devRef .tc main_arg8) := by
  after_reads_simp

theorem keep1_arg3 : StableHlo.after (hostOps0_1 (F := Ideal)) W (Proc.devRef .tc main_arg3) = W (Proc.devRef .tc main_arg3) := by
  after_reads_simp

theorem keep1_arg6 : StableHlo.after (hostOps0_1 (F := Ideal)) W (Proc.devRef .tc main_arg6) = W (Proc.devRef .tc main_arg6) := by
  after_reads_simp

theorem keep1_arg7 : StableHlo.after (hostOps0_1 (F := Ideal)) W (Proc.devRef .tc main_arg7) = W (Proc.devRef .tc main_arg7) := by
  after_reads_simp

theorem keep1_arg8 : StableHlo.after (hostOps0_1 (F := Ideal)) W (Proc.devRef .tc main_arg8) = W (Proc.devRef .tc main_arg8) := by
  after_reads_simp

theorem keep2_arg3 : StableHlo.after (hostOps0_2 (F := Ideal)) W (Proc.devRef .tc main_arg3) = W (Proc.devRef .tc main_arg3) := by
  after_reads_simp

theorem keep3_arg3 : StableHlo.after (hostOps0_3 (F := Ideal)) W (Proc.devRef .tc main_arg3) = W (Proc.devRef .tc main_arg3) := by
  after_reads_simp

theorem before5_arg10 : before5 W (Proc.devRef .tc main_arg10) = W (Proc.devRef .tc main_arg10) := by
  unfold before5
  after_reads_simp

theorem before5_arg11 : before5 W (Proc.devRef .tc main_arg11) = W (Proc.devRef .tc main_arg11) := by
  unfold before5
  after_reads_simp

theorem before5_arg12 : before5 W (Proc.devRef .tc main_arg12) = W (Proc.devRef .tc main_arg12) := by
  unfold before5
  after_reads_simp

theorem before5_arg13 : before5 W (Proc.devRef .tc main_arg13) = W (Proc.devRef .tc main_arg13) := by
  unfold before5
  after_reads_simp

theorem before5_arg14 : before5 W (Proc.devRef .tc main_arg14) = W (Proc.devRef .tc main_arg14) := by
  unfold before5
  after_reads_simp

theorem before5_arg16 : before5 W (Proc.devRef .tc main_arg16) = W (Proc.devRef .tc main_arg16) := by
  unfold before5
  after_reads_simp

theorem before5_arg17 : before5 W (Proc.devRef .tc main_arg17) = W (Proc.devRef .tc main_arg17) := by
  unfold before5
  after_reads_simp

theorem before5_arg18 : before5 W (Proc.devRef .tc main_arg18) = W (Proc.devRef .tc main_arg18) := by
  unfold before5
  after_reads_simp

theorem before5_arg19 : before5 W (Proc.devRef .tc main_arg19) = W (Proc.devRef .tc main_arg19) := by
  unfold before5
  after_reads_simp

theorem before5_arg20 : before5 W (Proc.devRef .tc main_arg20) = W (Proc.devRef .tc main_arg20) := by
  unfold before5
  after_reads_simp

theorem before5_arg22 : before5 W (Proc.devRef .tc main_arg22) = W (Proc.devRef .tc main_arg22) := by
  unfold before5
  after_reads_simp

/-- The rectified convolution of the arguments. -/
def hid (a0 : FVec Ideal S10x10000x4 .f32) (a1 : IVec S10x2x160000 32) (a4 : FVec Ideal S10x4x8 .f32) (a5 : FVec Ideal S10x8 .f32) :
    FVec Ideal S10x10000x8 .f32 :=
  maximumf (conv (lin a0 a4) (dinv (col (dst a1))) (col (src a1)) (col (dst a1)) a5)
    (broadcastInDim S10x10000x8 ![] bcast_S_S10x10000x8 (constant (F := Ideal) S_ .f32 0x00000000#32))

/-- The rows handed to the second stage, from the normalised features. -/
def rowsOf (x : FVec Ideal S10x50x200x8 .f32) (a3 : FVec Ideal S10x50x3 .f32) (a8 : FVec Ideal S10x8 .f32) : FVec Ideal S500x19 .f32 :=
  rows (res x) (pool (chosen x (inds (score x a8))) (vals (score x a8))) a3

theorem before5_rows : before5 W (Proc.devRef .tc main_v122)
    = rowsOf (xn (hid (W (Proc.devRef .tc main_arg0)) (W (Proc.devRef .tc main_arg1)) (W (Proc.devRef .tc main_arg4)) (W (Proc.devRef .tc main_arg5)))
        (W (Proc.devRef .tc main_arg6)) (W (Proc.devRef .tc main_arg7))) (W (Proc.devRef .tc main_arg3)) (W (Proc.devRef .tc main_arg8)) := by
  unfold before5
  rw [after4, after3, after3_values, after3_res, after2_xn, after2_res, after2_vals, after2_inds, after1, after0,
    keep3_arg3, keep2_arg3, keep1_arg3, keep1_arg6, keep1_arg7, keep1_arg8, keep0_arg3, keep0_arg6, keep0_arg7, keep0_arg8]
  rfl

variable (m : (ℓ : Loc nD τ sig) → Buf (Elt Ideal) ℓ) (c : Dev nD)

theorem V_eq (b : Ref sig .tc) : V m c b = StableHlo.after (hostOps0_5 (F := Ideal)) (before5 fun b => m (c, b)) (Proc.devRef .tc b) := by
  show StableHlo.after (List.flatten [hostOps0, hostOps0_1, hostOps0_2, hostOps0_3, hostOps0_4, hostOps0_5]) _ _ = _
  simp only [List.flatten_cons, List.flatten_nil, List.append_nil]
  rw [StableHlo.after_append, StableHlo.after_append, StableHlo.after_append, StableHlo.after_append, StableHlo.after_append]
  rfl

theorem V_w0 : V m c main_v122 = (rowsOf (xn (hid (m ((c : Thread nD τ).loc main_arg0)) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg3)) (m ((c : Thread nD τ).loc main_arg8))) := by
  rw [V_eq, after5_rows, before5_rows]

theorem V_w1 : V m c main_arg9 = m ((c : Thread nD τ).loc main_arg9) := V_main_arg9 m c

theorem V_w2 : V m c main_call2_v12 = spread (m ((c : Thread nD τ).loc main_arg10)) := by
  rw [V_eq, after5_a1s, before5_arg10]

theorem V_w3 : V m c main_call2_v18 = spread (m ((c : Thread nD τ).loc main_arg11)) := by
  rw [V_eq, after5_a1d, before5_arg11]

theorem V_w4 : V m c main_call2_v21 = row64 (m ((c : Thread nD τ).loc main_arg12)) := by
  rw [V_eq, after5_b1, before5_arg12]

theorem V_w5 : V m c main_call2_v22 = row64 (m ((c : Thread nD τ).loc main_arg13)) := by
  rw [V_eq, after5_lnw1, before5_arg13]

theorem V_w6 : V m c main_call2_v23 = row64 (m ((c : Thread nD τ).loc main_arg14)) := by
  rw [V_eq, after5_lnb1, before5_arg14]

theorem V_w7 : V m c main_arg15 = m ((c : Thread nD τ).loc main_arg15) := V_main_arg15 m c

theorem V_w8 : V m c main_call2_v19 = col16 (m ((c : Thread nD τ).loc main_arg16)) := by
  rw [V_eq, after5_a2s, before5_arg16]

theorem V_w9 : V m c main_call2_v20 = col16 (m ((c : Thread nD τ).loc main_arg17)) := by
  rw [V_eq, after5_a2d, before5_arg17]

theorem V_w10 : V m c main_call2_v24 = row16 (m ((c : Thread nD τ).loc main_arg18)) := by
  rw [V_eq, after5_b2, before5_arg18]

theorem V_w11 : V m c main_call2_v25 = row16 (m ((c : Thread nD τ).loc main_arg19)) := by
  rw [V_eq, after5_lnw2, before5_arg19]

theorem V_w12 : V m c main_call2_v26 = row16 (m ((c : Thread nD τ).loc main_arg20)) := by
  rw [V_eq, after5_lnb2, before5_arg20]

theorem V_w13 : V m c main_arg21 = m ((c : Thread nD τ).loc main_arg21) := V_main_arg21 m c

theorem V_w14 : V m c main_call2_v27 = row2 (m ((c : Thread nD τ).loc main_arg22)) := by
  rw [V_eq, after5_linb, before5_arg22]

theorem V_w15 : V m c main_call2_v35 = rootSel := by
  rw [V_eq, after5_root]

theorem V_w16 : V m c main_call2_v45 = meanSel := by
  rw [V_eq, after5_mean]

theorem V_w17 : V m c main_call2_v53 = poolSel := by
  rw [V_eq, after5_pool]

theorem V_w18 : V m c main_call2_v0 = minCol := by
  rw [V_eq, after5_min]

theorem V_w19 : V m c main_call2_cst_0 = expand := by
  rw [V_eq, after5_expand]

theorem blk_w0 : iblk (F := Ideal) m c 0 t0_0 = V m c main_v122 := by
  show (win0_0.blk t0_0).view.read (Elt Ideal) (V m c main_v122) = _
  exact Memref.read_access_unit_zero (Elt Ideal) main_v122
    (show (fun a => (win0_0.index t0_0) a * main_v122.ty.shape.size a) = fun _ => 0 from
      funext fun a => by fin_cases a <;> decide) (fun a => by fin_cases a <;> decide) _

theorem blk_w1 : iblk (F := Ideal) m c 1 t0_0 = V m c main_arg9 := by
  show (win0_1.blk t0_0).view.read (Elt Ideal) (V m c main_arg9) = _
  exact Memref.read_access_unit_zero (Elt Ideal) main_arg9
    (show (fun a => (win0_1.index t0_0) a * main_arg9.ty.shape.size a) = fun _ => 0 from
      funext fun a => by fin_cases a <;> decide) (fun a => by fin_cases a <;> decide) _

theorem blk_w2 : iblk (F := Ideal) m c 2 t0_0 = V m c main_call2_v12 := by
  show (win0_2.blk t0_0).view.read (Elt Ideal) (V m c main_call2_v12) = _
  exact Memref.read_access_unit_zero (Elt Ideal) main_call2_v12
    (show (fun a => (win0_2.index t0_0) a * main_call2_v12.ty.shape.size a) = fun _ => 0 from
      funext fun a => by fin_cases a <;> decide) (fun a => by fin_cases a <;> decide) _

theorem blk_w3 : iblk (F := Ideal) m c 3 t0_0 = V m c main_call2_v18 := by
  show (win0_3.blk t0_0).view.read (Elt Ideal) (V m c main_call2_v18) = _
  exact Memref.read_access_unit_zero (Elt Ideal) main_call2_v18
    (show (fun a => (win0_3.index t0_0) a * main_call2_v18.ty.shape.size a) = fun _ => 0 from
      funext fun a => by fin_cases a <;> decide) (fun a => by fin_cases a <;> decide) _

theorem blk_w4 : iblk (F := Ideal) m c 4 t0_0 = V m c main_call2_v21 := by
  show (win0_4.blk t0_0).view.read (Elt Ideal) (V m c main_call2_v21) = _
  exact Memref.read_access_unit_zero (Elt Ideal) main_call2_v21
    (show (fun a => (win0_4.index t0_0) a * main_call2_v21.ty.shape.size a) = fun _ => 0 from
      funext fun a => by fin_cases a <;> decide) (fun a => by fin_cases a <;> decide) _

theorem blk_w5 : iblk (F := Ideal) m c 5 t0_0 = V m c main_call2_v22 := by
  show (win0_5.blk t0_0).view.read (Elt Ideal) (V m c main_call2_v22) = _
  exact Memref.read_access_unit_zero (Elt Ideal) main_call2_v22
    (show (fun a => (win0_5.index t0_0) a * main_call2_v22.ty.shape.size a) = fun _ => 0 from
      funext fun a => by fin_cases a <;> decide) (fun a => by fin_cases a <;> decide) _

theorem blk_w6 : iblk (F := Ideal) m c 6 t0_0 = V m c main_call2_v23 := by
  show (win0_6.blk t0_0).view.read (Elt Ideal) (V m c main_call2_v23) = _
  exact Memref.read_access_unit_zero (Elt Ideal) main_call2_v23
    (show (fun a => (win0_6.index t0_0) a * main_call2_v23.ty.shape.size a) = fun _ => 0 from
      funext fun a => by fin_cases a <;> decide) (fun a => by fin_cases a <;> decide) _

theorem blk_w7 : iblk (F := Ideal) m c 7 t0_0 = V m c main_arg15 := by
  show (win0_7.blk t0_0).view.read (Elt Ideal) (V m c main_arg15) = _
  exact Memref.read_access_unit_zero (Elt Ideal) main_arg15
    (show (fun a => (win0_7.index t0_0) a * main_arg15.ty.shape.size a) = fun _ => 0 from
      funext fun a => by fin_cases a <;> decide) (fun a => by fin_cases a <;> decide) _

theorem blk_w8 : iblk (F := Ideal) m c 8 t0_0 = V m c main_call2_v19 := by
  show (win0_8.blk t0_0).view.read (Elt Ideal) (V m c main_call2_v19) = _
  exact Memref.read_access_unit_zero (Elt Ideal) main_call2_v19
    (show (fun a => (win0_8.index t0_0) a * main_call2_v19.ty.shape.size a) = fun _ => 0 from
      funext fun a => by fin_cases a <;> decide) (fun a => by fin_cases a <;> decide) _

theorem blk_w9 : iblk (F := Ideal) m c 9 t0_0 = V m c main_call2_v20 := by
  show (win0_9.blk t0_0).view.read (Elt Ideal) (V m c main_call2_v20) = _
  exact Memref.read_access_unit_zero (Elt Ideal) main_call2_v20
    (show (fun a => (win0_9.index t0_0) a * main_call2_v20.ty.shape.size a) = fun _ => 0 from
      funext fun a => by fin_cases a <;> decide) (fun a => by fin_cases a <;> decide) _

theorem blk_w10 : iblk (F := Ideal) m c 10 t0_0 = V m c main_call2_v24 := by
  show (win0_10.blk t0_0).view.read (Elt Ideal) (V m c main_call2_v24) = _
  exact Memref.read_access_unit_zero (Elt Ideal) main_call2_v24
    (show (fun a => (win0_10.index t0_0) a * main_call2_v24.ty.shape.size a) = fun _ => 0 from
      funext fun a => by fin_cases a <;> decide) (fun a => by fin_cases a <;> decide) _

theorem blk_w11 : iblk (F := Ideal) m c 11 t0_0 = V m c main_call2_v25 := by
  show (win0_11.blk t0_0).view.read (Elt Ideal) (V m c main_call2_v25) = _
  exact Memref.read_access_unit_zero (Elt Ideal) main_call2_v25
    (show (fun a => (win0_11.index t0_0) a * main_call2_v25.ty.shape.size a) = fun _ => 0 from
      funext fun a => by fin_cases a <;> decide) (fun a => by fin_cases a <;> decide) _

theorem blk_w12 : iblk (F := Ideal) m c 12 t0_0 = V m c main_call2_v26 := by
  show (win0_12.blk t0_0).view.read (Elt Ideal) (V m c main_call2_v26) = _
  exact Memref.read_access_unit_zero (Elt Ideal) main_call2_v26
    (show (fun a => (win0_12.index t0_0) a * main_call2_v26.ty.shape.size a) = fun _ => 0 from
      funext fun a => by fin_cases a <;> decide) (fun a => by fin_cases a <;> decide) _

theorem blk_w13 : iblk (F := Ideal) m c 13 t0_0 = V m c main_arg21 := by
  show (win0_13.blk t0_0).view.read (Elt Ideal) (V m c main_arg21) = _
  exact Memref.read_access_unit_zero (Elt Ideal) main_arg21
    (show (fun a => (win0_13.index t0_0) a * main_arg21.ty.shape.size a) = fun _ => 0 from
      funext fun a => by fin_cases a <;> decide) (fun a => by fin_cases a <;> decide) _

theorem blk_w14 : iblk (F := Ideal) m c 14 t0_0 = V m c main_call2_v27 := by
  show (win0_14.blk t0_0).view.read (Elt Ideal) (V m c main_call2_v27) = _
  exact Memref.read_access_unit_zero (Elt Ideal) main_call2_v27
    (show (fun a => (win0_14.index t0_0) a * main_call2_v27.ty.shape.size a) = fun _ => 0 from
      funext fun a => by fin_cases a <;> decide) (fun a => by fin_cases a <;> decide) _

theorem blk_w15 : iblk (F := Ideal) m c 15 t0_0 = V m c main_call2_v35 := by
  show (win0_15.blk t0_0).view.read (Elt Ideal) (V m c main_call2_v35) = _
  exact Memref.read_access_unit_zero (Elt Ideal) main_call2_v35
    (show (fun a => (win0_15.index t0_0) a * main_call2_v35.ty.shape.size a) = fun _ => 0 from
      funext fun a => by fin_cases a <;> decide) (fun a => by fin_cases a <;> decide) _

theorem blk_w16 : iblk (F := Ideal) m c 16 t0_0 = V m c main_call2_v45 := by
  show (win0_16.blk t0_0).view.read (Elt Ideal) (V m c main_call2_v45) = _
  exact Memref.read_access_unit_zero (Elt Ideal) main_call2_v45
    (show (fun a => (win0_16.index t0_0) a * main_call2_v45.ty.shape.size a) = fun _ => 0 from
      funext fun a => by fin_cases a <;> decide) (fun a => by fin_cases a <;> decide) _

theorem blk_w17 : iblk (F := Ideal) m c 17 t0_0 = V m c main_call2_v53 := by
  show (win0_17.blk t0_0).view.read (Elt Ideal) (V m c main_call2_v53) = _
  exact Memref.read_access_unit_zero (Elt Ideal) main_call2_v53
    (show (fun a => (win0_17.index t0_0) a * main_call2_v53.ty.shape.size a) = fun _ => 0 from
      funext fun a => by fin_cases a <;> decide) (fun a => by fin_cases a <;> decide) _

theorem blk_w18 : iblk (F := Ideal) m c 18 t0_0 = V m c main_call2_v0 := by
  show (win0_18.blk t0_0).view.read (Elt Ideal) (V m c main_call2_v0) = _
  exact Memref.read_access_unit_zero (Elt Ideal) main_call2_v0
    (show (fun a => (win0_18.index t0_0) a * main_call2_v0.ty.shape.size a) = fun _ => 0 from
      funext fun a => by fin_cases a <;> decide) (fun a => by fin_cases a <;> decide) _

theorem blk_w19 : iblk (F := Ideal) m c 19 t0_0 = V m c main_call2_cst_0 := by
  show (win0_19.blk t0_0).view.read (Elt Ideal) (V m c main_call2_cst_0) = _
  exact Memref.read_access_unit_zero (Elt Ideal) main_call2_cst_0
    (show (fun a => (win0_19.index t0_0) a * main_call2_cst_0.ty.shape.size a) = fun _ => 0 from
      funext fun a => by fin_cases a <;> decide) (fun a => by fin_cases a <;> decide) _

theorem read_out (f : Buf (Elt Ideal) ((c : Thread nD τ).loc main_v123)) : (win0_20.blk t0_0).view.read (Elt Ideal) f = f :=
  Memref.read_access_unit_zero (Elt Ideal) main_v123
    (show (fun a => (win0_20.index t0_0) a * main_v123.ty.shape.size a) = fun _ => 0 from
      funext fun a => by fin_cases a <;> decide) (fun a => by fin_cases a <;> decide) f

/-- What the second stage writes back, from the arguments. -/
def stage2 : FVec Ideal S50x2 .f32 :=
  out0_20 (rowsOf (xn (hid (m ((c : Thread nD τ).loc main_arg0)) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg3)) (m ((c : Thread nD τ).loc main_arg8)))
    (m ((c : Thread nD τ).loc main_arg9))
    (spread (m ((c : Thread nD τ).loc main_arg10)))
    (spread (m ((c : Thread nD τ).loc main_arg11)))
    (row64 (m ((c : Thread nD τ).loc main_arg12)))
    (row64 (m ((c : Thread nD τ).loc main_arg13)))
    (row64 (m ((c : Thread nD τ).loc main_arg14)))
    (m ((c : Thread nD τ).loc main_arg15))
    (col16 (m ((c : Thread nD τ).loc main_arg16)))
    (col16 (m ((c : Thread nD τ).loc main_arg17)))
    (row16 (m ((c : Thread nD τ).loc main_arg18)))
    (row16 (m ((c : Thread nD τ).loc main_arg19)))
    (row16 (m ((c : Thread nD τ).loc main_arg20)))
    (m ((c : Thread nD τ).loc main_arg21))
    (row2 (m ((c : Thread nD τ).loc main_arg22)))
    rootSel
    meanSel
    poolSel
    minCol
    expand

theorem arrAt_out : (dats (F := Ideal) m 0 c).arrAt 20 cfg0.N = stage2 m c := by
  have hw : ((cfg0.win 20).blk t0_0).view.read (Elt Ideal) ((dats (F := Ideal) m 0 c).arrAt 20 cfg0.N)
      = (dats (F := Ideal) m 0 c).flushed 20 t0_0 := by
    rw [show cfg0.N = t0_0.val + 1 from rfl, (dats m 0 c).arrAt_succ (20 : Fin 21) t0_0, flush0_20, if_pos rfl]
    exact View.read_write_univ _ _
  have hf : (dats (F := Ideal) m 0 c).flushed 20 t0_0 = stage2 m c := by
    show (cfg0.win 20).cut _ ((dats (F := Ideal) m 0 c).after 20 t0_0) = _
    rw [after0_20, blk_w0, blk_w1, blk_w2, blk_w3, blk_w4, blk_w5, blk_w6, blk_w7, blk_w8, blk_w9, blk_w10, blk_w11, blk_w12, blk_w13, blk_w14, blk_w15, blk_w16, blk_w17, blk_w18, blk_w19,
      V_w0, V_w1, V_w2, V_w3, V_w4, V_w5, V_w6, V_w7, V_w8, V_w9, V_w10, V_w11, V_w12, V_w13, V_w14, V_w15, V_w16, V_w17, V_w18, V_w19]
    exact funext fun _ => rfl
  rw [hf] at hw
  exact (read_out c _).symm.trans hw

end Cert.Val.K

end
-- ==== Proof.Val.KIdx.lean ====
/-
  The kernel's gathers and scatters read at an index, one by one.
-/
module

public import proofs.«01_k».proof.Proof.Gen.KernelIdeal.Launch
public import proofs.«01_k».proof.Proof.Val.Scatter

@[expose] public section

set_option maxRecDepth 16384

noncomputable section

namespace Cert.Val.K

open Idealize.ShloMosaic Cert.KernelIdeal Cert.KernelIdeal.Gen

attribute [local instance] Cert.KernelIdeal.Gen.facts

theorem scatter_S100000_S1600000x1_S1600000_n_0_0_1_apply (x : FVec Ideal S100000 .f32) (d : IVec S1600000x1 32) (y : FVec Ideal S1600000 .f32) (v : Fin 100000) :
    Host.scatterAdd scatter_S100000_S1600000x1_S1600000_n_0_0_1 x d y (ix1 v)
      = x (ix1 v) + ∑ k : Fin 1600000, if (d (ix2 k 0)).toInt = (v.val : ℤ) then y (ix1 k) else (0 : EReal) :=
  scatter1_apply _ ⟨rfl, rfl, rfl, rfl⟩ x d y v

theorem gather_S100000_S1600000x1_S1600000_n_0_n_n_0_1_1_apply (x : FVec Ideal S100000 .f32) (d : IVec S1600000x1 32) (k : Fin 1600000) (v : Fin 100000)
    (hv : ((d (ix2 k 0))).toInt = (v.val : ℤ)) : Host.gather gather_S100000_S1600000x1_S1600000_n_0_n_n_0_1_1 x d (ix1 k) = x (ix1 v) :=
  gather1_apply _ ⟨rfl, rfl, rfl, rfl, rfl, rfl, rfl⟩ x d k v hv

theorem gather_S100000x8_S1600000x1_S1600000x8_1_0_n_n_0_1_18_apply (x : FVec Ideal S100000x8 .f32) (d : IVec S1600000x1 32) (k : Fin 1600000) (q : Fin 8) (v : Fin 100000)
    (hv : ((d (ix2 k 0))).toInt = (v.val : ℤ)) : Host.gather gather_S100000x8_S1600000x1_S1600000x8_1_0_n_n_0_1_18 x d (ix2 k q) = x (ix2 v q) :=
  gather2_apply _ ⟨rfl, rfl, rfl, rfl, rfl, rfl, rfl⟩ x d k q v hv

theorem scatter_S100000x8_S1600000x1_S1600000x8_1_0_0_1_apply (x : FVec Ideal S100000x8 .f32) (d : IVec S1600000x1 32) (y : FVec Ideal S1600000x8 .f32) (v : Fin 100000) (q : Fin 8) :
    Host.scatterAdd scatter_S100000x8_S1600000x1_S1600000x8_1_0_0_1 x d y (ix2 v q)
      = x (ix2 v q) + ∑ k : Fin 1600000, if (d (ix2 k 0)).toInt = (v.val : ℤ) then y (ix2 k q) else (0 : EReal) :=
  scatter2_apply _ ⟨rfl, rfl, rfl, rfl⟩ x d y v q

end Cert.Val.K

end
-- ==== Proof.Val.KGcn.lean ====
/-
  The kernel's graph convolution read at a node: the messages along the region's edges into the node, the node's own loop, the bias,
  and the rectifier.
-/
module

public import proofs.«01_k».proof.Proof.Val.KArr
public import proofs.«01_k».proof.Proof.Val.KIdx
public import Idealize.ShloMosaic.Lib.Pointwise

@[expose] public section

set_option maxRecDepth 16384

noncomputable section

namespace Cert.Val

open Idealize.ShloMosaic

/-- A sum over pairs counted off in one line. -/
theorem sum_flat {N : Nat} (a b : Nat) (hN : N = a * b) (f : Fin N → EReal) :
    ∑ e : Fin N, f e = ∑ i : Fin a, ∑ j : Fin b, f ⟨i.val * b + j.val, by
      subst hN; have := i.isLt; have := j.isLt; nlinarith⟩ := by
  subst hN
  rw [← Fintype.sum_prod_type', ← Equiv.sum_comp finProdFinEquiv]
  refine Finset.sum_congr rfl fun p _ => ?_
  congr 1; apply Fin.ext
  simp [finProdFinEquiv, Nat.add_comm, Nat.mul_comm]

/-- A sum cut in two. -/
theorem sum_cut {N : Nat} (a b : Nat) (hN : N = a + b) (f : Fin N → EReal) :
    ∑ e : Fin N, f e = (∑ i : Fin a, f ⟨i.val, by omega⟩) + ∑ j : Fin b, f ⟨a + j.val, by omega⟩ := by
  subst hN
  exact Fin.sum_univ_add f

/-- A small number as a word, read back. -/
theorem toInt_word {n : Nat} (h : n < 2 ^ 31) : (BitVec.ofNat 32 n).toInt = (n : ℤ) := by
  rw [BitVec.toInt_eq_toNat_cond, BitVec.toNat_ofNat]
  omega

/-- A word that reads as a small number is that number's. -/
theorem eq_word {n : Nat} (h : n < 2 ^ 31) {x : BitVec 32} (hx : x.toInt = (n : ℤ)) : x = BitVec.ofNat 32 n :=
  BitVec.eq_of_toInt_eq (hx.trans (toInt_word h).symm)

/-- The edges of a region: from `S` to `D`. -/
def Edges (a1 : IVec ⟨3, ![10, 2, 160000]⟩ 32) (S D : Fin 10 → Fin 160000 → Fin 10000) : Prop :=
  ∀ r e, (a1 (ix3 r 0 e)).toInt = ((S r e).val : ℤ) ∧ (a1 (ix3 r 1 e)).toInt = ((D r e).val : ℤ)

/-- The inverse root of a node's degree. -/
def dinvS (D : Fin 10 → Fin 160000 → Fin 10000) (r : Fin 10) (v : Fin 10000) : EReal :=
  Ideal.rsqrt ((∑ k : Fin 160000, if D r k = v then (1 : EReal) else 0) + 1)

/-- A node's linear map. -/
def linS (a0 : FVec Ideal ⟨3, ![10, 10000, 4]⟩ .f32) (a4 : FVec Ideal ⟨3, ![10, 4, 8]⟩ .f32) (r : Fin 10) (v : Fin 10000) (f : Fin 8) : EReal :=
  ∑ q : Fin 4, a0 (ix3 r v q) * a4 (ix3 r q f)

/-- A node's convolution, rectified. -/
def hidS (S D : Fin 10 → Fin 160000 → Fin 10000) (a0 : FVec Ideal ⟨3, ![10, 10000, 4]⟩ .f32) (a4 : FVec Ideal ⟨3, ![10, 4, 8]⟩ .f32)
    (a5 : FVec Ideal ⟨2, ![10, 8]⟩ .f32) (r : Fin 10) (v : Fin 10000) (f : Fin 8) : EReal :=
  max ((∑ k : Fin 160000, if D r k = v then linS a0 a4 r (S r k) f * (dinvS D r (S r k) * dinvS D r (D r k)) else (0 : EReal))
    + linS a0 a4 r v f * (dinvS D r v * dinvS D r v) + a5 (ix2 r f)) 0

end Cert.Val

namespace Cert.Val.K

open Idealize.ShloMosaic Cert.KernelIdeal Cert.KernelIdeal.Gen

attribute [local instance] Cert.KernelIdeal.Gen.facts

/-- A node among all nodes. -/
def nd (r : Fin 10) (v : Fin 10000) : Fin 100000 := ⟨r.val * 10000 + v.val, by omega⟩

/-- An edge among all edges. -/
def ed (r : Fin 10) (k : Fin 160000) : Fin 1600000 := ⟨r.val * 160000 + k.val, by omega⟩

theorem nd_inj {r r' : Fin 10} {v v' : Fin 10000} : ((nd r v).val : ℤ) = ((nd r' v').val : ℤ) ↔ r = r' ∧ v = v' := by
  simp only [nd, Fin.ext_iff]; omega

theorem flat_word {r v : Nat} (hr : r < 10) (hv : v < 10000) {x : BitVec 32} (hx : x.toInt = (v : ℤ)) :
    (IntOp.addi x (IntOp.muli (BitVec.ofNat 32 r) 10000#32)).toInt = ((r * 10000 + v : Nat) : ℤ) := by
  obtain rfl := eq_word (by omega) hx
  show (BitVec.ofNat 32 v + BitVec.ofNat 32 r * 10000#32).toInt = _
  rw [← BitVec.ofNat_mul, ← BitVec.ofNat_add, toInt_word (by omega)]; omega

variable {a1 : IVec S10x2x160000 32} {S D : Fin 10 → Fin 160000 → Fin 10000}

theorem src_apply (h : Edges a1 S D) (r : Fin 10) (k : Fin 160000) : (src a1 (ix1 (ed r k))).toInt = ((nd r (S r k)).val : ℤ) := by
  have e : src a1 (ix1 (ed r k)) = IntOp.addi (a1 (ix3 r 0 k)) (IntOp.muli (BitVec.ofNat 32 r.val) 10000#32) := by
    have h1 : (r.val * 160000 + k.val) / 160000 = r.val := by omega
    have h2 : (r.val * 160000 + k.val) % 160000 = k.val := by omega
    pointwise [src, offs]
    simp only [ed, h1, h2]
  rw [e]
  exact flat_word r.isLt (S r k).isLt (h r k).1

theorem dst_apply (h : Edges a1 S D) (r : Fin 10) (k : Fin 160000) : (dst a1 (ix1 (ed r k))).toInt = ((nd r (D r k)).val : ℤ) := by
  have e : dst a1 (ix1 (ed r k)) = IntOp.addi (a1 (ix3 r 1 k)) (IntOp.muli (BitVec.ofNat 32 r.val) 10000#32) := by
    have h1 : (r.val * 160000 + k.val) / 160000 = r.val := by omega
    have h2 : (r.val * 160000 + k.val) % 160000 = k.val := by omega
    pointwise [dst, offs]
    simp only [ed, h1, h2]
  rw [e]
  exact flat_word r.isLt (D r k).isLt (h r k).2

theorem col_apply (x : IVec S1600000 32) (e : Fin 1600000) (h : 0 ≤ (x (ix1 e)).toInt) : col x (ix2 e 0) = x (ix1 e) := by
  have : col x (ix2 e 0) = select (cmpi .slt x (broadcastInDim S1600000 ![] bcast_S_S1600000 (constantI S_ 32 0#32)))
      (addi x (broadcastInDim S1600000 ![] bcast_S_S1600000 (constantI S_ 32 100000#32))) x (ix1 e) := by
    unfold col
    generalize select _ _ _ = y
    pointwise
  rw [this]
  refine wrap_apply _ _ _ _ ?_ h
  rfl

theorem colSrc (h : Edges a1 S D) (r : Fin 10) (k : Fin 160000) : (col (src a1) (ix2 (ed r k) 0)).toInt = ((nd r (S r k)).val : ℤ) := by
  rw [col_apply _ _ (by rw [src_apply h]; omega), src_apply h]

theorem colDst (h : Edges a1 S D) (r : Fin 10) (k : Fin 160000) : (col (dst a1) (ix2 (ed r k) 0)).toInt = ((nd r (D r k)).val : ℤ) := by
  rw [col_apply _ _ (by rw [dst_apply h]; omega), dst_apply h]

/-- A sum over all edges into a node is a sum over its region's edges into it. -/
theorem sum_into (h : Edges a1 S D) (f : Fin 1600000 → EReal) (r : Fin 10) (v : Fin 10000) :
    (∑ e : Fin 1600000, if (col (dst a1) (ix2 e 0)).toInt = ((nd r v).val : ℤ) then f e else (0 : EReal))
      = ∑ k : Fin 160000, if D r k = v then f (ed r k) else 0 := by
  rw [sum_flat 10 160000 rfl, Finset.sum_eq_single r]
  · refine Finset.sum_congr rfl fun k _ => ?_
    have := colDst h r k
    rw [show (⟨r.val * 160000 + k.val, _⟩ : Fin 1600000) = ed r k from rfl, this]
    simp only [nd_inj, true_and]
  · intro i _ hi
    refine Finset.sum_eq_zero fun k _ => ?_
    rw [show (⟨i.val * 160000 + k.val, _⟩ : Fin 1600000) = ed i k from rfl, colDst h i k, if_neg]
    rw [nd_inj]; exact fun hh => hi hh.1
  · intro hh; exact absurd (Finset.mem_univ _) hh

theorem dinv_apply (h : Edges a1 S D) (r : Fin 10) (v : Fin 10000) : dinv (col (dst a1)) (ix1 (nd r v)) = dinvS D r v := by
  have key : ∀ x : FVec Ideal S100000 .f32, Host.rsqrt (addf x (broadcastInDim S100000 ![] bcast_S_S100000 (constant S_ .f32 0x3F800000#32)))
      (ix1 (nd r v)) = Ideal.rsqrt (x (ix1 (nd r v)) + 1) := by intro x; pointwise
  have h0 : broadcastInDim S100000 ![] bcast_S_S100000 (constant (F := Ideal) S_ .f32 0x00000000#32) (ix1 (nd r v)) = (0 : EReal) := by pointwise
  have h1 : ∀ e : Fin 1600000, broadcastInDim S1600000 ![] bcast_S_S1600000 (constant (F := Ideal) S_ .f32 0x3F800000#32) (ix1 e) = (1 : EReal) := by
    intro e; pointwise
  unfold dinv
  rw [key, scatter_S100000_S1600000x1_S1600000_n_0_0_1_apply, sum_into h, h0, zero_add]
  simp only [h1]
  rfl

theorem lin_apply (a0 : FVec Ideal S10x10000x4 .f32) (a4 : FVec Ideal S10x4x8 .f32) (r : Fin 10) (v : Fin 10000) (f : Fin 8) :
    lin a0 a4 (ix2 (nd r v) f) = linS a0 a4 r v f := by
  have h1 : (r.val * 10000 + v.val) / 10000 = r.val := by omega
  have h2 : (r.val * 10000 + v.val) % 10000 = v.val := by omega
  pointwise [lin]
  simp only [nd, h1, h2]
  rfl

theorem msg_apply (h : Edges a1 S D) (x : FVec Ideal S100000x8 .f32) (w : FVec Ideal S100000 .f32) (r : Fin 10) (k : Fin 160000) (f : Fin 8) :
    msg x w (col (src a1)) (col (dst a1)) (ix2 (ed r k) f)
      = x (ix2 (nd r (S r k)) f) * (w (ix1 (nd r (S r k))) * w (ix1 (nd r (D r k)))) := by
  have key : ∀ (y : FVec Ideal S1600000x8 .f32) (z z' : FVec Ideal S1600000 .f32), mulf y
    (broadcastInDim S1600000x8 ![0, 1] bcast_S1600000x1_S1600000x8_0_1
      (broadcastInDim S1600000x1 ![0] bcast_S1600000_S1600000x1_0 (mulf z z'))) (ix2 (ed r k) f)
      = y (ix2 (ed r k) f) * (z (ix1 (ed r k)) * z' (ix1 (ed r k))) := by intro y z z'; pointwise
  unfold msg
  rw [key, gather_S100000x8_S1600000x1_S1600000x8_1_0_n_n_0_1_18_apply _ _ _ _ _ (colSrc h r k),
    gather_S100000_S1600000x1_S1600000_n_0_n_n_0_1_1_apply _ _ _ _ (colSrc h r k),
    gather_S100000_S1600000x1_S1600000_n_0_n_n_0_1_1_apply _ _ _ _ (colDst h r k)]

theorem hid_apply (h : Edges a1 S D) (a0 : FVec Ideal S10x10000x4 .f32) (a4 : FVec Ideal S10x4x8 .f32) (a5 : FVec Ideal S10x8 .f32)
    (r : Fin 10) (v : Fin 10000) (f : Fin 8) : hid a0 a1 a4 a5 (ix3 r v f) = hidS S D a0 a4 a5 r v f := by
  have key : ∀ (y x : FVec Ideal S100000x8 .f32) (w : FVec Ideal S100000 .f32), maximumf (addf (shapeCast _ (addf y
      (mulf x (broadcastInDim S100000x8 ![0, 1] bcast_S100000x1_S100000x8_0_1
        (broadcastInDim S100000x1 ![0] bcast_S100000_S100000x1_0 (mulf w w))))) shapeCasts_S100000x8_S10x10000x8)
    (broadcastInDim S10x10000x8 ![0, 1, 2] bcast_S10x1x8_S10x10000x8_0_1_2 (broadcastInDim S10x1x8 ![0, 2] bcast_S10x8_S10x1x8_0_2 a5)))
      (broadcastInDim S10x10000x8 ![] bcast_S_S10x10000x8 (constant (F := Ideal) S_ .f32 0x00000000#32)) (ix3 r v f)
      = max (y (ix2 (nd r v) f) + x (ix2 (nd r v) f) * (w (ix1 (nd r v)) * w (ix1 (nd r v))) + a5 (ix2 r f)) 0 := by
    intro y x w; pointwise; rfl
  have h0 : broadcastInDim S100000x8 ![] bcast_S_S100000x8 (constant (F := Ideal) S_ .f32 0x00000000#32) (ix2 (nd r v) f) = (0 : EReal) := by pointwise
  unfold hid conv
  rw [key, scatter_S100000x8_S1600000x1_S1600000x8_1_0_0_1_apply, sum_into h, h0, zero_add, dinv_apply h, lin_apply]
  have hs : (∑ k : Fin 160000, if D r k = v then msg (lin a0 a4) (dinv (col (dst a1))) (col (src a1)) (col (dst a1)) (ix2 (ed r k) f) else 0)
      = ∑ k : Fin 160000, if D r k = v then linS a0 a4 r (S r k) f * (dinvS D r (S r k) * dinvS D r (D r k)) else (0 : EReal) :=
    Finset.sum_congr rfl fun k _ => by rw [msg_apply h, lin_apply, dinv_apply h, dinv_apply h]
  rw [hs, hidS]

end Cert.Val.K

end
-- ==== Proof.Val.RGcn.lean ====
/-
  The reference's graph convolution read at a node: its edges with a loop at every node, region by region, are the region's edges and
  then the loops, so that it is the kernel's.
-/
module

public import proofs.«01_k».proof.Proof.Val.RIdx
public import proofs.«01_k».proof.Proof.Val.KGcn
public import Idealize.ShloMosaic.Lib.Pointwise

@[expose] public section

set_option maxRecDepth 16384

noncomputable section

namespace Cert.Val.R

open Idealize.ShloMosaic Cert.ReferenceIdeal Cert.ReferenceIdeal.Gen Cert.ReferenceIdeal.Value

attribute [local instance] Cert.ReferenceIdeal.Gen.facts

/-- Every node of every region. -/
def loops : IVec S10x10000 32 := broadcastInDim S10x10000 ![1] bcast_S10000_S10x10000_1 (iotaInDim S10000 32 0)

/-- The edges' sources, then the loops. -/
def src (a1 : IVec S10x2x160000 32) : IVec S10x170000 32 :=
  concatenate S10x170000 1 [⟨S10x160000, (shapeCast _ (extractStridedSlice S10x1x160000 ![0, 0, 0] a1 slices_S10x2x160000_S10x1x160000_0_0_0) shapeCasts_S10x1x160000_S10x160000)⟩, ⟨S10x10000, loops⟩] concatenates_S10x160000_S10x10000_S10x170000_d1

/-- The edges' destinations, then the loops. -/
def dst (a1 : IVec S10x2x160000 32) : IVec S10x170000 32 :=
  concatenate S10x170000 1 [⟨S10x160000, (shapeCast _ (extractStridedSlice S10x1x160000 ![0, 1, 0] a1 slices_S10x2x160000_S10x1x160000_0_1_0) shapeCasts_S10x1x160000_S10x160000)⟩, ⟨S10x10000, loops⟩] concatenates_S10x160000_S10x10000_S10x170000_d1

/-- The regions. -/
def regs : IVec S10x1 32 := broadcastInDim S10x1 ![0] bcast_S10_S10x1_0 (iotaInDim S10 32 0)

/-- A column of nodes beside their regions. -/
def pairs (x : IVec S10x170000 32) : IVec S10x170000x2 32 :=
  concatenate S10x170000x2 2 [⟨S10x170000x1, (broadcastInDim S10x170000x1 ![0, 1] bcast_S10x170000_S10x170000x1_0_1 (broadcastInDim S10x170000 ![0, 1] bcast_S10x1_S10x170000_0_1 (select (cmpi .slt regs (broadcastInDim S10x1 ![] bcast_S_S10x1 (constantI S_ 32 0#32))) (addi regs (broadcastInDim S10x1 ![] bcast_S_S10x1 (constantI S_ 32 10#32))) regs)))⟩, ⟨S10x170000x1, (broadcastInDim S10x170000x1 ![0, 1] bcast_S10x170000_S10x170000x1_0_1 (select (cmpi .slt x (broadcastInDim S10x170000 ![] bcast_S_S10x170000 (constantI S_ 32 0#32))) (addi x (broadcastInDim S10x170000 ![] bcast_S_S10x170000 (constantI S_ 32 10000#32))) x))⟩] concatenates_S10x170000x1_S10x170000x1_S10x170000x2_d2

/-- The inverse root of a degree that is at least one. -/
def dinv (d : IVec S10x170000x2 32) : FVec Ideal S10x10000 .f32 :=
  Host.rsqrt (maximumf (broadcastInDim S10x10000 ![] bcast_S_S10x10000 (id (constant S_ .f32 0x3F800000#32))) (Host.scatterAdd scatter_S10x10000_S10x170000x2_S10x170000_n_01_01_2 (broadcastInDim S10x10000 ![] bcast_S_S10x10000 (constant S_ .f32 0x00000000#32)) d (broadcastInDim S10x170000 ![] bcast_S_S10x170000 (constant S_ .f32 0x3F800000#32))))

/-- What each edge and loop carries. -/
def msg (h : FVec Ideal S10x10000x8 .f32) (w : FVec Ideal S10x10000 .f32) (s d : IVec S10x170000x2 32) : FVec Ideal S10x170000x8 .f32 :=
  mulf (Host.gather gather_S10x10000x8_S10x170000x2_S10x170000x8_2_01_n_n_01_2_118 h s) (broadcastInDim S10x170000x8 ![0, 1, 2] bcast_S10x170000x1_S10x170000x8_0_1_2 (broadcastInDim S10x170000x1 ![0, 1] bcast_S10x170000_S10x170000x1_0_1 (mulf (Host.gather gather_S10x10000_S10x170000x2_S10x170000_n_01_n_n_01_2_11 w s) (Host.gather gather_S10x10000_S10x170000x2_S10x170000_n_01_n_n_01_2_11 w d))))

/-- The linear map. -/
def lin (a0 : FVec Ideal S10x10000x4 .f32) (a4 : FVec Ideal S10x4x8 .f32) : FVec Ideal S10x10000x8 .f32 :=
  Host.dotGeneral dot_S10x10000x4_S10x4x8_S10x10000x8_2_1_1_2_0_0 none a0 a4

/-- The convolution, rectified. -/
def hid (h : FVec Ideal S10x10000x8 .f32) (w : FVec Ideal S10x10000 .f32) (s d : IVec S10x170000x2 32) (a5 : FVec Ideal S10x8 .f32) :
    FVec Ideal S10x10000x8 .f32 :=
  maximumf (addf (Host.scatterAdd scatter_S10x10000x8_S10x170000x2_S10x170000x8_2_01_01_2 (broadcastInDim S10x10000x8 ![] bcast_S_S10x10000x8 (constant S_ .f32 0x00000000#32)) d (msg h w s d))
    (broadcastInDim S10x10000x8 ![0, 1, 2] bcast_S10x1x8_S10x10000x8_0_1_2 (broadcastInDim S10x1x8 ![0, 2] bcast_S10x8_S10x1x8_0_2 a5)))
    (broadcastInDim S10x10000x8 ![] bcast_S_S10x10000x8 (constant S_ .f32 0x00000000#32))

theorem res_dinv (V : Valuation τ sig (Elt Ideal)) : res_main_v28 V = dinv (pairs (dst (V (Proc.devRef .tc main_arg1)))) := rfl

theorem res_hid (V : Valuation τ sig (Elt Ideal)) : res_main_v98 V
    = hid (lin (V (Proc.devRef .tc main_arg0)) (V (Proc.devRef .tc main_arg4))) (dinv (pairs (dst (V (Proc.devRef .tc main_arg1)))))
        (pairs (src (V (Proc.devRef .tc main_arg1)))) (pairs (dst (V (Proc.devRef .tc main_arg1)))) (V (Proc.devRef .tc main_arg5)) := rfl

/-- An edge among edges and loops. -/
def ie (k : Fin 160000) : Fin 170000 := ⟨k.val, by omega⟩

/-- A loop among edges and loops. -/
def il (v : Fin 10000) : Fin 170000 := ⟨160000 + v.val, by omega⟩

theorem sum_split (f : Fin 170000 → EReal) : ∑ k, f k = (∑ k : Fin 160000, f (ie k)) + ∑ v : Fin 10000, f (il v) :=
  sum_cut 160000 10000 rfl f

theorem loops_apply (r : Fin 10) (v : Fin 10000) : loops (ix2 r v) = BitVec.ofNat 32 v.val := by
  pointwise [loops]

theorem src_edge (a1 : IVec S10x2x160000 32) (r : Fin 10) (k : Fin 160000) : src a1 (ix2 r (ie k)) = a1 (ix3 r 0 k) := by
  have := k.isLt
  pointwise [src]
  simp [ie, this]

theorem dst_edge (a1 : IVec S10x2x160000 32) (r : Fin 10) (k : Fin 160000) : dst a1 (ix2 r (ie k)) = a1 (ix3 r 1 k) := by
  have := k.isLt
  pointwise [dst]
  simp [ie, this]

theorem src_loop (a1 : IVec S10x2x160000 32) (r : Fin 10) (v : Fin 10000) : src a1 (ix2 r (il v)) = BitVec.ofNat 32 v.val := by
  rw [← loops_apply r v]
  pointwise [src]
  simp [il]

theorem dst_loop (a1 : IVec S10x2x160000 32) (r : Fin 10) (v : Fin 10000) : dst a1 (ix2 r (il v)) = BitVec.ofNat 32 v.val := by
  rw [← loops_apply r v]
  pointwise [dst]
  simp [il]

theorem pairs_zero (x : IVec S10x170000 32) (a : Fin 10) (k : Fin 170000) : (pairs x (ix3 a k 0)).toInt = (a.val : ℤ) := by
  have e : pairs x (ix3 a k 0) = select (cmpi .slt regs (broadcastInDim S10x1 ![] bcast_S_S10x1 (constantI S_ 32 0#32))) (addi regs (broadcastInDim S10x1 ![] bcast_S_S10x1 (constantI S_ 32 10#32))) regs (ix2 a 0) := by
    unfold pairs
    generalize select (cmpi .slt regs (broadcastInDim S10x1 ![] bcast_S_S10x1 (constantI S_ 32 0#32))) _ _ = y
    pointwise
  have r : regs (ix2 a 0) = BitVec.ofNat 32 a.val := by pointwise [regs]
  rw [e, wrap_apply _ _ _ _ rfl (by rw [r, toInt_word (by omega)]; omega), r, toInt_word (by omega)]

theorem pairs_one (x : IVec S10x170000 32) (a : Fin 10) (k : Fin 170000) (h : 0 ≤ (x (ix2 a k)).toInt) : pairs x (ix3 a k 1) = x (ix2 a k) := by
  have e : pairs x (ix3 a k 1) = select (cmpi .slt x (broadcastInDim S10x170000 ![] bcast_S_S10x170000 (constantI S_ 32 0#32))) (addi x (broadcastInDim S10x170000 ![] bcast_S_S10x170000 (constantI S_ 32 10000#32))) x (ix2 a k) := by
    unfold pairs
    generalize select (cmpi .slt x (broadcastInDim S10x170000 ![] bcast_S_S10x170000 (constantI S_ 32 0#32))) _ _ = y
    pointwise
  rw [e, wrap_apply _ _ _ _ rfl h]

variable {a1 : IVec S10x2x160000 32} {S D : Fin 10 → Fin 160000 → Fin 10000}

theorem psrc_edge (h : Edges a1 S D) (r : Fin 10) (k : Fin 160000) : (pairs (src a1) (ix3 r (ie k) 1)).toInt = ((S r k).val : ℤ) := by
  rw [pairs_one _ _ _ (by rw [src_edge, (h r k).1]; omega), src_edge, (h r k).1]

theorem pdst_edge (h : Edges a1 S D) (r : Fin 10) (k : Fin 160000) : (pairs (dst a1) (ix3 r (ie k) 1)).toInt = ((D r k).val : ℤ) := by
  rw [pairs_one _ _ _ (by rw [dst_edge, (h r k).2]; omega), dst_edge, (h r k).2]

theorem psrc_loop (r : Fin 10) (v : Fin 10000) : (pairs (src a1) (ix3 r (il v) 1)).toInt = (v.val : ℤ) := by
  rw [pairs_one _ _ _ (by rw [src_loop, toInt_word (by omega)]; omega), src_loop, toInt_word (by omega)]

theorem pdst_loop (r : Fin 10) (v : Fin 10000) : (pairs (dst a1) (ix3 r (il v) 1)).toInt = (v.val : ℤ) := by
  rw [pairs_one _ _ _ (by rw [dst_loop, toInt_word (by omega)]; omega), dst_loop, toInt_word (by omega)]

/-- A sum over the edges and loops into a node: its region's edges into it, and its own loop. -/
theorem sum_into (h : Edges a1 S D) (f : Fin 170000 → EReal) (r : Fin 10) (v : Fin 10000) :
    (∑ e : Fin 170000, if (pairs (dst a1) (ix3 r e 1)).toInt = (v.val : ℤ) then f e else (0 : EReal))
      = (∑ k : Fin 160000, if D r k = v then f (ie k) else 0) + f (il v) := by
  rw [sum_split]
  refine congrArg₂ (· + ·) ?_ ?_
  · refine Finset.sum_congr rfl fun k _ => ?_
    rw [pdst_edge h]
    simp only [Nat.cast_inj, Fin.ext_iff]
  · rw [Finset.sum_eq_single v]
    · rw [pdst_loop, if_pos rfl]
    · intro u _ hu
      rw [pdst_loop, if_neg]
      intro hh; exact hu (Fin.ext (by exact_mod_cast hh))
    · intro hh; exact absurd (Finset.mem_univ _) hh

theorem dinv_apply (h : Edges a1 S D) (r : Fin 10) (v : Fin 10000) : dinv (pairs (dst a1)) (ix2 r v) = dinvS D r v := by
  have key : ∀ x : FVec Ideal S10x10000 .f32, Host.rsqrt (maximumf (broadcastInDim S10x10000 ![] bcast_S_S10x10000 (id (constant S_ .f32 0x3F800000#32))) x)
      (ix2 r v) = Ideal.rsqrt (max 1 (x (ix2 r v))) := by intro x; simp only [id]; pointwise
  have h0 : broadcastInDim S10x10000 ![] bcast_S_S10x10000 (constant (F := Ideal) S_ .f32 0x00000000#32) (ix2 r v) = (0 : EReal) := by pointwise
  have h1 : ∀ e : Fin 170000, broadcastInDim S10x170000 ![] bcast_S_S10x170000 (constant (F := Ideal) S_ .f32 0x3F800000#32) (ix2 r e) = (1 : EReal) := by
    intro e; pointwise
  unfold dinv
  rw [key, scatter_S10x10000_S10x170000x2_S10x170000_n_01_01_2_apply _ _ _ (pairs_zero _), sum_into h, h0, zero_add]
  simp only [h1]
  rw [max_eq_right]
  · rfl
  · exact le_add_of_nonneg_left (Finset.sum_nonneg fun k _ => by split <;> norm_num)

theorem lin_apply (a0 : FVec Ideal S10x10000x4 .f32) (a4 : FVec Ideal S10x4x8 .f32) (r : Fin 10) (v : Fin 10000) (f : Fin 8) :
    lin a0 a4 (ix3 r v f) = linS a0 a4 r v f := by
  pointwise [lin]
  rfl

theorem msg_apply (x : FVec Ideal S10x10000x8 .f32) (w : FVec Ideal S10x10000 .f32) (r : Fin 10) (e : Fin 170000) (f : Fin 8) (u v : Fin 10000)
    (hu : (pairs (src a1) (ix3 r e 1)).toInt = (u.val : ℤ)) (hv : (pairs (dst a1) (ix3 r e 1)).toInt = (v.val : ℤ)) :
    msg x w (pairs (src a1)) (pairs (dst a1)) (ix3 r e f) = x (ix3 r u f) * (w (ix2 r u) * w (ix2 r v)) := by
  have key : ∀ (y : FVec Ideal S10x170000x8 .f32) (z z' : FVec Ideal S10x170000 .f32), mulf y
    (broadcastInDim S10x170000x8 ![0, 1, 2] bcast_S10x170000x1_S10x170000x8_0_1_2 (broadcastInDim S10x170000x1 ![0, 1] bcast_S10x170000_S10x170000x1_0_1 (mulf z z'))) (ix3 r e f)
      = y (ix3 r e f) * (z (ix2 r e) * z' (ix2 r e)) := by intro y z z'; pointwise
  unfold msg
  rw [key, gather_S10x10000x8_S10x170000x2_S10x170000x8_2_01_n_n_01_2_118_apply _ _ _ _ _ _ _ (pairs_zero _ _ _) hu,
    gather_S10x10000_S10x170000x2_S10x170000_n_01_n_n_01_2_11_apply _ _ _ _ _ _ (pairs_zero _ _ _) hu,
    gather_S10x10000_S10x170000x2_S10x170000_n_01_n_n_01_2_11_apply _ _ _ _ _ _ (pairs_zero _ _ _) hv]

theorem hid_apply (h : Edges a1 S D) (a0 : FVec Ideal S10x10000x4 .f32) (a4 : FVec Ideal S10x4x8 .f32) (a5 : FVec Ideal S10x8 .f32)
    (r : Fin 10) (v : Fin 10000) (f : Fin 8) :
    hid (lin a0 a4) (dinv (pairs (dst a1))) (pairs (src a1)) (pairs (dst a1)) a5 (ix3 r v f) = hidS S D a0 a4 a5 r v f := by
  have key : ∀ y : FVec Ideal S10x10000x8 .f32, maximumf (addf y
    (broadcastInDim S10x10000x8 ![0, 1, 2] bcast_S10x1x8_S10x10000x8_0_1_2 (broadcastInDim S10x1x8 ![0, 2] bcast_S10x8_S10x1x8_0_2 a5)))
    (broadcastInDim S10x10000x8 ![] bcast_S_S10x10000x8 (constant S_ .f32 0x00000000#32)) (ix3 r v f)
      = max (y (ix3 r v f) + a5 (ix2 r f)) 0 := by
    intro y; pointwise
  have h0 : broadcastInDim S10x10000x8 ![] bcast_S_S10x10000x8 (constant (F := Ideal) S_ .f32 0x00000000#32) (ix3 r v f) = (0 : EReal) := by pointwise
  unfold hid
  rw [key, scatter_S10x10000x8_S10x170000x2_S10x170000x8_2_01_01_2_apply _ _ _ (pairs_zero _), sum_into h, h0, zero_add,
    msg_apply _ _ _ _ _ v v (psrc_loop r v) (pdst_loop r v), lin_apply, dinv_apply h]
  have hs : (∑ k : Fin 160000, if D r k = v then msg (lin a0 a4) (dinv (pairs (dst a1))) (pairs (src a1)) (pairs (dst a1)) (ix3 r (ie k) f) else 0)
      = ∑ k : Fin 160000, if D r k = v then linS a0 a4 r (S r k) f * (dinvS D r (S r k) * dinvS D r (D r k)) else (0 : EReal) :=
    Finset.sum_congr rfl fun k _ => by
      rw [msg_apply _ _ _ _ _ (S r k) (D r k) (psrc_edge h r k) (pdst_edge h r k), lin_apply, dinv_apply h, dinv_apply h]
  rw [hs, hidS]

/-- The two convolutions are one. -/
theorem hid_eq (h : Edges a1 S D) (a0 : FVec Ideal S10x10000x4 .f32) (a4 : FVec Ideal S10x4x8 .f32) (a5 : FVec Ideal S10x8 .f32) :
    hid (lin a0 a4) (dinv (pairs (dst a1))) (pairs (src a1)) (pairs (dst a1)) a5 = K.hid a0 a1 a4 a5 := by
  funext i
  rw [eq_ix3 i]
  exact (hid_apply h a0 a4 a5 _ _ _).trans (K.hid_apply h a0 a4 a5 _ _ _).symm

end Cert.Val.R

end
-- ==== Proof.Val.Arith.lean ====
/-
  Facts of extended-real arithmetic that the two programs' results differ by: the constants they write, dividing by a root, taking a
  factor out of a sum.
-/
module

public import Idealize.ShloMosaic.Lib.Pointwise
public import Idealize.ShloMosaic.Lib.IdealHost

@[expose] public section

noncomputable section

namespace Cert.Val

open Idealize.ShloMosaic

theorem c_8 : Ideal.ofBits .f32 0x41000000#32 = ((8 : ℝ) : EReal) := by
  simp [Ideal.ofBits, Ideal.ieee, -EReal.coe_mul]; norm_num
theorem c_10 : Ideal.ofBits .f32 0x41200000#32 = ((10 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_100 : Ideal.ofBits .f32 0x42C80000#32 = ((100 : ℝ) : EReal) := by
  simp [Ideal.ofBits, Ideal.ieee, -EReal.coe_mul]; norm_num
theorem c_200 : Ideal.ofBits .f32 0x43480000#32 = ((200 : ℝ) : EReal) := by
  simp [Ideal.ofBits, Ideal.ieee, -EReal.coe_mul]; norm_num
theorem c_1600 : Ideal.ofBits .f32 0x44C80000#32 = ((1600 : ℝ) : EReal) := by
  simp [Ideal.ofBits, Ideal.ieee, -EReal.coe_mul]; norm_num

theorem eps5_pos : 0 < Ideal.ofBits .f32 0x3727C5AC#32 := by
  have : Ideal.ofBits .f32 0x3727C5AC#32 = ((10995116 * 2 ^ (-40 : ℤ) : ℝ) : EReal) := by
    simp [Ideal.ofBits, Ideal.ieee, -EReal.coe_mul]
  rw [this]
  exact_mod_cast (by positivity : (0 : ℝ) < 10995116 * 2 ^ (-40 : ℤ))

theorem eps16_pos : 0 < Ideal.ofBits .f32 0x24E69595#32 := by
  have : ∃ r : ℝ, 0 < r ∧ Ideal.ofBits .f32 0x24E69595#32 = (r : EReal) := by
    refine ⟨15111573 * 2 ^ (-77 : ℤ), by positivity, ?_⟩
    simp [Ideal.ofBits, Ideal.ieee, -EReal.coe_mul]
  obtain ⟨r, h, e⟩ := this
  rw [e]
  exact_mod_cast h

/-- A square is at least zero. -/
theorem sq_nonneg' (x : EReal) : 0 ≤ x * x := by
  rcases le_total 0 x with h | h
  · exact mul_nonneg h h
  · have := EReal.neg_nonneg.mpr h
    rw [← neg_mul_neg]
    exact mul_nonneg this this

theorem div_pos' (x : EReal) {c : ℝ} (hc : c ≠ 0) : Ideal.div x (c : EReal) = x * ((c⁻¹ : ℝ) : EReal) := by
  unfold Ideal.div
  rw [if_neg (by exact_mod_cast hc), EReal.coe_inv]

theorem div_nonneg' {x : EReal} (h : 0 ≤ x) {c : ℝ} (hc : 0 < c) : 0 ≤ Ideal.div x (c : EReal) := by
  rw [div_pos' x hc.ne']
  exact mul_nonneg h (by exact_mod_cast (inv_pos.mpr hc).le)

/-- Dividing by a root is multiplying by the inverse root. -/
theorem div_sqrt (x : EReal) {s : EReal} (hs : 0 < s) : Ideal.div x (Ideal.sqrt s) = x * Ideal.rsqrt s := by
  induction s with
  | bot => exact absurd hs (by simp)
  | top =>
    show (if (⊤ : EReal) = 0 then _ else x * (⊤ : EReal)⁻¹) = x * 0
    rw [if_neg (by simp), EReal.inv_top]
  | coe r =>
    have hr : 0 < r := by exact_mod_cast hs
    have h1 : Ideal.sqrt (r : EReal) = ((Real.sqrt r : ℝ) : EReal) := by
      show (if r < 0 then (⊥ : EReal) else _) = _
      rw [if_neg (not_lt.mpr hr.le)]
    have h2 : Ideal.rsqrt (r : EReal) = (((Real.sqrt r)⁻¹ : ℝ) : EReal) := by
      show (if r < 0 then (⊥ : EReal) else if r = 0 then ⊤ else _) = _
      rw [if_neg (not_lt.mpr hr.le), if_neg hr.ne']
    rw [h1, h2, div_pos' x (Real.sqrt_pos.mpr hr).ne']

/-- A real factor that is at least zero comes out of a sum. -/
theorem mul_sum' {n : Nat} {c : ℝ} (hc : 0 ≤ c) (f : Fin n → EReal) : ∑ i, (c : EReal) * f i = (c : EReal) * ∑ i, f i := by
  induction n with
  | zero => simp
  | succ n ih =>
    rw [Fin.sum_univ_succ, Fin.sum_univ_succ, ih,
      EReal.left_distrib_of_nonneg_of_ne_top (by exact_mod_cast hc) (EReal.coe_ne_top c)]

theorem sum_mul' {n : Nat} {c : ℝ} (hc : 0 ≤ c) (f : Fin n → EReal) : ∑ i, f i * (c : EReal) = (∑ i, f i) * (c : EReal) := by
  simp only [mul_comm _ (c : EReal)]
  exact mul_sum' hc f

/-- Ones counted. -/
theorem sum_one (n : Nat) : ∑ _i : Fin n, (1 : EReal) = ((n : ℝ) : EReal) := by
  induction n with
  | zero => simp
  | succ n ih =>
    rw [Fin.sum_univ_castSucc, ih]
    push_cast
    rfl

end Cert.Val

end
-- ==== Proof.Val.RNorm.lean ====
/-
  The reference's normalisation of each region's graphs: its sums over a graph's nodes are the kernel's, the graphs being runs of two
  hundred nodes, and dividing by the root is multiplying by the inverse root.
-/
module

public import proofs.«01_k».proof.Proof.Val.RGcn
public import proofs.«01_k».proof.Proof.Val.Arith

@[expose] public section

set_option maxRecDepth 16384

noncomputable section

namespace Cert.Val

open Idealize.ShloMosaic

/-- The graphs' nodes are runs of two hundred. -/
def Runs (a2 : IVec ⟨1, ![10000]⟩ 32) : Prop := ∀ i : Fin 10000, (a2 (ix1 i)).toInt = ((i.val / 200 : Nat) : ℤ)

/-- A graph's node among its region's nodes. -/
def nb (g : Fin 50) (j : Fin 200) : Fin 10000 := ⟨g.val * 200 + j.val, by omega⟩

end Cert.Val

namespace Cert.Val.R

open Idealize.ShloMosaic Cert.ReferenceIdeal Cert.ReferenceIdeal.Gen Cert.ReferenceIdeal.Value

attribute [local instance] Cert.ReferenceIdeal.Gen.facts

/-- The graph of each node, as an index column. -/
def bcol (a2 : IVec S10000 32) : IVec S10000x1 32 :=
  broadcastInDim S10000x1 ![0] bcast_S10000_S10000x1_0 (select (cmpi .slt a2 (broadcastInDim S10000 ![] bcast_S_S10000 (constantI S_ 32 0#32))) (addi a2 (broadcastInDim S10000 ![] bcast_S_S10000 (constantI S_ 32 50#32))) a2)

/-- The number of each graph's nodes. -/
def cnt (a2 : IVec S10000 32) : FVec Ideal S50 .f32 :=
  Host.scatterAdd scatter_S50_S10000x1_S10000_n_0_0_1 (broadcastInDim S50 ![] bcast_S_S50 (constant S_ .f32 0x00000000#32)) (bcol a2) (broadcastInDim S10000 ![] bcast_S_S10000 (constant S_ .f32 0x3F800000#32))

/-- The number of each graph's features. -/
def den (a2 : IVec S10000 32) : FVec Ideal S50 .f32 :=
  mulf (cnt a2) (broadcastInDim S50 ![] bcast_S_S50 (constant S_ .f32 0x41000000#32))

/-- Each graph's sum. -/
def seg (a2 : IVec S10000 32) (x : FVec Ideal S10x10000 .f32) : FVec Ideal S10x50 .f32 :=
  Host.scatterAdd scatter_S10x50_S10000x1_S10x10000_0_1_1_1 (broadcastInDim S10x50 ![] bcast_S_S10x50 (constant S_ .f32 0x00000000#32)) (bcol a2) x

/-- Each graph's mean over its nodes and features. -/
def gmean (a2 : IVec S10000 32) (x : FVec Ideal S10x10000x8 .f32) : FVec Ideal S10x50 .f32 :=
  Host.divf (seg a2 (Host.reduceAdd x (constant S_ .f32 0x00000000#32) reducesTo_S10x10000x8_S10x10000_d2 h_S_))
    (broadcastInDim S10x50 ![0, 1] bcast_S1x50_S10x50_0_1 (broadcastInDim S1x50 ![1] bcast_S50_S1x50_1 (den a2)))

/-- A graph's value at each of its nodes. -/
def atNode (a2 : IVec S10000 32) (x : FVec Ideal S10x50 .f32) : FVec Ideal S10x10000x8 .f32 :=
  broadcastInDim S10x10000x8 ![0, 1, 2] bcast_S10x10000x1_S10x10000x8_0_1_2 (broadcastInDim S10x10000x1 ![0, 1] bcast_S10x10000_S10x10000x1_0_1 (Host.gather gather_S10x50_S10000x1_S10x10000_0_1_n_n_1_1_101 x (bcol a2)))

/-- What is left when the graph's mean is taken off. -/
def cent (a2 : IVec S10000 32) (x : FVec Ideal S10x10000x8 .f32) : FVec Ideal S10x10000x8 .f32 := subf x (atNode a2 (gmean a2 x))

/-- The graph's standard deviation. -/
def dev (a2 : IVec S10000 32) (x : FVec Ideal S10x10000x8 .f32) : FVec Ideal S10x50 .f32 :=
  Host.sqrt (addf (gmean a2 (mulf x x)) (broadcastInDim S10x50 ![] bcast_S_S10x50 (constant S_ .f32 0x3727C5AC#32)))

/-- The normalised features from the centred ones. -/
def nrm (a2 : IVec S10000 32) (x : FVec Ideal S10x10000x8 .f32) (w b : FVec Ideal S10x8 .f32) : FVec Ideal S10x10000x8 .f32 :=
  addf (mulf (Host.divf x (atNode a2 (dev a2 x)))
      (broadcastInDim S10x10000x8 ![0, 1, 2] bcast_S10x1x8_S10x10000x8_0_1_2 (broadcastInDim S10x1x8 ![0, 2] bcast_S10x8_S10x1x8_0_2 w)))
    (broadcastInDim S10x10000x8 ![0, 1, 2] bcast_S10x1x8_S10x10000x8_0_1_2 (broadcastInDim S10x1x8 ![0, 2] bcast_S10x8_S10x1x8_0_2 b))

theorem res_cent (V : Valuation τ sig (Elt Ideal)) : res_main_v131 V = cent (V (Proc.devRef .tc main_arg2)) (res_main_v98 V) := rfl

theorem res_nrm (V : Valuation τ sig (Elt Ideal)) : res_main_v163 V
    = nrm (V (Proc.devRef .tc main_arg2)) (res_main_v131 V) (V (Proc.devRef .tc main_arg6)) (V (Proc.devRef .tc main_arg7)) := rfl

variable {a2 : IVec S10000 32}

theorem bcol_apply (h : Runs a2) (i : Fin 10000) : (bcol a2 (ix2 i 0)).toInt = ((i.val / 200 : Nat) : ℤ) := by
  have e : bcol a2 (ix2 i 0) = select (cmpi .slt a2 (broadcastInDim S10000 ![] bcast_S_S10000 (constantI S_ 32 0#32))) (addi a2 (broadcastInDim S10000 ![] bcast_S_S10000 (constantI S_ 32 50#32))) a2 (ix1 i) := by
    unfold bcol
    generalize select (cmpi .slt a2 _) _ _ = y
    pointwise
  rw [e, wrap_apply _ _ _ _ rfl (by rw [h i]; omega), h i]

theorem bcol_nb (h : Runs a2) (g : Fin 50) (j : Fin 200) : (bcol a2 (ix2 (nb g j) 0)).toInt = (g.val : ℤ) := by
  rw [bcol_apply h]; simp only [nb]; omega

/-- A sum over the nodes of a graph is over its run. -/
theorem sum_graph (h : Runs a2) (f : Fin 10000 → EReal) (g : Fin 50) :
    (∑ i : Fin 10000, if (bcol a2 (ix2 i 0)).toInt = (g.val : ℤ) then f i else (0 : EReal)) = ∑ j : Fin 200, f (nb g j) := by
  rw [sum_flat 50 200 rfl, Finset.sum_eq_single g]
  · refine Finset.sum_congr rfl fun j _ => ?_
    rw [show (⟨g.val * 200 + j.val, _⟩ : Fin 10000) = nb g j from rfl, bcol_nb h, if_pos rfl]
  · intro i _ hi
    refine Finset.sum_eq_zero fun j _ => ?_
    rw [show (⟨i.val * 200 + j.val, _⟩ : Fin 10000) = nb i j from rfl, bcol_nb h, if_neg]
    intro hh; exact hi (Fin.ext (by exact_mod_cast hh))
  · intro hh; exact absurd (Finset.mem_univ _) hh

theorem cnt_apply (h : Runs a2) (g : Fin 50) : cnt a2 (ix1 g) = ((200 : ℝ) : EReal) := by
  have h0 : broadcastInDim S50 ![] bcast_S_S50 (constant (F := Ideal) S_ .f32 0x00000000#32) (ix1 g) = (0 : EReal) := by pointwise
  have h1 : ∀ i : Fin 10000, broadcastInDim S10000 ![] bcast_S_S10000 (constant (F := Ideal) S_ .f32 0x3F800000#32) (ix1 i) = (1 : EReal) := by
    intro i; pointwise
  unfold cnt
  rw [scatter_S50_S10000x1_S10000_n_0_0_1_apply, sum_graph h, h0, zero_add]
  simp only [h1]
  exact_mod_cast sum_one 200

theorem den_apply (h : Runs a2) (g : Fin 50) : den a2 (ix1 g) = ((1600 : ℝ) : EReal) := by
  have key : ∀ x : FVec Ideal S50 .f32, mulf x (broadcastInDim S50 ![] bcast_S_S50 (constant S_ .f32 0x41000000#32)) (ix1 g)
      = x (ix1 g) * Ideal.ofBits .f32 0x41000000#32 := by intro x; pointwise
  unfold den
  rw [key, cnt_apply h, c_8, ← EReal.coe_mul]
  norm_num

theorem seg_apply (h : Runs a2) (x : FVec Ideal S10x10000 .f32) (r : Fin 10) (g : Fin 50) :
    seg a2 x (ix2 r g) = ∑ j : Fin 200, x (ix2 r (nb g j)) := by
  have h0 : broadcastInDim S10x50 ![] bcast_S_S10x50 (constant (F := Ideal) S_ .f32 0x00000000#32) (ix2 r g) = (0 : EReal) := by pointwise
  unfold seg
  rw [scatter_S10x50_S10000x1_S10x10000_0_1_1_1_apply, sum_graph h, h0, zero_add]

theorem gmean_apply (h : Runs a2) (x : FVec Ideal S10x10000x8 .f32) (r : Fin 10) (g : Fin 50) :
    gmean a2 x (ix2 r g) = Ideal.div (∑ j : Fin 200, ∑ f : Fin 8, x (ix3 r (nb g j) f)) ((1600 : ℝ) : EReal) := by
  have key : ∀ (y : FVec Ideal S10x50 .f32) (z : FVec Ideal S50 .f32),
      Host.divf y (broadcastInDim S10x50 ![0, 1] bcast_S1x50_S10x50_0_1 (broadcastInDim S1x50 ![1] bcast_S50_S1x50_1 z)) (ix2 r g)
        = Ideal.div (y (ix2 r g)) (z (ix1 g)) := by intro y z; pointwise
  have k2 : ∀ v : Fin 10000, Host.reduceAdd x (constant S_ .f32 0x00000000#32) reducesTo_S10x10000x8_S10x10000_d2 h_S_ (ix2 r v)
      = ∑ f : Fin 8, x (ix3 r v f) := by intro v; pointwise
  unfold gmean
  rw [key, den_apply h, seg_apply h]
  simp only [k2]

theorem atNode_apply (h : Runs a2) (x : FVec Ideal S10x50 .f32) (r : Fin 10) (g : Fin 50) (j : Fin 200) (f : Fin 8) :
    atNode a2 x (ix3 r (nb g j) f) = x (ix2 r g) := by
  have key : ∀ y : FVec Ideal S10x10000 .f32, broadcastInDim S10x10000x8 ![0, 1, 2] bcast_S10x10000x1_S10x10000x8_0_1_2 (broadcastInDim S10x10000x1 ![0, 1] bcast_S10x10000_S10x10000x1_0_1 y) (ix3 r (nb g j) f) = y (ix2 r (nb g j)) := by
    intro y; pointwise
  unfold atNode
  rw [key, gather_S10x50_S10000x1_S10x10000_0_1_n_n_1_1_101_apply _ _ _ _ g (bcol_nb h g j)]

theorem cent_apply (h : Runs a2) (x : FVec Ideal S10x10000x8 .f32) (r : Fin 10) (g : Fin 50) (j : Fin 200) (f : Fin 8) :
    cent a2 x (ix3 r (nb g j) f)
      = x (ix3 r (nb g j) f) - Ideal.div (∑ j : Fin 200, ∑ f : Fin 8, x (ix3 r (nb g j) f)) ((1600 : ℝ) : EReal) := by
  have key : ∀ y : FVec Ideal S10x10000x8 .f32, subf x y (ix3 r (nb g j) f) = x (ix3 r (nb g j) f) - y (ix3 r (nb g j) f) := by
    intro y; pointwise
  unfold cent
  rw [key, atNode_apply h, gmean_apply h]

/-- The mean of the squares, a little added, is positive. -/
theorem var_pos (f : Fin 200 → Fin 8 → EReal) :
    0 < Ideal.div (∑ j : Fin 200, ∑ q : Fin 8, f j q * f j q) ((1600 : ℝ) : EReal) + Ideal.ofBits .f32 0x3727C5AC#32 :=
  lt_of_lt_of_le eps5_pos (le_add_of_nonneg_left (div_nonneg' (Finset.sum_nonneg fun j _ => Finset.sum_nonneg fun q _ => sq_nonneg' _) (by norm_num)))

theorem nrm_apply (h : Runs a2) (x : FVec Ideal S10x10000x8 .f32) (w b : FVec Ideal S10x8 .f32) (r : Fin 10) (g : Fin 50) (j : Fin 200) (f : Fin 8) :
    nrm a2 x w b (ix3 r (nb g j) f)
      = x (ix3 r (nb g j) f) * Ideal.rsqrt (Ideal.div (∑ j : Fin 200, ∑ q : Fin 8, x (ix3 r (nb g j) q) * x (ix3 r (nb g j) q)) ((1600 : ℝ) : EReal)
          + Ideal.ofBits .f32 0x3727C5AC#32) * w (ix2 r f) + b (ix2 r f) := by
  have key : ∀ y : FVec Ideal S10x10000x8 .f32, addf (mulf (Host.divf x y)
      (broadcastInDim S10x10000x8 ![0, 1, 2] bcast_S10x1x8_S10x10000x8_0_1_2 (broadcastInDim S10x1x8 ![0, 2] bcast_S10x8_S10x1x8_0_2 w)))
    (broadcastInDim S10x10000x8 ![0, 1, 2] bcast_S10x1x8_S10x10000x8_0_1_2 (broadcastInDim S10x1x8 ![0, 2] bcast_S10x8_S10x1x8_0_2 b)) (ix3 r (nb g j) f)
      = Ideal.div (x (ix3 r (nb g j) f)) (y (ix3 r (nb g j) f)) * w (ix2 r f) + b (ix2 r f) := by
    intro y; pointwise
  have k2 : ∀ y : FVec Ideal S10x50 .f32, Host.sqrt (addf y (broadcastInDim S10x50 ![] bcast_S_S10x50 (constant S_ .f32 0x3727C5AC#32))) (ix2 r g)
      = Ideal.sqrt (y (ix2 r g) + Ideal.ofBits .f32 0x3727C5AC#32) := by intro y; pointwise
  have k3 : ∀ v q, mulf x x (ix3 r v q) = x (ix3 r v q) * x (ix3 r v q) := by intro v q; pointwise
  unfold nrm
  rw [key, atNode_apply h]
  unfold dev
  rw [k2, gmean_apply h]
  simp only [k3]
  rw [div_sqrt _ (var_pos fun j q => x (ix3 r (nb g j) q))]

end Cert.Val.R

namespace Cert.Val.K

open Idealize.ShloMosaic Cert.KernelIdeal Cert.KernelIdeal.Gen

attribute [local instance] Cert.KernelIdeal.Gen.facts

/-- The nodes set out graph by graph. -/
def graphs (x : FVec Ideal S10x10000x8 .f32) : FVec Ideal S10x50x200x8 .f32 := shapeCast _ x shapeCasts_S10x10000x8_S10x50x200x8

theorem graphs_apply (x : FVec Ideal S10x10000x8 .f32) (r : Fin 10) (g : Fin 50) (j : Fin 200) (f : Fin 8) :
    graphs x (ix4 r g j f) = x (ix3 r (nb g j) f) := by
  pointwise [graphs]
  congr 2

theorem gmean_apply (x : FVec Ideal S10x50x200x8 .f32) (r : Fin 10) (g : Fin 50) :
    gmean x (ix4 r g 0 0) = Ideal.div (∑ j : Fin 200, ∑ f : Fin 8, x (ix4 r g j f)) ((1600 : ℝ) : EReal) := by
  rw [← c_1600]
  pointwise [gmean]

theorem cent_apply (x : FVec Ideal S10x50x200x8 .f32) (r : Fin 10) (g : Fin 50) (j : Fin 200) (f : Fin 8) :
    cent x (ix4 r g j f) = x (ix4 r g j f) - Ideal.div (∑ j : Fin 200, ∑ f : Fin 8, x (ix4 r g j f)) ((1600 : ℝ) : EReal) := by
  have key : ∀ y : FVec Ideal S10x50x1x1 .f32, subf x (broadcastInDim S10x50x200x8 ![0, 1, 2, 3] bcast_S10x50x1x1_S10x50x200x8_0_1_2_3 y) (ix4 r g j f)
      = x (ix4 r g j f) - y (ix4 r g 0 0) := by intro y; pointwise
  unfold cent
  rw [key, gmean_apply]

theorem nrm_apply (x : FVec Ideal S10x50x200x8 .f32) (w b : FVec Ideal S10x8 .f32) (r : Fin 10) (g : Fin 50) (j : Fin 200) (f : Fin 8) :
    nrm x w b (ix4 r g j f)
      = x (ix4 r g j f) * Ideal.rsqrt (Ideal.div (∑ j : Fin 200, ∑ q : Fin 8, x (ix4 r g j q) * x (ix4 r g j q)) ((1600 : ℝ) : EReal)
          + Ideal.ofBits .f32 0x3727C5AC#32) * w (ix2 r f) + b (ix2 r f) := by
  have key : ∀ y : FVec Ideal S10x50x1x1 .f32, addf (mulf (mulf x (broadcastInDim S10x50x200x8 ![0, 1, 2, 3] bcast_S10x50x1x1_S10x50x200x8_0_1_2_3
        (Host.rsqrt (addf y (broadcastInDim S10x50x1x1 ![] bcast_S_S10x50x1x1 (constant S_ .f32 0x3727C5AC#32))))))
      (broadcastInDim S10x50x200x8 ![0, 1, 2, 3] bcast_S10x1x1x8_S10x50x200x8_0_1_2_3
        (broadcastInDim S10x1x1x8 ![0, 3] bcast_S10x8_S10x1x1x8_0_3 w)))
    (broadcastInDim S10x50x200x8 ![0, 1, 2, 3] bcast_S10x1x1x8_S10x50x200x8_0_1_2_3
      (broadcastInDim S10x1x1x8 ![0, 3] bcast_S10x8_S10x1x1x8_0_3 b)) (ix4 r g j f)
      = x (ix4 r g j f) * Ideal.rsqrt (y (ix4 r g 0 0) + Ideal.ofBits .f32 0x3727C5AC#32) * w (ix2 r f) + b (ix2 r f) := by
    intro y; pointwise
  have k3 : ∀ j q, mulf x x (ix4 r g j q) = x (ix4 r g j q) * x (ix4 r g j q) := by intro v q; pointwise
  unfold nrm
  rw [key, gmean_apply]
  simp only [k3]

/-- The two normalisations are one. -/
theorem xn_eq {a2 : IVec S10000 32} (h : Runs a2) (x : FVec Ideal S10x10000x8 .f32) (w b : FVec Ideal S10x8 .f32) :
    xn x w b = graphs (R.nrm a2 (R.cent a2 x) w b) := by
  have hc : ∀ r g j f, cent (graphs x) (ix4 r g j f) = R.cent a2 x (ix3 r (nb g j) f) := by
    intro r g j f
    rw [cent_apply, R.cent_apply h]
    simp only [graphs_apply]
  have hn : ∀ r g j f, xn x w b (ix4 r g j f) = graphs (R.nrm a2 (R.cent a2 x) w b) (ix4 r g j f) := by
    intro r g j f
    rw [graphs_apply, R.nrm_apply h]
    show nrm (cent (graphs x)) w b _ = _
    rw [nrm_apply]
    simp only [hc]
  funext i
  rw [eq_ix4 i]
  exact hn _ _ _ _

end Cert.Val.K

end
-- ==== Proof.Val.Ranges.lean ====
/-
  What the precondition says of the edges and of the nodes' graphs.
-/
module

public import proofs.«01_k».proof.Pre_ranges
public import proofs.«01_k».proof.Proof.Gen.Pre_ranges
public import proofs.«01_k».proof.Proof.Val.RNorm
public import Idealize.ShloMosaic.Lib.ReduceAll
public import Idealize.ShloMosaic.Lib.WordCmp

@[expose] public section

set_option maxRecDepth 16384

noncomputable section

namespace Cert.Val

open Idealize.ShloMosaic Cert.Pre_ranges

attribute [local instance] Cert.Pre_ranges.Gen.facts

/-- A word between two numbers. -/
theorem word_range {x : BitVec 32} (h0 : IntOp.cmpi .sge x 0#32 = 1#1) (h1 : IntOp.cmpi .slt x 10000#32 = 1#1) :
    ∃ n : Fin 10000, x.toInt = (n.val : ℤ) := by
  replace h0 : BitVec.ofBool (decide ((0#32 : BitVec 32).toInt ≤ x.toInt)) = 1#1 := h0
  replace h1 : BitVec.ofBool (decide (x.toInt < (10000#32 : BitVec 32).toInt)) = 1#1 := h1
  have a : (0#32 : BitVec 32).toInt ≤ x.toInt := by
    by_contra h
    rw [decide_eq_false h] at h0
    exact absurd h0 (by decide)
  have b : x.toInt < (10000#32 : BitVec 32).toInt := by
    by_contra h
    rw [decide_eq_false h] at h1
    exact absurd h1 (by decide)
  have a' : (0#32 : BitVec 32).toInt = 0 := by decide
  have b' : (10000#32 : BitVec 32).toInt = 10000 := by decide
  exact ⟨⟨x.toInt.toNat, by omega⟩, by simp only [Int.ofNat_toNat]; omega⟩

/-- A node's graph, as a word. -/
theorem graph_word (i : Fin 10000) : (IntOp.divsi .host (BitVec.ofNat 32 i.val) 200#32).toInt = ((i.val / 200 : Nat) : ℤ) := by
  have h2 : (200#32 : BitVec 32).toInt = 200 := by decide
  have hi : (BitVec.ofNat 32 i.val).toInt = (i.val : ℤ) := toInt_word (by omega)
  unfold IntOp.divsi
  rw [if_neg]
  · rw [BitVec.toInt_sdiv_of_ne_or_ne _ _ (Or.inr (by decide)), hi, h2]
    rw [Int.tdiv_eq_ediv_of_nonneg (by omega)]
    omega
  · intro h
    rcases h with h | h
    · exact absurd h (by decide)
    · exact absurd h.2 (by decide)

theorem eq_of_cmpi {x y : BitVec 32} (h : IntOp.cmpi .eq x y = 1#1) : x = y := by
  by_contra hn
  have : IntOp.cmpi .eq x y = BitVec.ofBool (x == y) := rfl
  rw [this, beq_eq_false_iff_ne.mpr hn] at h
  exact absurd h (by decide)

variable (a0 : FVec Ideal S10x10000x4 .f32) (a1 : IVec S10x2x160000 32) (a2 : IVec S10000 32) (a3 : FVec Ideal S10x50x3 .f32)
  (a4 : FVec Ideal S10x4x8 .f32) (a5 a6 a7 a8 : FVec Ideal S10x8 .f32) (a9 : FVec Ideal S19x64 .f32) (a10 a11 : FVec Ideal S4x16 .f32)
  (a12 a13 a14 : FVec Ideal S64 .f32) (a15 : FVec Ideal S64x16 .f32) (a16 a17 : FVec Ideal S1x16 .f32) (a18 a19 a20 : FVec Ideal S16 .f32)
  (a21 : FVec Ideal S16x2 .f32) (a22 : FVec Ideal S2 .f32)

/-- The precondition: edges between nodes, and nodes in graphs of two hundred. -/
theorem ranges_read (h : Cert.Pre_ranges.fn (F := Ideal) a0 a1 a2 a3 a4 a5 a6 a7 a8 a9 a10 a11 a12 a13 a14 a15 a16 a17 a18 a19 a20 a21 a22 = fun _ => 1#1) :
    (∃ S D, Edges a1 S D) ∧ Runs a2 := by
  have h' : IntOp.andi (IntOp.andi
      (Host.reduce IntOp.andi (cmpi .sge a1 (broadcastInDim S10x2x160000 ![] Facts.bcast_S_S10x2x160000 (constantI S_ 32 0#32))) (constantI S_ 1 1#1) Facts.reducesTo_S10x2x160000_S_d0_1_2 Facts.h_S_ ix0)
      (Host.reduce IntOp.andi (cmpi .slt a1 (broadcastInDim S10x2x160000 ![] Facts.bcast_S_S10x2x160000 (constantI S_ 32 10000#32))) (constantI S_ 1 1#1) Facts.reducesTo_S10x2x160000_S_d0_1_2 Facts.h_S_ ix0))
      (Host.reduce IntOp.andi (cmpi .eq a2 (Host.divsi (iotaInDim S10000 32 0) (broadcastInDim S10000 ![] Facts.bcast_S_S10000 (constantI S_ 32 200#32)))) (constantI S_ 1 1#1) Facts.reducesTo_S10000_S_d0 Facts.h_S_ ix0) = 1#1 :=
    congrFun h ix0
  obtain ⟨h01, h2⟩ := IntOp.andi_eq_one.mp h'
  obtain ⟨h0, h1⟩ := IntOp.andi_eq_one.mp h01
  haveI : Subsingleton S_.Idx := ⟨fun x y => funext fun k => k.elim0⟩
  have e0 : ∀ i, IntOp.cmpi .sge (a1 i) 0#32 = 1#1 := fun i => Host.reduce_andi_all _ _ _ _ _ h0 i
  have e1 : ∀ i, IntOp.cmpi .slt (a1 i) 10000#32 = 1#1 := fun i => Host.reduce_andi_all _ _ _ _ _ h1 i
  have e2 : ∀ i : Fin 10000, IntOp.cmpi .eq (a2 (ix1 i)) (IntOp.divsi .host (BitVec.ofNat 32 i.val) 200#32) = 1#1 :=
    fun i => Host.reduce_andi_all _ _ _ _ _ h2 (ix1 i)
  refine ⟨?_, fun i => ?_⟩
  · have n : ∀ i, ∃ n : Fin 10000, (a1 i).toInt = (n.val : ℤ) := fun i => word_range (e0 i) (e1 i)
    exact ⟨fun r e => (n (ix3 r 0 e)).choose, fun r e => (n (ix3 r 1 e)).choose,
      fun r e => ⟨(n (ix3 r 0 e)).choose_spec, (n (ix3 r 1 e)).choose_spec⟩⟩
  · rw [eq_of_cmpi (e2 i), graph_word]

end Cert.Val

end
-- ==== Proof.Val.RPool.lean ====
/-
  The reference's two means of each graph — over all its nodes, and over the hundred its scores choose — are the kernel's, so the rows it
  hands to its second stage are the kernel's rows.
-/
module

public import proofs.«01_k».proof.Proof.Val.RNorm

@[expose] public section

set_option maxRecDepth 16384

noncomputable section

namespace Cert.Val.R

open Idealize.ShloMosaic Cert.ReferenceIdeal Cert.ReferenceIdeal.Gen Cert.ReferenceIdeal.Value

attribute [local instance] Cert.ReferenceIdeal.Gen.facts Cert.KernelIdeal.Gen.facts

/-- The score of each node, graph by graph. -/
def score (y : FVec Ideal S10x10000x8 .f32) (p : FVec Ideal S10x8 .f32) : FVec Ideal S10x50x200 .f32 :=
  shapeCast _ (Host.divf (Host.dotGeneral dot_S10x10000x8_S10x8_S10x10000_2_1_1_n_0_0 none y p)
    (broadcastInDim S10x10000 ![0, 1] bcast_S10x1_S10x10000_0_1 (broadcastInDim S10x1 ![0] bcast_S10_S10x1_0
      (addf (Host.sqrt (Host.reduceAdd (mulf p p) (constant S_ .f32 0x00000000#32) reducesTo_S10x8_S10_d1 h_S_))
        (broadcastInDim S10 ![] bcast_S_S10 (constant S_ .f32 0x24E69595#32)))))) shapeCasts_S10x10000_S10x50x200

/-- The mean over a graph's nodes, over the larger of one and their number. -/
def res (a2 : IVec S10000 32) (y : FVec Ideal S10x10000x8 .f32) : FVec Ideal S10x50x8 .f32 :=
  Host.divf (Host.scatterAdd scatter_S10x50x8_S10000x1_S10x10000x8_02_1_1_1 (broadcastInDim S10x50x8 ![] bcast_S_S10x50x8 (constant S_ .f32 0x00000000#32)) (bcol a2) y)
    (broadcastInDim S10x50x8 ![0, 1, 2] bcast_S1x50x1_S10x50x8_0_1_2 (broadcastInDim S1x50x1 ![1] bcast_S50_S1x50x1_1
      (maximumf (broadcastInDim S50 ![] bcast_S_S50 (id (constant S_ .f32 0x3F800000#32))) (cnt a2))))

/-- The graph each chosen node is of. -/
def pgraph : IVec S5000 32 := shapeCast _ (broadcastInDim S50x100 ![0] bcast_S50_S50x100_0 (iotaInDim S50 32 0)) shapeCasts_S50x100_S5000

/-- The same, as an index column. -/
def pcol : IVec S5000x1 32 :=
  broadcastInDim S5000x1 ![0] bcast_S5000_S5000x1_0 (select (cmpi .slt pgraph (broadcastInDim S5000 ![] bcast_S_S5000 (constantI S_ 32 0#32))) (addi pgraph (broadcastInDim S5000 ![] bcast_S_S5000 (constantI S_ 32 50#32))) pgraph)

/-- The number of each graph's chosen nodes. -/
def pcnt : FVec Ideal S50 .f32 :=
  Host.scatterAdd scatter_S50_S5000x1_S5000_n_0_0_1 (broadcastInDim S50 ![] bcast_S_S50 (constant S_ .f32 0x00000000#32)) pcol (broadcastInDim S5000 ![] bcast_S_S5000 (constant S_ .f32 0x3F800000#32))

/-- The chosen nodes' features, each weighted by its score. -/
def weighted (g : FVec Ideal S10x50x100x8 .f32) (v : FVec Ideal S10x50x100 .f32) : FVec Ideal S10x5000x8 .f32 :=
  shapeCast _ (mulf g (broadcastInDim S10x50x100x8 ![0, 1, 2, 3] bcast_S10x50x100x1_S10x50x100x8_0_1_2_3
    (broadcastInDim S10x50x100x1 ![0, 1, 2] bcast_S10x50x100_S10x50x100x1_0_1_2 (Host.tanh v)))) shapeCasts_S10x50x100x8_S10x5000x8

/-- Their mean. -/
def pool (g : FVec Ideal S10x50x100x8 .f32) (v : FVec Ideal S10x50x100 .f32) : FVec Ideal S10x50x8 .f32 :=
  Host.divf (Host.scatterAdd scatter_S10x50x8_S5000x1_S10x5000x8_02_1_1_1 (broadcastInDim S10x50x8 ![] bcast_S_S10x50x8 (constant S_ .f32 0x00000000#32)) pcol (weighted g v))
    (broadcastInDim S10x50x8 ![0, 1, 2] bcast_S1x50x1_S10x50x8_0_1_2 (broadcastInDim S1x50x1 ![1] bcast_S50_S1x50x1_1
      (maximumf (broadcastInDim S50 ![] bcast_S_S50 (id (constant S_ .f32 0x3F800000#32))) pcnt)))

/-- The second stage's first product, of the rows. -/
def lin2 (x : FVec Ideal S500x19 .f32) (w : FVec Ideal S19x64 .f32) : FVec Ideal S500x4x16 .f32 :=
  shapeCast _ (Host.dotGeneral dot_S500x19_S19x64_S500x64_1_0_0_1_n_n none x w) shapeCasts_S500x64_S500x4x16

theorem res_score (V : Valuation τ sig (Elt Ideal)) : res_main_v194 V = score (res_main_v163 V) (V (Proc.devRef .tc main_arg8)) := rfl

theorem res_lin2 (V : Valuation τ sig (Elt Ideal)) : res_main_v258 V
    = lin2 (K.rows (res (V (Proc.devRef .tc main_arg2)) (res_main_v163 V))
        (pool (K.chosen (K.graphs (res_main_v163 V)) (K.inds (res_main_v194 V))) (K.vals (res_main_v194 V)))
        (V (Proc.devRef .tc main_arg3))) (V (Proc.devRef .tc main_arg9)) := rfl

theorem score_eq (y : FVec Ideal S10x10000x8 .f32) (p : FVec Ideal S10x8 .f32) : score y p = K.score (K.graphs y) p := by
  have hn : ∀ r g j, score y p (ix3 r g j) = K.score (K.graphs y) p (ix3 r g j) := by
    intro r g j
    have e1 : score y p (ix3 r g j) = Ideal.div (∑ f : Fin 8, y (ix3 r (nb g j) f) * p (ix2 r f))
        (Ideal.sqrt (∑ f : Fin 8, p (ix2 r f) * p (ix2 r f)) + Ideal.ofBits .f32 0x24E69595#32) := by
      pointwise [score]
      rfl
    have e2 : ∀ x : FVec Ideal S10x50x200x8 .f32, K.score x p (ix3 r g j) = Ideal.div (∑ f : Fin 8, x (ix4 r g j f) * p (ix2 r f))
        (Ideal.sqrt (∑ f : Fin 8, p (ix2 r f) * p (ix2 r f)) + Ideal.ofBits .f32 0x24E69595#32) := by
      intro x
      pointwise [K.score]
    rw [e1, e2]
    simp only [K.graphs_apply]
  funext i
  rw [eq_ix3 i]
  exact hn _ _ _

/-- What both means divide: `y` over the larger of one and `z`. -/
theorem over_apply (y : FVec Ideal S10x50x8 .f32) (z : FVec Ideal S50 .f32) (r : Fin 10) (g : Fin 50) (f : Fin 8) :
    Host.divf y (broadcastInDim S10x50x8 ![0, 1, 2] bcast_S1x50x1_S10x50x8_0_1_2 (broadcastInDim S1x50x1 ![1] bcast_S50_S1x50x1_1
      (maximumf (broadcastInDim S50 ![] bcast_S_S50 (id (constant S_ .f32 0x3F800000#32))) z))) (ix3 r g f)
      = Ideal.div (y (ix3 r g f)) (max 1 (z (ix1 g))) := by
  simp only [id_eq]
  pointwise

theorem zero3 (r : Fin 10) (g : Fin 50) (f : Fin 8) :
    broadcastInDim S10x50x8 ![] bcast_S_S10x50x8 (constant (F := Ideal) S_ .f32 0x00000000#32) (ix3 r g f) = (0 : EReal) := by
  pointwise

theorem max_one {c : ℝ} (h : 1 ≤ c) : max (1 : EReal) ((c : ℝ) : EReal) = ((c : ℝ) : EReal) :=
  max_eq_right (by exact_mod_cast h)

theorem res_eq {a2 : IVec S10000 32} (h : Runs a2) (y : FVec Ideal S10x10000x8 .f32) : res a2 y = K.res (K.graphs y) := by
  have hn : ∀ r g f, res a2 y (ix3 r g f) = K.res (K.graphs y) (ix3 r g f) := by
    intro r g f
    have e2 : ∀ x : FVec Ideal S10x50x200x8 .f32, K.res x (ix3 r g f) = Ideal.div (∑ j : Fin 200, x (ix4 r g j f)) (Ideal.ofBits .f32 0x43480000#32) := by
      intro x
      pointwise [K.res]
    unfold res
    rw [over_apply, e2, cnt_apply h, max_one (by norm_num), scatter_S10x50x8_S10000x1_S10x10000x8_02_1_1_1_apply, sum_graph h, zero3, zero_add, c_200]
    simp only [K.graphs_apply]
  funext i
  rw [eq_ix3 i]
  exact hn _ _ _

/-- A chosen node among all the chosen ones. -/
def pb (g : Fin 50) (j : Fin 100) : Fin 5000 := ⟨g.val * 100 + j.val, by omega⟩

theorem pgraph_apply (i : Fin 5000) : (pgraph (ix1 i)).toInt = ((i.val / 100 : Nat) : ℤ) := by
  have e : pgraph (ix1 i) = BitVec.ofNat 32 (i.val / 100) := by pointwise [pgraph]
  rw [e, toInt_word (by omega)]

theorem pcol_pb (g : Fin 50) (j : Fin 100) : (pcol (ix2 (pb g j) 0)).toInt = (g.val : ℤ) := by
  have e : pcol (ix2 (pb g j) 0) = select (cmpi .slt pgraph (broadcastInDim S5000 ![] bcast_S_S5000 (constantI S_ 32 0#32))) (addi pgraph (broadcastInDim S5000 ![] bcast_S_S5000 (constantI S_ 32 50#32))) pgraph (ix1 (pb g j)) := by
    unfold pcol
    generalize select (cmpi .slt pgraph _) _ _ = y
    pointwise
  rw [e, wrap_apply _ _ _ _ rfl (by rw [pgraph_apply]; omega), pgraph_apply]
  simp only [pb]; omega

theorem sum_pool (f : Fin 5000 → EReal) (g : Fin 50) :
    (∑ i : Fin 5000, if (pcol (ix2 i 0)).toInt = (g.val : ℤ) then f i else (0 : EReal)) = ∑ j : Fin 100, f (pb g j) := by
  rw [sum_flat 50 100 rfl, Finset.sum_eq_single g]
  · refine Finset.sum_congr rfl fun j _ => ?_
    rw [show (⟨g.val * 100 + j.val, _⟩ : Fin 5000) = pb g j from rfl, pcol_pb, if_pos rfl]
  · intro i _ hi
    refine Finset.sum_eq_zero fun j _ => ?_
    rw [show (⟨i.val * 100 + j.val, _⟩ : Fin 5000) = pb i j from rfl, pcol_pb, if_neg]
    intro hh; exact hi (Fin.ext (by exact_mod_cast hh))
  · intro hh; exact absurd (Finset.mem_univ _) hh

theorem pcnt_apply (g : Fin 50) : pcnt (ix1 g) = ((100 : ℝ) : EReal) := by
  have h0 : broadcastInDim S50 ![] bcast_S_S50 (constant (F := Ideal) S_ .f32 0x00000000#32) (ix1 g) = (0 : EReal) := by pointwise
  have h1 : ∀ i : Fin 5000, broadcastInDim S5000 ![] bcast_S_S5000 (constant (F := Ideal) S_ .f32 0x3F800000#32) (ix1 i) = (1 : EReal) := by
    intro i; pointwise
  unfold pcnt
  rw [scatter_S50_S5000x1_S5000_n_0_0_1_apply, sum_pool, h0, zero_add]
  simp only [h1]
  exact_mod_cast sum_one 100

theorem weighted_apply (x : FVec Ideal S10x50x100x8 .f32) (v : FVec Ideal S10x50x100 .f32) (r : Fin 10) (g : Fin 50) (j : Fin 100) (f : Fin 8) :
    weighted x v (ix3 r (pb g j) f) = x (ix4 r g j f) * Ideal.tanh (v (ix3 r g j)) := by
  have h1 : (⟨(pb g j).val / 100, by have := (pb g j).isLt; omega⟩ : Fin 50) = g := Fin.ext (by simp only [pb]; omega)
  have h2 : (⟨(pb g j).val % 100, Nat.mod_lt _ (by norm_num)⟩ : Fin 100) = j := Fin.ext (by simp only [pb]; omega)
  have key : ∀ e : Fin 5000, weighted x v (ix3 r e f)
      = x (ix4 r ⟨e.val / 100, by have := e.isLt; omega⟩ ⟨e.val % 100, Nat.mod_lt _ (by norm_num)⟩ f)
        * Ideal.tanh (v (ix3 r ⟨e.val / 100, by have := e.isLt; omega⟩ ⟨e.val % 100, Nat.mod_lt _ (by norm_num)⟩)) := by
    intro e
    pointwise [weighted]
  rw [key, h1, h2]

theorem pool_eq (x : FVec Ideal S10x50x100x8 .f32) (v : FVec Ideal S10x50x100 .f32) : pool x v = K.pool x v := by
  have hn : ∀ r g f, pool x v (ix3 r g f) = K.pool x v (ix3 r g f) := by
    intro r g f
    have e2 : K.pool x v (ix3 r g f) = Ideal.div (∑ j : Fin 100, x (ix4 r g j f) * Ideal.tanh (v (ix3 r g j))) (Ideal.ofBits .f32 0x42C80000#32) := by
      pointwise [K.pool]
    unfold pool
    rw [over_apply, e2, pcnt_apply, max_one (by norm_num), scatter_S10x50x8_S5000x1_S10x5000x8_02_1_1_1_apply, sum_pool, zero3, zero_add, c_100]
    simp only [weighted_apply]
  funext i
  rw [eq_ix3 i]
  exact hn _ _ _

/-- The reference's second stage starts from the kernel's rows. -/
theorem lin2_eq {a2 : IVec S10000 32} (h : Runs a2) (y : FVec Ideal S10x10000x8 .f32) (a3 : FVec Ideal S10x50x3 .f32) (a8 : FVec Ideal S10x8 .f32) :
    K.rows (res a2 y) (pool (K.chosen (K.graphs y) (K.inds (score y a8))) (K.vals (score y a8))) a3 = K.rowsOf (K.graphs y) a3 a8 := by
  rw [res_eq h, pool_eq, score_eq]
  rfl

end Cert.Val.R

end
-- ==== Proof.Val.Super.lean ====
/-
  The second stage read off its rows: two attention layers on fifty stars of ten nodes, each followed by a rectification and a
  normalisation, then the mean of each star and a linear map. Every node hears itself and, unless it is a star's root, its root.
-/
module

public import proofs.«01_k».proof.Proof.Val.Arith
public import proofs.«01_k».proof.Proof.Val.KGcn

@[expose] public section

set_option maxRecDepth 16384

noncomputable section

namespace Cert.Val

open Idealize.ShloMosaic

/-- The star of a node. -/
def bk (v : Fin 500) : Fin 50 := ⟨v.val / 10, by omega⟩

/-- A star's node. -/
def gr (g : Fin 50) (u : Fin 10) : Fin 500 := ⟨g.val * 10 + u.val, by omega⟩

/-- The root of a node's star. -/
def root (v : Fin 500) : Fin 500 := ⟨10 * (v.val / 10), by omega⟩

/-- The leaky rectifier. -/
def lkS (x : EReal) : EReal := if 0 ≤ x then x else Ideal.ofBits .f32 0x3E4CCCCD#32 * x

/-- The exponential rectifier. -/
def eluS (x : EReal) : EReal := if 0 < x then x else Ideal.exp (min x 0) - 1

variable (s d h : Fin 500 → EReal)

/-- What a node scores its root; nothing when it is the root. -/
def ainS (v : Fin 500) : EReal := if v.val % 10 = 0 then ⊥ else lkS (s (root v) + d v)

/-- What a node scores itself. -/
def selfS (v : Fin 500) : EReal := lkS (s v + d v)

/-- The larger of the two scores. -/
def mxS (v : Fin 500) : EReal := max (ainS s d v) (selfS s d v)

/-- The root's weight before it is normalised. -/
def einS (v : Fin 500) : EReal := Ideal.exp (ainS s d v - mxS s d v)

/-- The node's own weight before it is normalised. -/
def eselfS (v : Fin 500) : EReal := Ideal.exp (selfS s d v - mxS s d v)

/-- The sum the weights are normalised by. -/
def zS (v : Fin 500) : EReal := einS s d v + eselfS s d v + Ideal.ofBits .f32 0x24E69595#32

/-- The attention's value at a node. -/
def gatS (v : Fin 500) : EReal := Ideal.div (einS s d v) (zS s d v) * h (root v) + Ideal.div (eselfS s d v) (zS s d v) * h v

/-- Where an edge comes from: first the stars' edges, then each node's own. -/
def srcE (e : Fin 950) : Fin 500 := if h : e.val < 450 then ⟨10 * (e.val / 9), by omega⟩ else ⟨e.val - 450, by omega⟩

/-- Where an edge goes. -/
def dstE (e : Fin 950) : Fin 500 := if h : e.val < 450 then ⟨10 * (e.val / 9) + (1 + e.val % 9), by omega⟩ else ⟨e.val - 450, by omega⟩

/-- An edge's score. -/
def xE (e : Fin 950) : EReal := lkS (s (srcE e) + d (dstE e))

/-- The largest score arriving at a node. -/
def mE (v : Fin 500) : EReal := Finset.univ.fold max ⊥ fun e : Fin 950 => if dstE e = v then xE s d e else ⊥

/-- An edge's weight before it is normalised. -/
def pE (e : Fin 950) : EReal := Ideal.exp (xE s d e - mE s d (dstE e))

/-- The sum of the weights arriving at a node. -/
def zE (v : Fin 500) : EReal := ∑ e : Fin 950, if dstE e = v then pE s d e else 0

/-- What arrives at a node. -/
def oE (v : Fin 500) : EReal :=
  ∑ e : Fin 950, if dstE e = v then h (srcE e) * Ideal.div (pE s d e) (zE s d (dstE e) + Ideal.ofBits .f32 0x24E69595#32) else 0

/-- A node's own edge. -/
def eSelf (v : Fin 500) : Fin 950 := ⟨450 + v.val, by omega⟩

/-- The edge from a node's root. -/
def eIn (v : Fin 500) : Fin 950 := ⟨9 * (v.val / 10) + (v.val % 10 - 1), by omega⟩

theorem dst_eq (e : Fin 950) (v : Fin 500) : dstE e = v ↔ (v.val % 10 ≠ 0 ∧ e = eIn v) ∨ e = eSelf v := by
  unfold dstE
  split
  · simp only [Fin.ext_iff, eIn, eSelf]; omega
  · simp only [Fin.ext_iff, eIn, eSelf]; omega

theorem dst_self (v : Fin 500) : dstE (eSelf v) = v := (dst_eq _ _).mpr (Or.inr rfl)

theorem src_self (v : Fin 500) : srcE (eSelf v) = v := by
  unfold srcE
  rw [dif_neg (by simp [eSelf])]
  simp [Fin.ext_iff, eSelf]

theorem dst_in {v : Fin 500} (hv : v.val % 10 ≠ 0) : dstE (eIn v) = v := (dst_eq _ _).mpr (Or.inl ⟨hv, rfl⟩)

theorem src_in {v : Fin 500} (hv : v.val % 10 ≠ 0) : srcE (eIn v) = root v := by
  unfold srcE
  rw [dif_pos (by simp only [eIn]; omega)]
  simp only [Fin.ext_iff, eIn, root]; omega

theorem in_ne_self (v : Fin 500) : eIn v ≠ eSelf v := by
  simp only [ne_eq, Fin.ext_iff, eIn, eSelf]; omega

/-- A sum over the edges arriving at a node. -/
theorem sum_dst (f : Fin 950 → EReal) (v : Fin 500) :
    (∑ e : Fin 950, if dstE e = v then f e else 0) = (if v.val % 10 = 0 then 0 else f (eIn v)) + f (eSelf v) := by
  rw [← Finset.sum_filter]
  split
  · next hv =>
    have : Finset.univ.filter (fun e : Fin 950 => dstE e = v) = {eSelf v} := by
      ext e; simp [dst_eq, hv]
    rw [this, Finset.sum_singleton, zero_add]
  · next hv =>
    have : Finset.univ.filter (fun e : Fin 950 => dstE e = v) = {eIn v, eSelf v} := by
      ext e; simp [dst_eq, hv]
    rw [this, Finset.sum_pair (in_ne_self v)]

/-- The largest over the edges arriving at a node. -/
theorem max_dst (f : Fin 950 → EReal) (v : Fin 500) :
    (Finset.univ.fold max ⊥ fun e : Fin 950 => if dstE e = v then f e else ⊥) = max (if v.val % 10 = 0 then ⊥ else f (eIn v)) (f (eSelf v)) := by
  apply le_antisymm
  · rw [Finset.fold_max_le]
    refine ⟨bot_le, fun e _ => ?_⟩
    split
    · next he =>
      rcases (dst_eq e v).mp he with ⟨hv, rfl⟩ | rfl
      · rw [if_neg hv]; exact le_max_left _ _
      · exact le_max_right _ _
    · exact bot_le
  · apply max_le
    · split
      · exact bot_le
      · next hv =>
        rw [Finset.le_fold_max]
        exact Or.inr ⟨eIn v, Finset.mem_univ _, by rw [if_pos (dst_in hv)]⟩
    · rw [Finset.le_fold_max]
      exact Or.inr ⟨eSelf v, Finset.mem_univ _, by rw [if_pos (dst_self v)]⟩

theorem exp_nonneg' (x : EReal) : 0 ≤ Ideal.exp x := by
  induction x with
  | bot => exact le_refl _
  | top => exact le_top
  | coe r =>
    show (0 : EReal) ≤ ((Real.exp r : ℝ) : EReal)
    exact EReal.coe_nonneg.mpr (Real.exp_pos r).le

theorem mE_eq (v : Fin 500) : mE s d v = mxS s d v := by
  unfold mE mxS ainS selfS
  rw [max_dst]
  unfold xE
  rw [dst_self, src_self]
  split
  · rfl
  · next hv => rw [dst_in hv, src_in hv]

theorem pE_self (v : Fin 500) : pE s d (eSelf v) = eselfS s d v := by
  unfold pE xE eselfS selfS
  rw [dst_self, src_self, mE_eq]

theorem pE_in {v : Fin 500} (hv : v.val % 10 ≠ 0) : pE s d (eIn v) = einS s d v := by
  unfold pE xE einS ainS
  rw [dst_in hv, src_in hv, mE_eq, if_neg hv]

/-- A root's weight for its root is nothing. -/
theorem ein_root {v : Fin 500} (hv : v.val % 10 = 0) : einS s d v = 0 := by
  unfold einS ainS
  rw [if_pos hv, EReal.bot_sub]
  rfl

theorem zE_eq (v : Fin 500) : zE s d v + Ideal.ofBits .f32 0x24E69595#32 = zS s d v := by
  unfold zE zS
  rw [sum_dst, pE_self]
  split
  · next hv => rw [ein_root s d hv]
  · next hv => rw [pE_in s d hv]

theorem zS_pos (v : Fin 500) : 0 < zS s d v :=
  lt_of_lt_of_le eps16_pos (le_add_of_nonneg_left (add_nonneg (exp_nonneg' _) (exp_nonneg' _)))

/-- The sum over the edges is the attention's value. -/
theorem oE_eq (v : Fin 500) : oE s d h v = gatS s d h v := by
  unfold oE gatS
  simp only [zE_eq]
  rw [sum_dst, dst_self, src_self, pE_self, mul_comm (h v)]
  congr 1
  split
  · next hv =>
    rw [ein_root s d hv]
    unfold Ideal.div
    rw [if_neg (zS_pos s d v).ne', zero_mul, zero_mul]
  · next hv => rw [dst_in hv, src_in hv, pE_in s d hv, mul_comm]

/-! ## The sums over a star -/

theorem bk_gr (g : Fin 50) (u : Fin 10) : bk (gr g u) = g := by
  simp only [Fin.ext_iff, bk, gr]; omega

theorem sum_star (f : Fin 500 → EReal) (g : Fin 50) : (∑ w : Fin 500, if bk w = g then f w else 0) = ∑ u : Fin 10, f (gr g u) := by
  rw [sum_flat 50 10 rfl, Finset.sum_eq_single g]
  · refine Finset.sum_congr rfl fun u _ => ?_
    rw [show (⟨g.val * 10 + u.val, _⟩ : Fin 500) = gr g u from rfl, bk_gr, if_pos rfl]
  · intro i _ hi
    refine Finset.sum_eq_zero fun u _ => ?_
    rw [show (⟨i.val * 10 + u.val, _⟩ : Fin 500) = gr i u from rfl, bk_gr, if_neg hi]
  · intro hh; exact absurd (Finset.mem_univ _) hh

/-- The mean over a star as a product with its row of tenths. -/
theorem sum_tenths (f : Fin 500 → EReal) (g : Fin 50) :
    (∑ w : Fin 500, (if bk w = g then (((10 : ℝ)⁻¹ : ℝ) : EReal) else 0) * f w) = Ideal.div (∑ u : Fin 10, f (gr g u)) ((10 : ℝ) : EReal) := by
  simp only [ite_mul, zero_mul]
  rw [sum_star (fun w => (((10 : ℝ)⁻¹ : ℝ) : EReal) * f w), mul_sum' (by norm_num), div_pos' _ (by norm_num), mul_comm]

theorem div_div' (x : EReal) {a b : ℝ} (ha : a ≠ 0) (hb : b ≠ 0) :
    Ideal.div (Ideal.div x (a : EReal)) (b : EReal) = Ideal.div x ((a * b : ℝ) : EReal) := by
  rw [div_pos' _ ha, div_pos' _ hb, div_pos' _ (mul_ne_zero ha hb), mul_assoc, ← EReal.coe_mul, mul_inv]

variable {n : Nat}

/-- What is left when the star's mean is taken off. -/
def cenS (c : ℝ) (y : Fin 500 → Fin n → EReal) (v : Fin 500) (o : Fin n) : EReal :=
  y v o - Ideal.div (∑ u : Fin 10, ∑ o : Fin n, y (gr (bk v) u) o) (c : EReal)

/-- The star's variance, a little added. -/
def varS (c : ℝ) (x : Fin 500 → Fin n → EReal) (g : Fin 50) : EReal :=
  Ideal.div (∑ u : Fin 10, ∑ o : Fin n, x (gr g u) o * x (gr g u) o) (c : EReal) + Ideal.ofBits .f32 0x3727C5AC#32

/-- The normalised features from the centred ones. -/
def lnS (c : ℝ) (w b : Fin n → EReal) (x : Fin 500 → Fin n → EReal) (v : Fin 500) (o : Fin n) : EReal :=
  x v o * Ideal.rsqrt (varS c x (bk v)) * w o + b o

theorem varS_pos {c : ℝ} (hc : 0 < c) (x : Fin 500 → Fin n → EReal) (g : Fin 50) : 0 < varS c x g :=
  lt_of_lt_of_le eps5_pos (le_add_of_nonneg_left (div_nonneg' (Finset.sum_nonneg fun j _ => Finset.sum_nonneg fun q _ => sq_nonneg' _) hc))

/-! ## The stage -/

/-- The feature of a head. -/
def hd (q : Fin 4) (t : Fin 16) : Fin 64 := ⟨q.val * 16 + t.val, by omega⟩

/-- The head of a feature. -/
def hq (o : Fin 64) : Fin 4 := ⟨o.val / 16, by omega⟩

/-- Rows times a matrix. -/
def mulS {k : Nat} (x : Fin 500 → Fin k → EReal) (w : Fin k → Fin n → EReal) (v : Fin 500) (o : Fin n) : EReal := ∑ i, x v i * w i o

/-- A node's score for a head. -/
def attS (H : Fin 500 → Fin 64 → EReal) (a : Fin 4 → Fin 16 → EReal) (q : Fin 4) (v : Fin 500) : EReal := ∑ t : Fin 16, H v (hd q t) * a q t

/-- A node's score for the single head. -/
def att1S (H : Fin 500 → Fin 16 → EReal) (a : Fin 16 → EReal) (v : Fin 500) : EReal := ∑ t : Fin 16, H v t * a t

/-- The first layer, rectified. -/
def layer1S (H : Fin 500 → Fin 64 → EReal) (sa da : Fin 4 → Fin 16 → EReal) (b : Fin 64 → EReal) (v : Fin 500) (o : Fin 64) : EReal :=
  eluS (gatS (attS H sa (hq o)) (attS H da (hq o)) (fun w => H w o) v + b o)

/-- The second layer, rectified. -/
def layer2S (H : Fin 500 → Fin 16 → EReal) (sa da : Fin 16 → EReal) (b : Fin 16 → EReal) (v : Fin 500) (o : Fin 16) : EReal :=
  eluS (gatS (att1S H sa) (att1S H da) (fun w => H w o) v + b o)

/-- The mean of each star through the last linear map. -/
def headS (x : Fin 500 → Fin 16 → EReal) (w : Fin 16 → Fin 2 → EReal) (b : Fin 2 → EReal) (g : Fin 50) (c : Fin 2) : EReal :=
  (∑ o, Ideal.div (∑ u : Fin 10, x (gr g u) o) ((10 : ℝ) : EReal) * w o c) + b c

/-- The features of the first layer, centred. -/
def mid1S (x : Fin 500 → Fin 19 → EReal) (a9 : Fin 19 → Fin 64 → EReal) (a10 a11 : Fin 4 → Fin 16 → EReal) (a12 : Fin 64 → EReal) :
    Fin 500 → Fin 64 → EReal :=
  cenS 640 (layer1S (mulS x a9) a10 a11 a12)

/-- The features the second layer takes, from the centred ones. -/
def lin2S (y : Fin 500 → Fin 64 → EReal) (a13 a14 : Fin 64 → EReal) (a15 : Fin 64 → Fin 16 → EReal) : Fin 500 → Fin 16 → EReal :=
  mulS (lnS 640 a13 a14 y) a15

/-- The features of the second layer, centred. -/
def mid2S (H : Fin 500 → Fin 16 → EReal) (a16 a17 a18 : Fin 16 → EReal) : Fin 500 → Fin 16 → EReal :=
  cenS 160 (layer2S H a16 a17 a18)

/-- The stage's result, from the second layer's centred features. -/
def endS (y : Fin 500 → Fin 16 → EReal) (a19 a20 : Fin 16 → EReal) (a21 : Fin 16 → Fin 2 → EReal) (a22 : Fin 2 → EReal) : Fin 50 → Fin 2 → EReal :=
  headS (lnS 160 a19 a20 y) a21 a22

end Cert.Val

end
-- ==== Proof.Val.KConst.lean ====
/-
  The second stage's constant arrays read entry by entry: which row is a root, which rows share a star, which features belong to a head.
-/
module

public import proofs.«01_k».proof.Proof.Val.KArr
public import proofs.«01_k».proof.Proof.Val.Super

@[expose] public section

set_option maxRecDepth 16384

noncomputable section

namespace Cert.Val.K

open Idealize.ShloMosaic Cert.KernelIdeal Cert.KernelIdeal.Gen

attribute [local instance] Cert.KernelIdeal.Gen.facts

theorem c_0 : Ideal.ofBits .f32 0#32 = (0 : EReal) := by simp [Ideal.ofBits, Ideal.ieee]

theorem c_1 : Ideal.ofBits .f32 0x3F800000#32 = (1 : EReal) := by
  simp [Ideal.ofBits, Ideal.ieee, -EReal.coe_mul]; norm_num

theorem lit_min (i : Fin 500) : lit0 i = if i.val % 10 = 0 then 0#32 else 0x3F800000#32 := by
  revert i; decide

theorem lit_expand (i : Fin 256) : lit1 i = if i.val / 64 = i.val % 64 / 16 then 0x3F800000#32 else 0#32 := by
  revert i; decide

theorem minCol_apply (v : Fin 500) : minCol (ix2 v 0) = if v.val % 10 = 0 then (0 : EReal) else 1 := by
  have e : minCol (ix2 v 0) = Ideal.ofBits .f32 (lit0 (S500.rowMajor (ix1 v))) := by pointwise [minCol]
  have hr : S500.rowMajor (ix1 v) = v := Fin.ext (Shape.rowMajor_val_one _)
  rw [e, hr, lit_min]
  split
  · exact c_0
  · exact c_1

theorem expand_apply (q : Fin 4) (o : Fin 64) : expand (ix2 q o) = if q = hq o then (1 : EReal) else 0 := by
  have e : expand (ix2 q o) = Ideal.ofBits .f32 (lit1 (S4x64.rowMajor (ix2 q o))) := by pointwise [expand]
  have hr : S4x64.rowMajor (ix2 q o) = (⟨q.val * 64 + o.val, by omega⟩ : Fin 256) := Fin.ext (Shape.rowMajor_val_two _)
  rw [e, hr, lit_expand]
  have hc : ((q.val * 64 + o.val) / 64 = (q.val * 64 + o.val) % 64 / 16) ↔ q = hq o := by
    simp only [Fin.ext_iff, hq]; omega
  by_cases h : q = hq o
  · rw [if_pos (hc.mpr h), if_pos h]; exact c_1
  · rw [if_neg (fun hh => h (hc.mp hh)), if_neg h]; exact c_0

/-- A word that says whether two numbers below four agree. -/
theorem eye_word (p q : Fin 4) : (FloatOps.uitofp (F := Ideal) .f32
    (IntOp.cmpi CmpIPredicate.eq (IntOp.addi (BitVec.ofNat 32 p.val) 0#32) (BitVec.ofNat 32 q.val)) : EReal) = if p = q then 1 else 0 := by
  have h : IntOp.cmpi CmpIPredicate.eq (IntOp.addi (BitVec.ofNat 32 p.val) 0#32) (BitVec.ofNat 32 q.val) = if p = q then 1#1 else 0#1 := by
    revert p q; decide
  rw [h]
  split
  · show (((1#1 : BitVec 1).toNat : ℝ) : EReal) = 1
    simp
  · show (((0#1 : BitVec 1).toNat : ℝ) : EReal) = 0
    simp

theorem spread_apply (a : FVec Ideal S4x16 .f32) (o : Fin 64) (q : Fin 4) :
    spread a (ix2 o q) = (if hq o = q then 1 else 0) * a (ix2 (hq o) ⟨o.val % 16, Nat.mod_lt _ (by norm_num)⟩) := by
  rw [← eye_word]
  pointwise [spread, eye]
  rfl

/-- A product with the spread attention vector is a sum over a head's features. -/
theorem sum_spread (a : FVec Ideal S4x16 .f32) (f : Fin 64 → EReal) (q : Fin 4) :
    ∑ o, f o * spread a (ix2 o q) = ∑ t : Fin 16, f (hd q t) * a (ix2 q t) := by
  simp only [spread_apply, ite_mul, one_mul, zero_mul, mul_ite, mul_zero]
  rw [sum_flat 4 16 rfl, Finset.sum_eq_single q]
  · refine Finset.sum_congr rfl fun t _ => ?_
    have h1 : (⟨q.val * 16 + t.val, by omega⟩ : Fin 64) = hd q t := rfl
    have h2 : hq (hd q t) = q := by simp only [Fin.ext_iff, hq, hd]; omega
    have h3 : (⟨(hd q t).val % 16, Nat.mod_lt _ (by norm_num)⟩ : Fin 16) = t := by simp only [Fin.ext_iff, hd]; omega
    rw [h1, h2, if_pos rfl, h3]
  · intro p _ hp
    refine Finset.sum_eq_zero fun t _ => ?_
    rw [if_neg]
    intro h
    apply hp
    rw [← h]
    simp only [Fin.ext_iff, hq]; omega
  · intro hh; exact absurd (Finset.mem_univ _) hh

/-- A product with the heads' features keeps the feature's head. -/
theorem sum_expand (f : Fin 4 → EReal) (o : Fin 64) : ∑ q, f q * expand (ix2 q o) = f (hq o) := by
  simp only [expand_apply, mul_ite, mul_one, mul_zero]
  rw [Finset.sum_ite_eq' Finset.univ (hq o) f, if_pos (Finset.mem_univ _)]

/-- A word over ten. -/
theorem ten_word (v : Fin 500) : IntOp.divsi .host (BitVec.ofNat 32 v.val) 10#32 = BitVec.ofNat 32 (v.val / 10) := by
  revert v; decide

theorem ofNat_inj {a b : Nat} (ha : a < 2 ^ 31) (hb : b < 2 ^ 31) : BitVec.ofNat 32 a = BitVec.ofNat 32 b ↔ a = b := by
  constructor
  · intro h
    have := congrArg BitVec.toInt h
    rw [toInt_word ha, toInt_word hb] at this
    exact_mod_cast this
  · rintro rfl; rfl

/-- A choice by the equality of two words. -/
theorem sel_eq {a b : Nat} (ha : a < 2 ^ 31) (hb : b < 2 ^ 31) (x y : EReal) :
    Scalar.select (IntOp.cmpi CmpIPredicate.eq (BitVec.ofNat 32 a) (BitVec.ofNat 32 b)) x y = if a = b then x else y := by
  by_cases h : a = b
  · subst h
    simp [Scalar.select, IntOp.cmpi]
  · have : ¬ BitVec.ofNat 32 a = BitVec.ofNat 32 b := fun hh => h ((ofNat_inj ha hb).mp hh)
    have hf : (BitVec.ofNat 32 a == BitVec.ofNat 32 b) = false := beq_eq_false_iff_ne.mpr this
    rw [if_neg h]
    simp only [Scalar.select, IntOp.cmpi, hf]
    rfl

theorem rootSel_apply (v w : Fin 500) : rootSel (ix2 v w) = if w = root v then (1 : EReal) else 0 := by
  have e : rootSel (ix2 v w) = Scalar.select (IntOp.cmpi CmpIPredicate.eq (BitVec.ofNat 32 w.val)
      (IntOp.muli (IntOp.divsi .host (BitVec.ofNat 32 v.val) 10#32) 10#32)) (1 : EReal) 0 := by
    pointwise [rootSel, ten]
  have hm : IntOp.muli (BitVec.ofNat 32 (v.val / 10)) 10#32 = BitVec.ofNat 32 (v.val / 10 * 10) := by
    show BitVec.ofNat 32 (v.val / 10) * BitVec.ofNat 32 10 = _
    rw [BitVec.ofNat_mul]
  rw [e, ten_word, hm, sel_eq (by omega) (by omega)]
  have : (w.val = v.val / 10 * 10) ↔ w = root v := by simp only [Fin.ext_iff, root]; omega
  simp only [this]

/-- A product with a root's row keeps the root. -/
theorem sum_root (f : Fin 500 → EReal) (v : Fin 500) : ∑ w, rootSel (ix2 v w) * f w = f (root v) := by
  simp only [rootSel_apply, ite_mul, one_mul, zero_mul]
  rw [Finset.sum_ite_eq' Finset.univ (root v) f, if_pos (Finset.mem_univ _)]

theorem tenth : Ideal.div 1 (Ideal.ofBits .f32 0x41200000#32) = (((10 : ℝ)⁻¹ : ℝ) : EReal) := by
  rw [c_10, div_pos' _ (by norm_num), one_mul]

theorem no_tenth : Ideal.div 0 (Ideal.ofBits .f32 0x41200000#32) = 0 := by
  rw [c_10, div_pos' _ (by norm_num), zero_mul]

theorem meanSel_apply (v w : Fin 500) : meanSel (ix2 v w) = if bk w = bk v then (((10 : ℝ)⁻¹ : ℝ) : EReal) else 0 := by
  have e : meanSel (ix2 v w) = Ideal.div (Scalar.select (IntOp.cmpi CmpIPredicate.eq (IntOp.divsi .host (BitVec.ofNat 32 v.val) 10#32)
      (IntOp.divsi .host (BitVec.ofNat 32 w.val) 10#32)) (1 : EReal) 0) (Ideal.ofBits .f32 0x41200000#32) := by
    pointwise [meanSel, ten]
  rw [e, ten_word, ten_word, sel_eq (by omega) (by omega)]
  by_cases h : bk w = bk v
  · rw [if_pos h, if_pos (by simp only [Fin.ext_iff, bk] at h; omega), tenth]
  · rw [if_neg h, if_neg (by simp only [Fin.ext_iff, bk] at h; omega), no_tenth]

theorem poolSel_apply (g : Fin 50) (w : Fin 500) : poolSel (ix2 g w) = if bk w = g then (((10 : ℝ)⁻¹ : ℝ) : EReal) else 0 := by
  have e : poolSel (ix2 g w) = Ideal.div (Scalar.select (IntOp.cmpi CmpIPredicate.eq (BitVec.ofNat 32 g.val)
      (IntOp.divsi .host (BitVec.ofNat 32 w.val) 10#32)) (1 : EReal) 0) (Ideal.ofBits .f32 0x41200000#32) := by
    pointwise [poolSel]
  rw [e, ten_word, sel_eq (by omega) (by omega)]
  by_cases h : bk w = g
  · rw [if_pos h, if_pos (by simp only [Fin.ext_iff, bk] at h; omega), tenth]
  · rw [if_neg h, if_neg (by simp only [Fin.ext_iff, bk] at h; omega), no_tenth]

theorem sum_mean (f : Fin 500 → EReal) (v : Fin 500) : ∑ w, meanSel (ix2 v w) * f w = Ideal.div (∑ u : Fin 10, f (gr (bk v) u)) ((10 : ℝ) : EReal) := by
  simp only [meanSel_apply]
  exact sum_tenths f (bk v)

theorem sum_poolSel (f : Fin 500 → EReal) (g : Fin 50) : ∑ w, poolSel (ix2 g w) * f w = Ideal.div (∑ u : Fin 10, f (gr g u)) ((10 : ℝ) : EReal) := by
  simp only [poolSel_apply]
  exact sum_tenths f g

/-- The mask's value. -/
theorem mask_bot : (Named.named (F := Ideal) κ "mask" (φ := .f32) 0xF149F2CA#32 : EReal) = ⊥ := rfl

end Cert.Val.K

end
-- ==== Proof.Val.RStar.lean ====
/-
  The reference's stars: its edge list and its sums over a star's nodes.
-/
module

public import proofs.«01_k».proof.Proof.Val.RPool
public import proofs.«01_k».proof.Proof.Val.KConst

@[expose] public section

set_option maxRecDepth 16384

noncomputable section

namespace Cert.Val.R

open Idealize.ShloMosaic Cert.ReferenceIdeal Cert.ReferenceIdeal.Gen Cert.ReferenceIdeal.Value

attribute [local instance] Cert.ReferenceIdeal.Gen.facts

/-- The roots. -/
def tens : IVec S50 32 := muli (iotaInDim S50 32 0) (broadcastInDim S50 ![] bcast_S_S50 (constantI S_ 32 10#32))

/-- The stars' edges: sources, then destinations. -/
def ends : IVec S2x450 32 :=
  concatenate S2x450 0 [⟨S1x450, (broadcastInDim S1x450 ![1] bcast_S450_S1x450_1 (shapeCast _ (broadcastInDim S50x9 ![0] bcast_S50_S50x9_0 tens) shapeCasts_S50x9_S450))⟩, ⟨S1x450, (broadcastInDim S1x450 ![1] bcast_S450_S1x450_1 (shapeCast _ (addi (broadcastInDim S50x9 ![0, 1] bcast_S50x1_S50x9_0_1 (broadcastInDim S50x1 ![0] bcast_S50_S50x1_0 tens)) (broadcastInDim S50x9 ![0, 1] bcast_S1x9_S50x9_0_1 (broadcastInDim S1x9 ![1] bcast_S9_S1x9_1 (addi (broadcastInDim S9 ![] bcast_S_S9 (constantI S_ 32 1#32)) (iotaInDim S9 32 0))))) shapeCasts_S50x9_S450))⟩] concatenates_S1x450_S1x450_S2x450_d0

/-- The nodes. -/
def nodes : IVec S500 32 := iotaInDim S500 32 0

/-- Every edge's source. -/
def srcv : IVec S950 32 :=
  concatenate S950 0 [⟨S450, (shapeCast _ (extractStridedSlice S1x450 ![0, 0] ends slices_S2x450_S1x450_0_0) shapeCasts_S1x450_S450)⟩, ⟨S500, nodes⟩] concatenates_S450_S500_S950_d0

/-- Every edge's destination. -/
def dstv : IVec S950 32 :=
  concatenate S950 0 [⟨S450, (shapeCast _ (extractStridedSlice S1x450 ![1, 0] ends slices_S2x450_S1x450_1_0) shapeCasts_S1x450_S450)⟩, ⟨S500, nodes⟩] concatenates_S450_S500_S950_d0

/-- A list of nodes as an index column. -/
def col (x : IVec S950 32) : IVec S950x1 32 :=
  broadcastInDim S950x1 ![0] bcast_S950_S950x1_0 (select (cmpi .slt x (broadcastInDim S950 ![] bcast_S_S950 (constantI S_ 32 0#32))) (addi x (broadcastInDim S950 ![] bcast_S_S950 (constantI S_ 32 500#32))) x)

/-- The star of each node. -/
def star : IVec S500 32 := shapeCast _ (broadcastInDim S50x10 ![0] bcast_S50_S50x10_0 (iotaInDim S50 32 0)) shapeCasts_S50x10_S500

/-- The same, as an index column. -/
def starcol : IVec S500x1 32 :=
  broadcastInDim S500x1 ![0] bcast_S500_S500x1_0 (select (cmpi .slt star (broadcastInDim S500 ![] bcast_S_S500 (constantI S_ 32 0#32))) (addi star (broadcastInDim S500 ![] bcast_S_S500 (constantI S_ 32 50#32))) star)

theorem res_src (V : Valuation τ sig (Elt Ideal)) : res_main_v253 V = srcv := rfl
theorem res_dst (V : Valuation τ sig (Elt Ideal)) : res_main_v256 V = dstv := rfl
theorem res_src2 (V : Valuation τ sig (Elt Ideal)) : res_main_v407 V = srcv := rfl
theorem res_dst2 (V : Valuation τ sig (Elt Ideal)) : res_main_v410 V = dstv := rfl
theorem res_star (V : Valuation τ sig (Elt Ideal)) : res_main_v249 V = star := rfl

theorem tens_apply (g : Fin 50) : tens (ix1 g) = BitVec.ofNat 32 (10 * g.val) := by
  have e : tens (ix1 g) = BitVec.ofNat 32 g.val * BitVec.ofNat 32 10 := by pointwise [tens]; rfl
  rw [e, ← BitVec.ofNat_mul, Nat.mul_comm]

theorem ends0 (k : Fin 450) : ends (ix2 0 k) = BitVec.ofNat 32 (10 * (k.val / 9)) := by
  have e : ends (ix2 0 k) = tens (ix1 ⟨k.val / 9, by omega⟩) := by pointwise [ends]; try rfl
  rw [e, tens_apply]

theorem ends1 (k : Fin 450) : ends (ix2 1 k) = BitVec.ofNat 32 (10 * (k.val / 9) + (1 + k.val % 9)) := by
  have e : ends (ix2 1 k) = tens (ix1 ⟨k.val / 9, by omega⟩) + (BitVec.ofNat 32 1 + BitVec.ofNat 32 (k.val % 9)) := by
    pointwise [ends]; try rfl
  rw [e, tens_apply, ← BitVec.ofNat_add, ← BitVec.ofNat_add]

theorem srcv_apply (e : Fin 950) : srcv (ix1 e) = BitVec.ofNat 32 (srcE e).val := by
  unfold srcE
  by_cases h : e.val < 450
  · have h1 : srcv (ix1 e) = ends (ix2 0 ⟨e.val, h⟩) := by
      pointwise [srcv]
      simp [h]
    rw [h1, ends0, dif_pos h]
  · have h1 : srcv (ix1 e) = BitVec.ofNat 32 (e.val - 450) := by
      pointwise [srcv, nodes]
      simp [h]
    rw [h1, dif_neg h]

theorem dstv_apply (e : Fin 950) : dstv (ix1 e) = BitVec.ofNat 32 (dstE e).val := by
  unfold dstE
  by_cases h : e.val < 450
  · have h1 : dstv (ix1 e) = ends (ix2 1 ⟨e.val, h⟩) := by
      pointwise [dstv]
      simp [h]
    rw [h1, ends1, dif_pos h]
  · have h1 : dstv (ix1 e) = BitVec.ofNat 32 (e.val - 450) := by
      pointwise [dstv, nodes]
      simp [h]
    rw [h1, dif_neg h]

theorem col_apply (x : IVec S950 32) (e : Fin 950) (v : Fin 500) (h : x (ix1 e) = BitVec.ofNat 32 v.val) : (col x (ix2 e 0)).toInt = (v.val : ℤ) := by
  have ht : (x (ix1 e)).toInt = (v.val : ℤ) := by rw [h]; exact toInt_word (by omega)
  have key : col x (ix2 e 0) = select (cmpi .slt x (broadcastInDim S950 ![] bcast_S_S950 (constantI S_ 32 0#32))) (addi x (broadcastInDim S950 ![] bcast_S_S950 (constantI S_ 32 500#32))) x (ix1 e) := by
    unfold col
    generalize select (cmpi .slt x _) _ _ = y
    pointwise
  rw [key, wrap_apply _ _ _ _ rfl (by rw [ht]; omega), ht]

theorem scol (e : Fin 950) : (col srcv (ix2 e 0)).toInt = ((srcE e).val : ℤ) := col_apply _ _ _ (srcv_apply e)

theorem dcol (e : Fin 950) : (col dstv (ix2 e 0)).toInt = ((dstE e).val : ℤ) := col_apply _ _ _ (dstv_apply e)

/-- An edge arrives where its index says. -/
theorem dcol_iff (e : Fin 950) (v : Fin 500) : ((col dstv (ix2 e 0)).toInt = (v.val : ℤ)) ↔ dstE e = v := by
  rw [dcol, Fin.ext_iff]; exact Int.natCast_inj

theorem star_apply (w : Fin 500) : star (ix1 w) = BitVec.ofNat 32 (bk w).val := by pointwise [star]; try rfl

theorem starcol_apply (w : Fin 500) : (starcol (ix2 w 0)).toInt = ((bk w).val : ℤ) := by
  have ht : (star (ix1 w)).toInt = ((bk w).val : ℤ) := by rw [star_apply]; exact toInt_word (by omega)
  have key : starcol (ix2 w 0) = select (cmpi .slt star (broadcastInDim S500 ![] bcast_S_S500 (constantI S_ 32 0#32))) (addi star (broadcastInDim S500 ![] bcast_S_S500 (constantI S_ 32 50#32))) star (ix1 w) := by
    unfold starcol
    generalize select (cmpi .slt star _) _ _ = y
    pointwise
  rw [key, wrap_apply _ _ _ _ rfl (by rw [ht]; omega), ht]

theorem sum_starcol (f : Fin 500 → EReal) (g : Fin 50) :
    (∑ w : Fin 500, if (starcol (ix2 w 0)).toInt = (g.val : ℤ) then f w else (0 : EReal)) = ∑ u : Fin 10, f (gr g u) := by
  rw [← sum_star f g]
  refine Finset.sum_congr rfl fun w _ => ?_
  rw [starcol_apply]
  simp only [Fin.ext_iff, Int.natCast_inj]

/-- A star's sum. -/
def segS (s : FVec Ideal S500 .f32) : FVec Ideal S50 .f32 :=
  Host.scatterAdd scatter_S50_S500x1_S500_n_0_0_1 (broadcastInDim S50 ![] bcast_S_S50 (constant S_ .f32 0x00000000#32)) starcol s

theorem segS_apply (s : FVec Ideal S500 .f32) (g : Fin 50) : segS s (ix1 g) = ∑ u : Fin 10, s (ix1 (gr g u)) := by
  have h0 : broadcastInDim S50 ![] bcast_S_S50 (constant (F := Ideal) S_ .f32 0x00000000#32) (ix1 g) = (0 : EReal) := by pointwise
  unfold segS
  rw [scatter_S50_S500x1_S500_n_0_0_1_apply, sum_starcol, h0, zero_add]

/-- A star's value at each of its nodes. -/
def at500 (s : FVec Ideal S50 .f32) : FVec Ideal S500 .f32 := Host.gather gather_S50_S500x1_S500_n_0_n_n_0_1_1 s starcol

theorem at500_apply (s : FVec Ideal S50 .f32) (w : Fin 500) : at500 s (ix1 w) = s (ix1 (bk w)) := by
  unfold at500
  rw [gather_S50_S500x1_S500_n_0_n_n_0_1_1_apply _ _ _ _ (starcol_apply w)]

theorem ones_apply (w : Fin 500) : broadcastInDim S500 ![] bcast_S_S500 (constant (F := Ideal) S_ .f32 0x3F800000#32) (ix1 w) = (1 : EReal) := by
  pointwise

theorem count_apply (g : Fin 50) : segS (broadcastInDim S500 ![] bcast_S_S500 (constant S_ .f32 0x3F800000#32)) (ix1 g) = ((10 : ℝ) : EReal) := by
  rw [segS_apply]
  rw [Finset.sum_congr rfl fun u _ => ones_apply (gr g u), sum_one 10]
  norm_num

end Cert.Val.R

end
-- ==== Proof.Val.RGat1.lean ====
/-
  The reference's first attention layer, over the edges.
-/
module

public import proofs.«01_k».proof.Proof.Val.RStar

@[expose] public section

set_option maxRecDepth 16384

noncomputable section

namespace Cert.Val.R1

open Idealize.ShloMosaic Cert.ReferenceIdeal Cert.ReferenceIdeal.Gen Cert.ReferenceIdeal.Value Cert.Val.R

attribute [local instance] Cert.ReferenceIdeal.Gen.facts

/-- A node's score. -/
def att (H : FVec Ideal S500x4x16 .f32) (a : FVec Ideal S4x16 .f32) : FVec Ideal S500x4 .f32 :=
  Host.reduceAdd (mulf H (broadcastInDim S500x4x16 ![0, 1, 2] bcast_S1x4x16_S500x4x16_0_1_2 (broadcastInDim S1x4x16 ![1, 2] bcast_S4x16_S1x4x16_1_2 a))) (constant S_ .f32 0x00000000#32) reducesTo_S500x4x16_S500x4_d2 h_S_

/-- A node's numbers at the edges. -/
def take (x : FVec Ideal S500x4 .f32) (d : IVec S950 32) : FVec Ideal S950x4 .f32 := Host.gather gather_S500x4_S950x1_S950x4_1_0_n_n_0_1_14 x (col d)

/-- An edge's score before the rectifier. -/
def raw (H : FVec Ideal S500x4x16 .f32) (sa da : FVec Ideal S4x16 .f32) : FVec Ideal S950x4 .f32 := addf (take (att H sa) srcv) (take (att H da) dstv)

/-- The leaky rectifier. -/
def leaky (x : FVec Ideal S950x4 .f32) : FVec Ideal S950x4 .f32 :=
  select (cmpf .oge x (broadcastInDim S950x4 ![] bcast_S_S950x4 (constant S_ .f32 0x00000000#32))) x (mulf (broadcastInDim S950x4 ![] bcast_S_S950x4 (id (constant S_ .f32 0x3E4CCCCD#32))) x)

/-- Whether an edge arrives at a node. -/
def arrives : IVec S950x500 1 :=
  cmpi .eq (broadcastInDim S950x500 ![0, 1] bcast_S950x1_S950x500_0_1 (broadcastInDim S950x1 ![0] bcast_S950_S950x1_0 dstv)) (broadcastInDim S950x500 ![0, 1] bcast_S1x500_S950x500_0_1 (broadcastInDim S1x500 ![1] bcast_S500_S1x500_1 (iotaInDim S500 32 0)))

/-- The largest score arriving at a node, the edges given. -/
def largest (b : IVec S950x500 1) (x : FVec Ideal S950x4 .f32) : FVec Ideal S500x4 .f32 :=
  Host.reduce FloatOps.maximumf (select (broadcastInDim S950x500x4 ![0, 1, 2] bcast_S950x500x1_S950x500x4_0_1_2 (broadcastInDim S950x500x1 ![0, 1] bcast_S950x500_S950x500x1_0_1 b)) (broadcastInDim S950x500x4 ![0, 1, 2] bcast_S950x1x4_S950x500x4_0_1_2 (broadcastInDim S950x1x4 ![0, 2] bcast_S950x4_S950x1x4_0_2 x)) (broadcastInDim S950x500x4 ![] bcast_S_S950x500x4 (id (constant S_ .f32 0xFF800000#32)))) (constant S_ .f32 0xFF800000#32) reducesTo_S950x500x4_S500x4_d0 h_S_

/-- An edge's weight before it is normalised. -/
def weight (x : FVec Ideal S950x4 .f32) : FVec Ideal S950x4 .f32 := Host.exp (subf x (take (largest arrives x) dstv))

/-- The sum of the weights arriving at a node. -/
def total (p : FVec Ideal S950x4 .f32) : FVec Ideal S500x4 .f32 :=
  Host.scatterAdd scatter_S500x4_S950x1_S950x4_1_0_0_1 (broadcastInDim S500x4 ![] bcast_S_S500x4 (constant S_ .f32 0x00000000#32)) (col dstv) p

/-- The edges' weights, normalised. -/
def share (p : FVec Ideal S950x4 .f32) : FVec Ideal S950x4 .f32 :=
  Host.divf p (addf (take (total p) dstv) (broadcastInDim S950x4 ![] bcast_S_S950x4 (constant S_ .f32 0x24E69595#32)))

/-- What an edge carries. -/
def carry (h : FVec Ideal S950x4x16 .f32) (a : FVec Ideal S950x4 .f32) : FVec Ideal S950x4x16 .f32 :=
  mulf h (broadcastInDim S950x4x16 ![0, 1, 2] bcast_S950x4x1_S950x4x16_0_1_2 (broadcastInDim S950x4x1 ![0, 1] bcast_S950x4_S950x4x1_0_1 a))

/-- The features at the edges' sources. -/
def from' (H : FVec Ideal S500x4x16 .f32) : FVec Ideal S950x4x16 .f32 := Host.gather gather_S500x4x16_S950x1_S950x4x16_12_0_n_n_0_1_1416 H (col srcv)

/-- What arrives at a node. -/
def arrive (y : FVec Ideal S950x4x16 .f32) : FVec Ideal S500x4x16 .f32 :=
  Host.scatterAdd scatter_S500x4x16_S950x1_S950x4x16_12_0_0_1 (broadcastInDim S500x4x16 ![] bcast_S_S500x4x16 (constant S_ .f32 0x00000000#32)) (col dstv) y

/-- The features side by side, the offset added. -/
def flat (y : FVec Ideal S500x4x16 .f32) (b : FVec Ideal S64 .f32) : FVec Ideal S500x64 .f32 :=
  addf (shapeCast _ y shapeCasts_S500x4x16_S500x64) (broadcastInDim S500x64 ![0, 1] bcast_S1x64_S500x64_0_1 (broadcastInDim S1x64 ![1] bcast_S64_S1x64_1 b))

/-- The exponential rectifier. -/
def elu (x : FVec Ideal S500x64 .f32) : FVec Ideal S500x64 .f32 :=
  select (cmpf .ogt x (broadcastInDim S500x64 ![] bcast_S_S500x64 (constant S_ .f32 0x00000000#32))) x (mulf (broadcastInDim S500x64 ![] bcast_S_S500x64 (constant S_ .f32 0x3F800000#32)) (Host.expm1 (select (cmpf .ogt x (broadcastInDim S500x64 ![] bcast_S_S500x64 (constant S_ .f32 0x00000000#32))) (broadcastInDim S500x64 ![] bcast_S_S500x64 (id (constant S_ .f32 0x00000000#32))) x)))

/-- The layer from the features. -/
def layer (H : FVec Ideal S500x4x16 .f32) (sa da : FVec Ideal S4x16 .f32) (b : FVec Ideal S64 .f32) : FVec Ideal S500x64 .f32 :=
  elu (flat (arrive (carry (from' H) (share (weight (leaky (raw H sa da)))))) b)

/-- The number of entries of a star. -/
def den : FVec Ideal S50 .f32 := mulf (segS (broadcastInDim S500 ![] bcast_S_S500 (constant S_ .f32 0x3F800000#32))) (broadcastInDim S50 ![] bcast_S_S50 (constant S_ .f32 0x42800000#32))

/-- A number of a node, at each of its features. -/
def wide (x : FVec Ideal S500 .f32) : FVec Ideal S500x64 .f32 := broadcastInDim S500x64 ![0, 1] bcast_S500x1_S500x64_0_1 (broadcastInDim S500x1 ![0] bcast_S500_S500x1_0 x)

/-- The sum of a node's features. -/
def rowSum (y : FVec Ideal S500x64 .f32) : FVec Ideal S500 .f32 := Host.reduceAdd y (constant S_ .f32 0x00000000#32) reducesTo_S500x64_S500_d1 h_S_

/-- The centred features. -/
def cen (y : FVec Ideal S500x64 .f32) : FVec Ideal S500x64 .f32 := subf y (wide (at500 (Host.divf (segS (rowSum y)) den)))

/-- A row at every node. -/
def tall (b : FVec Ideal S64 .f32) : FVec Ideal S500x64 .f32 := broadcastInDim S500x64 ![0, 1] bcast_S1x64_S500x64_0_1 (broadcastInDim S1x64 ![1] bcast_S64_S1x64_1 b)

/-- The stars' variances, a little added. -/
def var (y : FVec Ideal S500x64 .f32) : FVec Ideal S50 .f32 := addf (Host.divf (segS (rowSum (mulf y y))) den) (broadcastInDim S50 ![] bcast_S_S50 (constant S_ .f32 0x3727C5AC#32))

/-- The normalised features from the centred ones. -/
def ln (y : FVec Ideal S500x64 .f32) (w b : FVec Ideal S64 .f32) : FVec Ideal S500x64 .f32 :=
  addf (mulf (Host.divf y (wide (at500 (Host.sqrt (var y))))) (tall w)) (tall b)

/-! ## The reading -/

theorem att_apply (H : FVec Ideal S500x4x16 .f32) (a : FVec Ideal S4x16 .f32) (v : Fin 500) (q : Fin 4) :
    att H a (ix2 v q) = ∑ t : Fin 16, H (ix3 v q t) * a (ix2 q t) := by
  pointwise [att]
  try rfl

theorem take_apply (x : FVec Ideal S500x4 .f32) (d : IVec S950 32) (e : Fin 950) (q : Fin 4) (v : Fin 500) (h : (col d (ix2 e 0)).toInt = (v.val : ℤ)) :
    take x d (ix2 e q) = x (ix2 v q) := by
  unfold take
  rw [gather_S500x4_S950x1_S950x4_1_0_n_n_0_1_14_apply _ _ _ _ _ h]

theorem leaky_apply (x : FVec Ideal S950x4 .f32) (e : Fin 950) (q : Fin 4) : leaky x (ix2 e q) = lkS (x (ix2 e q)) := by
  unfold leaky lkS
  simp only [id_eq]
  pointwise
  try rfl

theorem arrives_apply (e : Fin 950) (v : Fin 500) : arrives (ix2 e v) = BitVec.ofBool (decide (dstE e = v)) := by
  have key : ∀ y : IVec S950 32, cmpi .eq (broadcastInDim S950x500 ![0, 1] bcast_S950x1_S950x500_0_1 (broadcastInDim S950x1 ![0] bcast_S950_S950x1_0 y)) (broadcastInDim S950x500 ![0, 1] bcast_S1x500_S950x500_0_1 (broadcastInDim S1x500 ![1] bcast_S500_S1x500_1 (iotaInDim S500 32 0))) (ix2 e v)
      = BitVec.ofBool (y (ix1 e) == BitVec.ofNat 32 v.val) := by
    intro y
    pointwise
    try rfl
  unfold arrives
  rw [key, dstv_apply]
  congr 1
  rw [Bool.beq_eq_decide_eq]
  refine decide_eq_decide.mpr ?_
  rw [K.ofNat_inj (by omega) (by omega), Fin.ext_iff]

theorem largest_apply (b : IVec S950x500 1) (x : FVec Ideal S950x4 .f32) (v : Fin 500) (q : Fin 4) :
    largest b x (ix2 v q) = Finset.univ.fold max ⊥ fun e : Fin 950 => Scalar.select (b (ix2 e v)) (x (ix2 e q)) (⊥ : EReal) := by
  unfold largest
  simp only [id_eq]
  pointwise
  try rfl

theorem total_apply (p : FVec Ideal S950x4 .f32) (v : Fin 500) (q : Fin 4) :
    total p (ix2 v q) = ∑ e : Fin 950, if dstE e = v then p (ix2 e q) else 0 := by
  have h0 : broadcastInDim S500x4 ![] bcast_S_S500x4 (constant (F := Ideal) S_ .f32 0x00000000#32) (ix2 v q) = (0 : EReal) := by pointwise
  unfold total
  rw [scatter_S500x4_S950x1_S950x4_1_0_0_1_apply, h0, zero_add]
  simp only [dcol_iff]

theorem arrive_apply (y : FVec Ideal S950x4x16 .f32) (v : Fin 500) (q : Fin 4) (t : Fin 16) :
    arrive y (ix3 v q t) = ∑ e : Fin 950, if dstE e = v then y (ix3 e q t) else 0 := by
  have h0 : broadcastInDim S500x4x16 ![] bcast_S_S500x4x16 (constant (F := Ideal) S_ .f32 0x00000000#32) (ix3 v q t) = (0 : EReal) := by pointwise
  unfold arrive
  rw [scatter_S500x4x16_S950x1_S950x4x16_12_0_0_1_apply, h0, zero_add]
  simp only [dcol_iff]

theorem carry_apply (h : FVec Ideal S950x4x16 .f32) (a : FVec Ideal S950x4 .f32) (e : Fin 950) (q : Fin 4) (t : Fin 16) :
    carry h a (ix3 e q t) = h (ix3 e q t) * a (ix2 e q) := by
  pointwise [carry]
  try rfl

theorem from_apply (H : FVec Ideal S500x4x16 .f32) (e : Fin 950) (q : Fin 4) (t : Fin 16) : from' H (ix3 e q t) = H (ix3 (srcE e) q t) := by
  unfold from'
  rw [gather_S500x4x16_S950x1_S950x4x16_12_0_n_n_0_1_1416_apply _ _ _ _ _ _ (scol e)]

theorem elu_apply (x : FVec Ideal S500x64 .f32) (v : Fin 500) (o : Fin 64) : elu x (ix2 v o) = eluS (x (ix2 v o)) := by
  have key : elu x (ix2 v o) = if 0 < x (ix2 v o) then x (ix2 v o) else 1 * (Ideal.exp (if 0 < x (ix2 v o) then 0 else x (ix2 v o)) - 1) := by
    unfold elu
    simp only [id_eq]
    pointwise
    try rfl
  rw [key, one_mul]
  unfold eluS
  split
  · rfl
  · next h => rw [min_eq_left (not_lt.mp h)]

section
variable (s d : FVec Ideal S500x4 .f32) (q : Fin 4)

/-- An edge's rectified score. -/
theorem x_apply (e : Fin 950) : leaky (addf (take s srcv) (take d dstv)) (ix2 e q) = xE (fun w => s (ix2 w q)) (fun w => d (ix2 w q)) e := by
  have h : addf (take s srcv) (take d dstv) (ix2 e q) = take s srcv (ix2 e q) + take d dstv (ix2 e q) := rfl
  rw [leaky_apply, h, take_apply _ _ _ _ _ (scol e), take_apply _ _ _ _ _ (dcol e)]
  rfl

theorem m_apply (v : Fin 500) : largest arrives (leaky (addf (take s srcv) (take d dstv))) (ix2 v q) = mE (fun w => s (ix2 w q)) (fun w => d (ix2 w q)) v := by
  rw [largest_apply]
  simp only [arrives_apply, x_apply]
  unfold mE
  congr 1
  funext e
  by_cases h : dstE e = v
  · rw [if_pos h, decide_eq_true h]; rfl
  · rw [if_neg h, decide_eq_false h]; rfl

theorem p_apply (e : Fin 950) : weight (leaky (addf (take s srcv) (take d dstv))) (ix2 e q) = pE (fun w => s (ix2 w q)) (fun w => d (ix2 w q)) e := by
  have h : ∀ x y : FVec Ideal S950x4 .f32, Host.exp (subf x y) (ix2 e q) = Ideal.exp (x (ix2 e q) - y (ix2 e q)) := fun _ _ => rfl
  unfold weight
  rw [h, x_apply, take_apply _ _ _ _ _ (dcol e), m_apply]
  rfl

theorem share_apply (e : Fin 950) : share (weight (leaky (addf (take s srcv) (take d dstv)))) (ix2 e q)
    = Ideal.div (pE (fun w => s (ix2 w q)) (fun w => d (ix2 w q)) e) (zE (fun w => s (ix2 w q)) (fun w => d (ix2 w q)) (dstE e) + Ideal.ofBits .f32 0x24E69595#32) := by
  have h : ∀ x y : FVec Ideal S950x4 .f32, Host.divf x (addf y (broadcastInDim S950x4 ![] bcast_S_S950x4 (constant S_ .f32 0x24E69595#32))) (ix2 e q)
      = Ideal.div (x (ix2 e q)) (y (ix2 e q) + Ideal.ofBits .f32 0x24E69595#32) := by
    intro x y
    pointwise
    try rfl
  unfold share
  rw [h, take_apply _ _ _ _ _ (dcol e), total_apply]
  simp only [p_apply]
  rfl

/-- What arrives at a node is the attention's value. -/
theorem o_apply (H : FVec Ideal S500x4x16 .f32) (v : Fin 500) (t : Fin 16) :
    arrive (carry (from' H) (share (weight (leaky (addf (take s srcv) (take d dstv)))))) (ix3 v q t)
      = gatS (fun w => s (ix2 w q)) (fun w => d (ix2 w q)) (fun w => H (ix3 w q t)) v := by
  rw [arrive_apply, ← oE_eq]
  simp only [carry_apply, from_apply, share_apply]
  rfl

end

theorem flat_apply (y : FVec Ideal S500x4x16 .f32) (b : FVec Ideal S64 .f32) (v : Fin 500) (o : Fin 64) :
    flat y b (ix2 v o) = y (ix3 v (hq o) ⟨o.val % 16, by omega⟩) + b (ix1 o) := by
  pointwise [flat]
  try rfl

theorem layer_apply (H : FVec Ideal S500x4x16 .f32) (sa da : FVec Ideal S4x16 .f32) (b : FVec Ideal S64 .f32) (v : Fin 500) (o : Fin 64) :
    layer H sa da b (ix2 v o)
      = eluS (gatS (fun w => ∑ t : Fin 16, H (ix3 w (hq o) t) * sa (ix2 (hq o) t)) (fun w => ∑ t : Fin 16, H (ix3 w (hq o) t) * da (ix2 (hq o) t)) (fun w => H (ix3 w (hq o) ⟨o.val % 16, by omega⟩)) v + b (ix1 o)) := by
  unfold layer raw
  rw [elu_apply, flat_apply, o_apply]
  simp only [att_apply]

theorem den_apply (g : Fin 50) : den (ix1 g) = ((640 : ℝ) : EReal) := by
  have h : ∀ x : FVec Ideal S50 .f32, mulf x (broadcastInDim S50 ![] bcast_S_S50 (constant S_ .f32 0x42800000#32)) (ix1 g) = x (ix1 g) * Ideal.ofBits .f32 0x42800000#32 := by
    intro x
    pointwise
    try rfl
  unfold den
  rw [h, count_apply, c_64, ← EReal.coe_mul]
  norm_num

theorem wide_apply (x : FVec Ideal S500 .f32) (v : Fin 500) (o : Fin 64) : wide x (ix2 v o) = x (ix1 v) := by
  pointwise [wide]
  try rfl

theorem tall_apply (b : FVec Ideal S64 .f32) (v : Fin 500) (o : Fin 64) : tall b (ix2 v o) = b (ix1 o) := by
  pointwise [tall]
  try rfl

theorem rowSum_apply (y : FVec Ideal S500x64 .f32) (v : Fin 500) : rowSum y (ix1 v) = ∑ o : Fin 64, y (ix2 v o) := by
  pointwise [rowSum]
  try rfl

theorem cen_apply (y : FVec Ideal S500x64 .f32) (v : Fin 500) (o : Fin 64) : cen y (ix2 v o) = cenS 640 (fun v o => y (ix2 v o)) v o := by
  have h : ∀ x y : FVec Ideal S500x64 .f32, subf x y (ix2 v o) = x (ix2 v o) - y (ix2 v o) := fun _ _ => rfl
  have h' : ∀ (x y : FVec Ideal S50 .f32) (g : Fin 50), Host.divf x y (ix1 g) = Ideal.div (x (ix1 g)) (y (ix1 g)) := fun _ _ _ => rfl
  unfold cen
  rw [h, wide_apply, at500_apply, h', den_apply, segS_apply]
  simp only [rowSum_apply]
  rfl

theorem var_apply (y : FVec Ideal S500x64 .f32) (g : Fin 50) : var y (ix1 g) = varS 640 (fun v o => y (ix2 v o)) g := by
  have h : ∀ x y : FVec Ideal S50 .f32, addf (Host.divf x y) (broadcastInDim S50 ![] bcast_S_S50 (constant S_ .f32 0x3727C5AC#32)) (ix1 g)
      = Ideal.div (x (ix1 g)) (y (ix1 g)) + Ideal.ofBits .f32 0x3727C5AC#32 := by
    intro x y
    pointwise
    try rfl
  unfold var
  rw [h, den_apply, segS_apply]
  simp only [rowSum_apply]
  rfl

theorem ln_apply (y : FVec Ideal S500x64 .f32) (w b : FVec Ideal S64 .f32) (v : Fin 500) (o : Fin 64) :
    ln y w b (ix2 v o) = lnS 640 (fun o => w (ix1 o)) (fun o => b (ix1 o)) (fun v o => y (ix2 v o)) v o := by
  have h : ∀ x y z t : FVec Ideal S500x64 .f32, addf (mulf (Host.divf x y) z) t (ix2 v o) = Ideal.div (x (ix2 v o)) (y (ix2 v o)) * z (ix2 v o) + t (ix2 v o) := fun _ _ _ _ => rfl
  have h' : ∀ (x : FVec Ideal S50 .f32) (g : Fin 50), Host.sqrt x (ix1 g) = Ideal.sqrt (x (ix1 g)) := fun _ _ => rfl
  unfold ln lnS
  rw [h, wide_apply, tall_apply, tall_apply, at500_apply, h', var_apply, div_sqrt _ (varS_pos (by norm_num) _ _)]

end Cert.Val.R1

end
-- ==== Proof.Val.RGat2.lean ====
/-
  The reference's second attention layer, over the edges.
-/
module

public import proofs.«01_k».proof.Proof.Val.RStar

@[expose] public section

set_option maxRecDepth 16384

noncomputable section

namespace Cert.Val.R2

open Idealize.ShloMosaic Cert.ReferenceIdeal Cert.ReferenceIdeal.Gen Cert.ReferenceIdeal.Value Cert.Val.R

attribute [local instance] Cert.ReferenceIdeal.Gen.facts

/-- A node's score. -/
def att (H : FVec Ideal S500x1x16 .f32) (a : FVec Ideal S1x16 .f32) : FVec Ideal S500x1 .f32 :=
  Host.reduceAdd (mulf H (broadcastInDim S500x1x16 ![0, 1, 2] bcast_S1x1x16_S500x1x16_0_1_2 (broadcastInDim S1x1x16 ![1, 2] bcast_S1x16_S1x1x16_1_2 a))) (constant S_ .f32 0x00000000#32) reducesTo_S500x1x16_S500x1_d2 h_S_

/-- A node's numbers at the edges. -/
def take (x : FVec Ideal S500x1 .f32) (d : IVec S950 32) : FVec Ideal S950x1 .f32 := Host.gather gather_S500x1_S950x1_S950x1_1_0_n_n_0_1_11 x (col d)

/-- An edge's score before the rectifier. -/
def raw (H : FVec Ideal S500x1x16 .f32) (sa da : FVec Ideal S1x16 .f32) : FVec Ideal S950x1 .f32 := addf (take (att H sa) srcv) (take (att H da) dstv)

/-- The leaky rectifier. -/
def leaky (x : FVec Ideal S950x1 .f32) : FVec Ideal S950x1 .f32 :=
  select (cmpf .oge x (broadcastInDim S950x1 ![] bcast_S_S950x1 (constant S_ .f32 0x00000000#32))) x (mulf (broadcastInDim S950x1 ![] bcast_S_S950x1 (id (constant S_ .f32 0x3E4CCCCD#32))) x)

/-- Whether an edge arrives at a node. -/
def arrives : IVec S950x500 1 :=
  cmpi .eq (broadcastInDim S950x500 ![0, 1] bcast_S950x1_S950x500_0_1 (broadcastInDim S950x1 ![0] bcast_S950_S950x1_0 dstv)) (broadcastInDim S950x500 ![0, 1] bcast_S1x500_S950x500_0_1 (broadcastInDim S1x500 ![1] bcast_S500_S1x500_1 (iotaInDim S500 32 0)))

/-- The largest score arriving at a node, the edges given. -/
def largest (b : IVec S950x500 1) (x : FVec Ideal S950x1 .f32) : FVec Ideal S500x1 .f32 :=
  Host.reduce FloatOps.maximumf (select (broadcastInDim S950x500x1 ![0, 1] bcast_S950x500_S950x500x1_0_1 b) (broadcastInDim S950x500x1 ![0, 1, 2] bcast_S950x1x1_S950x500x1_0_1_2 (broadcastInDim S950x1x1 ![0, 2] bcast_S950x1_S950x1x1_0_2 x)) (broadcastInDim S950x500x1 ![] bcast_S_S950x500x1 (id (constant S_ .f32 0xFF800000#32)))) (constant S_ .f32 0xFF800000#32) reducesTo_S950x500x1_S500x1_d0 h_S_

/-- An edge's weight before it is normalised. -/
def weight (x : FVec Ideal S950x1 .f32) : FVec Ideal S950x1 .f32 := Host.exp (subf x (take (largest arrives x) dstv))

/-- The sum of the weights arriving at a node. -/
def total (p : FVec Ideal S950x1 .f32) : FVec Ideal S500x1 .f32 :=
  Host.scatterAdd scatter_S500x1_S950x1_S950x1_1_0_0_1 (broadcastInDim S500x1 ![] bcast_S_S500x1 (constant S_ .f32 0x00000000#32)) (col dstv) p

/-- The edges' weights, normalised. -/
def share (p : FVec Ideal S950x1 .f32) : FVec Ideal S950x1 .f32 :=
  Host.divf p (addf (take (total p) dstv) (broadcastInDim S950x1 ![] bcast_S_S950x1 (constant S_ .f32 0x24E69595#32)))

/-- What an edge carries. -/
def carry (h : FVec Ideal S950x1x16 .f32) (a : FVec Ideal S950x1 .f32) : FVec Ideal S950x1x16 .f32 :=
  mulf h (broadcastInDim S950x1x16 ![0, 1, 2] bcast_S950x1x1_S950x1x16_0_1_2 (broadcastInDim S950x1x1 ![0, 1] bcast_S950x1_S950x1x1_0_1 a))

/-- The features at the edges' sources. -/
def from' (H : FVec Ideal S500x1x16 .f32) : FVec Ideal S950x1x16 .f32 := Host.gather gather_S500x1x16_S950x1_S950x1x16_12_0_n_n_0_1_1116 H (col srcv)

/-- What arrives at a node. -/
def arrive (y : FVec Ideal S950x1x16 .f32) : FVec Ideal S500x1x16 .f32 :=
  Host.scatterAdd scatter_S500x1x16_S950x1_S950x1x16_12_0_0_1 (broadcastInDim S500x1x16 ![] bcast_S_S500x1x16 (constant S_ .f32 0x00000000#32)) (col dstv) y

/-- The features side by side, the offset added. -/
def flat (y : FVec Ideal S500x1x16 .f32) (b : FVec Ideal S16 .f32) : FVec Ideal S500x16 .f32 :=
  addf (shapeCast _ y shapeCasts_S500x1x16_S500x16) (broadcastInDim S500x16 ![0, 1] bcast_S1x16_S500x16_0_1 (broadcastInDim S1x16 ![1] bcast_S16_S1x16_1 b))

/-- The exponential rectifier. -/
def elu (x : FVec Ideal S500x16 .f32) : FVec Ideal S500x16 .f32 :=
  select (cmpf .ogt x (broadcastInDim S500x16 ![] bcast_S_S500x16 (constant S_ .f32 0x00000000#32))) x (mulf (broadcastInDim S500x16 ![] bcast_S_S500x16 (constant S_ .f32 0x3F800000#32)) (Host.expm1 (select (cmpf .ogt x (broadcastInDim S500x16 ![] bcast_S_S500x16 (constant S_ .f32 0x00000000#32))) (broadcastInDim S500x16 ![] bcast_S_S500x16 (id (constant S_ .f32 0x00000000#32))) x)))

/-- The layer from the features. -/
def layer (H : FVec Ideal S500x1x16 .f32) (sa da : FVec Ideal S1x16 .f32) (b : FVec Ideal S16 .f32) : FVec Ideal S500x16 .f32 :=
  elu (flat (arrive (carry (from' H) (share (weight (leaky (raw H sa da)))))) b)

/-- The number of entries of a star. -/
def den : FVec Ideal S50 .f32 := mulf (segS (broadcastInDim S500 ![] bcast_S_S500 (constant S_ .f32 0x3F800000#32))) (broadcastInDim S50 ![] bcast_S_S50 (constant S_ .f32 0x41800000#32))

/-- A number of a node, at each of its features. -/
def wide (x : FVec Ideal S500 .f32) : FVec Ideal S500x16 .f32 := broadcastInDim S500x16 ![0, 1] bcast_S500x1_S500x16_0_1 (broadcastInDim S500x1 ![0] bcast_S500_S500x1_0 x)

/-- The sum of a node's features. -/
def rowSum (y : FVec Ideal S500x16 .f32) : FVec Ideal S500 .f32 := Host.reduceAdd y (constant S_ .f32 0x00000000#32) reducesTo_S500x16_S500_d1 h_S_

/-- The centred features. -/
def cen (y : FVec Ideal S500x16 .f32) : FVec Ideal S500x16 .f32 := subf y (wide (at500 (Host.divf (segS (rowSum y)) den)))

/-- A row at every node. -/
def tall (b : FVec Ideal S16 .f32) : FVec Ideal S500x16 .f32 := broadcastInDim S500x16 ![0, 1] bcast_S1x16_S500x16_0_1 (broadcastInDim S1x16 ![1] bcast_S16_S1x16_1 b)

/-- The stars' variances, a little added. -/
def var (y : FVec Ideal S500x16 .f32) : FVec Ideal S50 .f32 := addf (Host.divf (segS (rowSum (mulf y y))) den) (broadcastInDim S50 ![] bcast_S_S50 (constant S_ .f32 0x3727C5AC#32))

/-- The normalised features from the centred ones. -/
def ln (y : FVec Ideal S500x16 .f32) (w b : FVec Ideal S16 .f32) : FVec Ideal S500x16 .f32 :=
  addf (mulf (Host.divf y (wide (at500 (Host.sqrt (var y))))) (tall w)) (tall b)

/-! ## The reading -/

theorem att_apply (H : FVec Ideal S500x1x16 .f32) (a : FVec Ideal S1x16 .f32) (v : Fin 500) (q : Fin 1) :
    att H a (ix2 v q) = ∑ t : Fin 16, H (ix3 v q t) * a (ix2 q t) := by
  obtain rfl : q = 0 := Subsingleton.elim _ _
  pointwise [att]
  try rfl

theorem take_apply (x : FVec Ideal S500x1 .f32) (d : IVec S950 32) (e : Fin 950) (q : Fin 1) (v : Fin 500) (h : (col d (ix2 e 0)).toInt = (v.val : ℤ)) :
    take x d (ix2 e q) = x (ix2 v q) := by
  unfold take
  rw [gather_S500x1_S950x1_S950x1_1_0_n_n_0_1_11_apply _ _ _ _ _ h]

theorem leaky_apply (x : FVec Ideal S950x1 .f32) (e : Fin 950) (q : Fin 1) : leaky x (ix2 e q) = lkS (x (ix2 e q)) := by
  unfold leaky lkS
  simp only [id_eq]
  pointwise
  try rfl

theorem arrives_apply (e : Fin 950) (v : Fin 500) : arrives (ix2 e v) = BitVec.ofBool (decide (dstE e = v)) := by
  have key : ∀ y : IVec S950 32, cmpi .eq (broadcastInDim S950x500 ![0, 1] bcast_S950x1_S950x500_0_1 (broadcastInDim S950x1 ![0] bcast_S950_S950x1_0 y)) (broadcastInDim S950x500 ![0, 1] bcast_S1x500_S950x500_0_1 (broadcastInDim S1x500 ![1] bcast_S500_S1x500_1 (iotaInDim S500 32 0))) (ix2 e v)
      = BitVec.ofBool (y (ix1 e) == BitVec.ofNat 32 v.val) := by
    intro y
    pointwise
    try rfl
  unfold arrives
  rw [key, dstv_apply]
  congr 1
  rw [Bool.beq_eq_decide_eq]
  refine decide_eq_decide.mpr ?_
  rw [K.ofNat_inj (by omega) (by omega), Fin.ext_iff]

theorem largest_apply (b : IVec S950x500 1) (x : FVec Ideal S950x1 .f32) (v : Fin 500) (q : Fin 1) :
    largest b x (ix2 v q) = Finset.univ.fold max ⊥ fun e : Fin 950 => Scalar.select (b (ix2 e v)) (x (ix2 e q)) (⊥ : EReal) := by
  obtain rfl : q = 0 := Subsingleton.elim _ _
  unfold largest
  simp only [id_eq]
  pointwise
  try rfl

theorem total_apply (p : FVec Ideal S950x1 .f32) (v : Fin 500) (q : Fin 1) :
    total p (ix2 v q) = ∑ e : Fin 950, if dstE e = v then p (ix2 e q) else 0 := by
  have h0 : broadcastInDim S500x1 ![] bcast_S_S500x1 (constant (F := Ideal) S_ .f32 0x00000000#32) (ix2 v q) = (0 : EReal) := by pointwise
  unfold total
  rw [scatter_S500x1_S950x1_S950x1_1_0_0_1_apply, h0, zero_add]
  simp only [dcol_iff]

theorem arrive_apply (y : FVec Ideal S950x1x16 .f32) (v : Fin 500) (q : Fin 1) (t : Fin 16) :
    arrive y (ix3 v q t) = ∑ e : Fin 950, if dstE e = v then y (ix3 e q t) else 0 := by
  have h0 : broadcastInDim S500x1x16 ![] bcast_S_S500x1x16 (constant (F := Ideal) S_ .f32 0x00000000#32) (ix3 v q t) = (0 : EReal) := by pointwise
  unfold arrive
  rw [scatter_S500x1x16_S950x1_S950x1x16_12_0_0_1_apply, h0, zero_add]
  simp only [dcol_iff]

theorem carry_apply (h : FVec Ideal S950x1x16 .f32) (a : FVec Ideal S950x1 .f32) (e : Fin 950) (q : Fin 1) (t : Fin 16) :
    carry h a (ix3 e q t) = h (ix3 e q t) * a (ix2 e q) := by
  obtain rfl : q = 0 := Subsingleton.elim _ _
  pointwise [carry]
  try rfl

theorem from_apply (H : FVec Ideal S500x1x16 .f32) (e : Fin 950) (q : Fin 1) (t : Fin 16) : from' H (ix3 e q t) = H (ix3 (srcE e) q t) := by
  unfold from'
  rw [gather_S500x1x16_S950x1_S950x1x16_12_0_n_n_0_1_1116_apply _ _ _ _ _ _ (scol e)]

theorem elu_apply (x : FVec Ideal S500x16 .f32) (v : Fin 500) (o : Fin 16) : elu x (ix2 v o) = eluS (x (ix2 v o)) := by
  have key : elu x (ix2 v o) = if 0 < x (ix2 v o) then x (ix2 v o) else 1 * (Ideal.exp (if 0 < x (ix2 v o) then 0 else x (ix2 v o)) - 1) := by
    unfold elu
    simp only [id_eq]
    pointwise
    try rfl
  rw [key, one_mul]
  unfold eluS
  split
  · rfl
  · next h => rw [min_eq_left (not_lt.mp h)]

section
variable (s d : FVec Ideal S500x1 .f32) (q : Fin 1)

/-- An edge's rectified score. -/
theorem x_apply (e : Fin 950) : leaky (addf (take s srcv) (take d dstv)) (ix2 e q) = xE (fun w => s (ix2 w q)) (fun w => d (ix2 w q)) e := by
  have h : addf (take s srcv) (take d dstv) (ix2 e q) = take s srcv (ix2 e q) + take d dstv (ix2 e q) := rfl
  rw [leaky_apply, h, take_apply _ _ _ _ _ (scol e), take_apply _ _ _ _ _ (dcol e)]
  rfl

theorem m_apply (v : Fin 500) : largest arrives (leaky (addf (take s srcv) (take d dstv))) (ix2 v q) = mE (fun w => s (ix2 w q)) (fun w => d (ix2 w q)) v := by
  rw [largest_apply]
  simp only [arrives_apply, x_apply]
  unfold mE
  congr 1
  funext e
  by_cases h : dstE e = v
  · rw [if_pos h, decide_eq_true h]; rfl
  · rw [if_neg h, decide_eq_false h]; rfl

theorem p_apply (e : Fin 950) : weight (leaky (addf (take s srcv) (take d dstv))) (ix2 e q) = pE (fun w => s (ix2 w q)) (fun w => d (ix2 w q)) e := by
  have h : ∀ x y : FVec Ideal S950x1 .f32, Host.exp (subf x y) (ix2 e q) = Ideal.exp (x (ix2 e q) - y (ix2 e q)) := fun _ _ => rfl
  unfold weight
  rw [h, x_apply, take_apply _ _ _ _ _ (dcol e), m_apply]
  rfl

theorem share_apply (e : Fin 950) : share (weight (leaky (addf (take s srcv) (take d dstv)))) (ix2 e q)
    = Ideal.div (pE (fun w => s (ix2 w q)) (fun w => d (ix2 w q)) e) (zE (fun w => s (ix2 w q)) (fun w => d (ix2 w q)) (dstE e) + Ideal.ofBits .f32 0x24E69595#32) := by
  have h : ∀ x y : FVec Ideal S950x1 .f32, Host.divf x (addf y (broadcastInDim S950x1 ![] bcast_S_S950x1 (constant S_ .f32 0x24E69595#32))) (ix2 e q)
      = Ideal.div (x (ix2 e q)) (y (ix2 e q) + Ideal.ofBits .f32 0x24E69595#32) := by
    intro x y
    pointwise
    try rfl
  unfold share
  rw [h, take_apply _ _ _ _ _ (dcol e), total_apply]
  simp only [p_apply]
  rfl

/-- What arrives at a node is the attention's value. -/
theorem o_apply (H : FVec Ideal S500x1x16 .f32) (v : Fin 500) (t : Fin 16) :
    arrive (carry (from' H) (share (weight (leaky (addf (take s srcv) (take d dstv)))))) (ix3 v q t)
      = gatS (fun w => s (ix2 w q)) (fun w => d (ix2 w q)) (fun w => H (ix3 w q t)) v := by
  rw [arrive_apply, ← oE_eq]
  simp only [carry_apply, from_apply, share_apply]
  rfl

end

theorem flat_apply (y : FVec Ideal S500x1x16 .f32) (b : FVec Ideal S16 .f32) (v : Fin 500) (o : Fin 16) :
    flat y b (ix2 v o) = y (ix3 v 0 o) + b (ix1 o) := by
  pointwise [flat]
  try rfl

theorem layer_apply (H : FVec Ideal S500x1x16 .f32) (sa da : FVec Ideal S1x16 .f32) (b : FVec Ideal S16 .f32) (v : Fin 500) (o : Fin 16) :
    layer H sa da b (ix2 v o)
      = eluS (gatS (fun w => ∑ t : Fin 16, H (ix3 w 0 t) * sa (ix2 0 t)) (fun w => ∑ t : Fin 16, H (ix3 w 0 t) * da (ix2 0 t)) (fun w => H (ix3 w 0 o)) v + b (ix1 o)) := by
  unfold layer raw
  rw [elu_apply, flat_apply, o_apply]
  simp only [att_apply]

theorem den_apply (g : Fin 50) : den (ix1 g) = ((160 : ℝ) : EReal) := by
  have h : ∀ x : FVec Ideal S50 .f32, mulf x (broadcastInDim S50 ![] bcast_S_S50 (constant S_ .f32 0x41800000#32)) (ix1 g) = x (ix1 g) * Ideal.ofBits .f32 0x41800000#32 := by
    intro x
    pointwise
    try rfl
  unfold den
  rw [h, count_apply, c_16, ← EReal.coe_mul]
  norm_num

theorem wide_apply (x : FVec Ideal S500 .f32) (v : Fin 500) (o : Fin 16) : wide x (ix2 v o) = x (ix1 v) := by
  pointwise [wide]
  try rfl

theorem tall_apply (b : FVec Ideal S16 .f32) (v : Fin 500) (o : Fin 16) : tall b (ix2 v o) = b (ix1 o) := by
  pointwise [tall]
  try rfl

theorem rowSum_apply (y : FVec Ideal S500x16 .f32) (v : Fin 500) : rowSum y (ix1 v) = ∑ o : Fin 16, y (ix2 v o) := by
  pointwise [rowSum]
  try rfl

theorem cen_apply (y : FVec Ideal S500x16 .f32) (v : Fin 500) (o : Fin 16) : cen y (ix2 v o) = cenS 160 (fun v o => y (ix2 v o)) v o := by
  have h : ∀ x y : FVec Ideal S500x16 .f32, subf x y (ix2 v o) = x (ix2 v o) - y (ix2 v o) := fun _ _ => rfl
  have h' : ∀ (x y : FVec Ideal S50 .f32) (g : Fin 50), Host.divf x y (ix1 g) = Ideal.div (x (ix1 g)) (y (ix1 g)) := fun _ _ _ => rfl
  unfold cen
  rw [h, wide_apply, at500_apply, h', den_apply, segS_apply]
  simp only [rowSum_apply]
  rfl

theorem var_apply (y : FVec Ideal S500x16 .f32) (g : Fin 50) : var y (ix1 g) = varS 160 (fun v o => y (ix2 v o)) g := by
  have h : ∀ x y : FVec Ideal S50 .f32, addf (Host.divf x y) (broadcastInDim S50 ![] bcast_S_S50 (constant S_ .f32 0x3727C5AC#32)) (ix1 g)
      = Ideal.div (x (ix1 g)) (y (ix1 g)) + Ideal.ofBits .f32 0x3727C5AC#32 := by
    intro x y
    pointwise
    try rfl
  unfold var
  rw [h, den_apply, segS_apply]
  simp only [rowSum_apply]
  rfl

theorem ln_apply (y : FVec Ideal S500x16 .f32) (w b : FVec Ideal S16 .f32) (v : Fin 500) (o : Fin 16) :
    ln y w b (ix2 v o) = lnS 160 (fun o => w (ix1 o)) (fun o => b (ix1 o)) (fun v o => y (ix2 v o)) v o := by
  have h : ∀ x y z t : FVec Ideal S500x16 .f32, addf (mulf (Host.divf x y) z) t (ix2 v o) = Ideal.div (x (ix2 v o)) (y (ix2 v o)) * z (ix2 v o) + t (ix2 v o) := fun _ _ _ _ => rfl
  have h' : ∀ (x : FVec Ideal S50 .f32) (g : Fin 50), Host.sqrt x (ix1 g) = Ideal.sqrt (x (ix1 g)) := fun _ _ => rfl
  unfold ln lnS
  rw [h, wide_apply, tall_apply, tall_apply, at500_apply, h', var_apply, div_sqrt _ (varS_pos (by norm_num) _ _)]

end Cert.Val.R2

end
-- ==== Proof.Val.KSuper.lean ====
/-
  What the kernel's second stage writes, read off its rows: its products with the constant selections are the roots, the stars' means and
  the heads, and its mask leaves a root only its own score.
-/
module

public import proofs.«01_k».proof.Proof.Val.KConst

@[expose] public section

set_option maxRecDepth 16384

noncomputable section

namespace Cert.Val.K

open Idealize.ShloMosaic Cert.KernelIdeal Cert.KernelIdeal.Gen

attribute [local instance] Cert.KernelIdeal.Gen.facts

variable (x : FVec Ideal S500x19 .f32) (a9 : FVec Ideal S19x64 .f32) (a10 a11 : FVec Ideal S4x16 .f32)

/-- The rows through the first product. -/
def hS : Fin 500 → Fin 64 → EReal := mulS (fun v i => x (ix2 v i)) (fun i o => a9 (ix2 i o))

/-- A node's first score for a head. -/
def sS (a : FVec Ideal S4x16 .f32) (q : Fin 4) : Fin 500 → EReal := attS (hS x a9) (fun q t => a (ix2 q t)) q

theorem pay4_apply (v : Fin 500) (o : Fin 64) : k0_pay4 (F := Ideal) x a9 (ix2 v o) = hS x a9 v o := by
  unfold hS mulS
  pointwise [k0_pay4]

theorem pay5_apply (v : Fin 500) (q : Fin 4) : k0_pay5 (F := Ideal) x a9 (spread a10) (ix2 v q) = sS x a9 a10 q v := by
  unfold sS attS
  rw [← sum_spread]
  pointwise [k0_pay5]
  simp only [pay4_apply]

theorem pay6_apply (v : Fin 500) (q : Fin 4) : k0_pay6 (F := Ideal) x a9 (spread a11) (ix2 v q) = sS x a9 a11 q v := by
  unfold sS attS
  rw [← sum_spread]
  pointwise [k0_pay6]
  simp only [pay4_apply]

theorem pay7_apply (v : Fin 500) (q : Fin 4) :
    k0_pay7 (F := Ideal) x rootSel a9 (spread a10) (spread a11) (ix2 v q) = lkS (sS x a9 a10 q (root v) + sS x a9 a11 q v) := by
  have key : ∀ G : FVec Ideal S500x500 .f32, k0_pay7 (F := Ideal) x G a9 (spread a10) (spread a11) (ix2 v q)
      = lkS ((∑ w, G (ix2 v w) * sS x a9 a10 q w) + sS x a9 a11 q v) := by
    intro G
    unfold lkS
    pointwise [k0_pay7, k0_pay2]
    simp only [pay5_apply, pay6_apply]
  rw [key, sum_root]

theorem pay8_apply (v : Fin 500) (q : Fin 4) :
    k0_pay8 (F := Ideal) x a9 (spread a10) (spread a11) (ix2 v q) = selfS (sS x a9 a10 q) (sS x a9 a11 q) v := by
  unfold selfS lkS
  pointwise [k0_pay8]
  simp only [pay5_apply, pay6_apply]

/-- A node that is a root is masked. -/
theorem mask_word (v : Fin 500) (y z : EReal) :
    Scalar.select (BitVec.ofBool (decide (0 < minCol (ix2 v 0)))) y z = if v.val % 10 = 0 then z else y := by
  rw [minCol_apply]
  by_cases h : v.val % 10 = 0
  · rw [if_pos h, if_pos h]; simp [Scalar.select]
  · rw [if_neg h, if_neg h]; simp [Scalar.select]

theorem pay9_apply (v : Fin 500) (q : Fin 4) (y z : EReal) :
    Scalar.select (k0_pay9 (F := Ideal) minCol (ix2 v q)) y z = if v.val % 10 = 0 then z else y := by
  rw [← mask_word]
  have e : ∀ c : FVec Ideal S500x1 .f32, k0_pay9 (F := Ideal) c (ix2 v q) = BitVec.ofBool (decide (0 < c (ix2 v 0))) := by
    intro c
    pointwise [k0_pay9]
  rw [e]

theorem pay10_apply (v : Fin 500) (q : Fin 4) : k0_pay10 (F := Ideal) (ix2 v q) = (⊥ : EReal) := by
  rw [← mask_bot]
  pointwise [k0_pay10]

/-- The first layer, rectified and centred, from what its inputs are known to be. -/
theorem pay11_apply (G P : FVec Ideal S500x500 .f32) (H : FVec Ideal S500x64 .f32) (E : FVec Ideal S4x64 .f32) (A B : FVec Ideal S500x4 .f32)
    (M : IVec S500x4 1) (C : FVec Ideal S500x4 .f32) (b : FVec Ideal S1x64 .f32) (s d : Fin 4 → Fin 500 → EReal) (h : Fin 500 → Fin 64 → EReal)
    (hG : ∀ (f : Fin 500 → EReal) v, ∑ w, G (ix2 v w) * f w = f (root v))
    (hP : ∀ (f : Fin 500 → EReal) v, ∑ w, P (ix2 v w) * f w = Ideal.div (∑ u : Fin 10, f (gr (bk v) u)) ((10 : ℝ) : EReal))
    (hH : ∀ v o, H (ix2 v o) = h v o) (hE : ∀ (f : Fin 4 → EReal) o, ∑ q, f q * E (ix2 q o) = f (hq o))
    (hA : ∀ v q, Scalar.select (M (ix2 v q)) (A (ix2 v q)) (C (ix2 v q)) = ainS (s q) (d q) v) (hB : ∀ v q, B (ix2 v q) = selfS (s q) (d q) v)
    (v : Fin 500) (o : Fin 64) :
    k0_pay11 G P H E A B M C b (ix2 v o)
      = cenS 640 (fun v o => eluS (gatS (s (hq o)) (d (hq o)) (fun w => h w o) v + b (ix2 0 o))) v o := by
  pointwise [k0_pay11]
  simp only [hA, hB, hH, hG, hE]
  simp only [hP, c_64, div_div' _ (show (10 : ℝ) ≠ 0 by norm_num) (show (64 : ℝ) ≠ 0 by norm_num), show (10 : ℝ) * 64 = 640 by norm_num]
  rfl

theorem pay12_apply (G P : FVec Ideal S500x500 .f32) (H : FVec Ideal S500x64 .f32) (E : FVec Ideal S4x64 .f32) (A B : FVec Ideal S500x4 .f32)
    (M : IVec S500x4 1) (C : FVec Ideal S500x4 .f32) (b : FVec Ideal S1x64 .f32) (y : Fin 500 → Fin 64 → EReal)
    (hP : ∀ (f : Fin 500 → EReal) v, ∑ w, P (ix2 v w) * f w = Ideal.div (∑ u : Fin 10, f (gr (bk v) u)) ((10 : ℝ) : EReal))
    (hy : ∀ v o, k0_pay11 G P H E A B M C b (ix2 v o) = y v o) (v : Fin 500) :
    k0_pay12 G P H E A B M C b (ix2 v 0) = varS 640 y (bk v) := by
  pointwise [k0_pay12]
  simp only [hy]
  simp only [hP, c_64, div_div' _ (show (10 : ℝ) ≠ 0 by norm_num) (show (64 : ℝ) ≠ 0 by norm_num), show (10 : ℝ) * 64 = 640 by norm_num]
  rfl

theorem pay13_apply (Y : FVec Ideal S500x64 .f32) (Z : FVec Ideal S500x1 .f32) (a13 a14 : FVec Ideal S64 .f32) (a15 : FVec Ideal S64x16 .f32)
    (y : Fin 500 → Fin 64 → EReal) (hY : ∀ v o, Y (ix2 v o) = y v o) (hZ : ∀ v, Z (ix2 v 0) = varS 640 y (bk v)) (v : Fin 500) (o : Fin 16) :
    k0_pay13 Y Z (row64 a13) (row64 a14) a15 (ix2 v o)
      = lin2S y (fun o => a13 (ix1 o)) (fun o => a14 (ix1 o)) (fun i o => a15 (ix2 i o)) v o := by
  unfold lin2S mulS lnS
  pointwise [k0_pay13, row64]
  simp only [hY, hZ]

section second

variable (Y : FVec Ideal S500x64 .f32) (Z : FVec Ideal S500x1 .f32) (b1 b2 : FVec Ideal S1x64 .f32) (W : FVec Ideal S64x16 .f32)
  (a16 a17 : FVec Ideal S1x16 .f32) (H : Fin 500 → Fin 16 → EReal) (h13 : ∀ v o, k0_pay13 Y Z b1 b2 W (ix2 v o) = H v o)

include h13

theorem pay14_apply (v : Fin 500) : k0_pay14 (F := Ideal) Y Z b1 b2 W (col16 a16) (ix2 v 0) = att1S H (fun t => a16 (ix2 0 t)) v := by
  unfold att1S
  pointwise [k0_pay14, col16]
  simp only [h13]

theorem pay15_apply (v : Fin 500) : k0_pay15 (F := Ideal) Y Z b1 b2 W (col16 a17) (ix2 v 0) = att1S H (fun t => a17 (ix2 0 t)) v := by
  unfold att1S
  pointwise [k0_pay15, col16]
  simp only [h13]

theorem pay16_apply (v : Fin 500) : k0_pay16 (F := Ideal) Y Z b1 b2 W (col16 a16) (col16 a17) (ix2 v 0)
    = selfS (att1S H (fun t => a16 (ix2 0 t))) (att1S H (fun t => a17 (ix2 0 t))) v := by
  unfold selfS lkS
  pointwise [k0_pay16]
  simp only [pay14_apply Y Z b1 b2 W a16 H h13, pay15_apply Y Z b1 b2 W a17 H h13]

theorem pay17_apply (v : Fin 500) : k0_pay17 (F := Ideal) (k0_pay2 (F := Ideal) rootSel) minCol Y Z b1 b2 W (col16 a16) (col16 a17) (ix2 v 0)
    = ainS (att1S H (fun t => a16 (ix2 0 t))) (att1S H (fun t => a17 (ix2 0 t))) v := by
  have key : ∀ (G : FVec Ideal S500x500 .f32) (c : FVec Ideal S500x1 .f32),
      k0_pay17 (F := Ideal) (k0_pay2 (F := Ideal) G) c Y Z b1 b2 W (col16 a16) (col16 a17) (ix2 v 0)
        = Scalar.select (BitVec.ofBool (decide (0 < c (ix2 v 0))))
            (lkS ((∑ w, G (ix2 v w) * att1S H (fun t => a16 (ix2 0 t)) w) + att1S H (fun t => a17 (ix2 0 t)) v))
            (Named.named (F := Ideal) κ "mask" (φ := .f32) 0xF149F2CA#32 : EReal) := by
    intro G c
    unfold lkS
    pointwise [k0_pay17, k0_pay2]
    simp only [pay14_apply Y Z b1 b2 W a16 H h13, pay15_apply Y Z b1 b2 W a17 H h13]
  rw [key, mask_word, sum_root, mask_bot]
  rfl

theorem pay18_apply (v : Fin 500) : k0_pay18 (F := Ideal) (k0_pay2 (F := Ideal) rootSel) minCol Y Z b1 b2 W (col16 a16) (col16 a17) (ix2 v 0)
    = mxS (att1S H (fun t => a16 (ix2 0 t))) (att1S H (fun t => a17 (ix2 0 t))) v := by
  unfold mxS
  rw [← pay16_apply Y Z b1 b2 W a16 a17 H h13, ← pay17_apply Y Z b1 b2 W a16 a17 H h13]
  rfl

theorem pay19_apply (v : Fin 500) : k0_pay19 (F := Ideal) (k0_pay2 (F := Ideal) rootSel) minCol Y Z b1 b2 W (col16 a16) (col16 a17) (ix2 v 0)
    = einS (att1S H (fun t => a16 (ix2 0 t))) (att1S H (fun t => a17 (ix2 0 t))) v := by
  unfold einS
  rw [← pay17_apply Y Z b1 b2 W a16 a17 H h13, ← pay18_apply Y Z b1 b2 W a16 a17 H h13]
  rfl

theorem pay20_apply (v : Fin 500) : Ideal.exp (k0_pay20 (F := Ideal) (k0_pay2 (F := Ideal) rootSel) minCol Y Z b1 b2 W (col16 a16) (col16 a17) (ix2 v 0))
    = eselfS (att1S H (fun t => a16 (ix2 0 t))) (att1S H (fun t => a17 (ix2 0 t))) v := by
  unfold eselfS
  rw [← pay16_apply Y Z b1 b2 W a16 a17 H h13, ← pay18_apply Y Z b1 b2 W a16 a17 H h13]
  rfl

end second

/-- The second layer, rectified, centred and scaled, from what its inputs are known to be. -/
theorem pay21_apply (G P : FVec Ideal S500x500 .f32) (H : FVec Ideal S500x16 .f32) (A B : FVec Ideal S500x1 .f32) (b : FVec Ideal S1x16 .f32)
    (s d : Fin 500 → EReal) (h : Fin 500 → Fin 16 → EReal)
    (hG : ∀ (f : Fin 500 → EReal) v, ∑ w, G (ix2 v w) * f w = f (root v))
    (hP : ∀ (f : Fin 500 → EReal) v, ∑ w, P (ix2 v w) * f w = Ideal.div (∑ u : Fin 10, f (gr (bk v) u)) ((10 : ℝ) : EReal))
    (hH : ∀ v o, H (ix2 v o) = h v o) (hA : ∀ v, A (ix2 v 0) = einS s d v) (hB : ∀ v, Ideal.exp (B (ix2 v 0)) = eselfS s d v)
    (y : Fin 500 → Fin 16 → EReal) (hy : y = cenS 160 (fun v o => eluS (gatS s d (fun w => h w o) v + b (ix2 0 o))))
    (v : Fin 500) (o : Fin 16) :
    k0_pay21 G P H A B b (ix2 v o) = y v o * Ideal.rsqrt (varS 160 y (bk v)) := by
  subst hy
  pointwise [k0_pay21]
  simp only [hA, hB, hH, hG]
  simp only [hP, c_16, div_div' _ (show (10 : ℝ) ≠ 0 by norm_num) (show (16 : ℝ) ≠ 0 by norm_num), show (10 : ℝ) * 16 = 160 by norm_num]
  rfl

theorem pay1_apply (Y : FVec Ideal S500x16 .f32) (a19 a20 : FVec Ideal S16 .f32) (a21 : FVec Ideal S16x2 .f32) (a22 : FVec Ideal S2 .f32)
    (y : Fin 500 → Fin 16 → EReal) (hY : ∀ v o, Y (ix2 v o) = y v o * Ideal.rsqrt (varS 160 y (bk v))) (g : Fin 50) (c : Fin 2) :
    k0_pay1 (F := Ideal) Y (k0_pay22 (row16 a19)) (row16 a20) poolSel a21 (row2 a22) (ix2 g c)
      = endS y (fun o => a19 (ix1 o)) (fun o => a20 (ix1 o)) (fun o c => a21 (ix2 o c)) (fun c => a22 (ix1 c)) g c := by
  have key : ∀ P : FVec Ideal S50x500 .f32, k0_pay1 (F := Ideal) Y (k0_pay22 (row16 a19)) (row16 a20) P a21 (row2 a22) (ix2 g c)
      = (∑ o, (∑ w, P (ix2 g w) * lnS 160 (fun o => a19 (ix1 o)) (fun o => a20 (ix1 o)) y w o) * a21 (ix2 o c)) + a22 (ix1 c) := by
    intro P
    unfold lnS
    pointwise [k0_pay1, k0_pay22, row16, row2]
    simp only [hY]
  rw [key]
  simp only [sum_poolSel (fun w => lnS 160 (fun o => a19 (ix1 o)) (fun o => a20 (ix1 o)) y w _)]
  rfl

variable (a12 a13 a14 : FVec Ideal S64 .f32) (a15 : FVec Ideal S64x16 .f32) (a16 a17 : FVec Ideal S1x16 .f32) (a18 a19 a20 : FVec Ideal S16 .f32)
  (a21 : FVec Ideal S16x2 .f32) (a22 : FVec Ideal S2 .f32)

/-- The second stage of the rows, entry by entry. -/
def superS : Fin 50 → Fin 2 → EReal :=
  endS (mid2S (lin2S (mid1S (fun v i => x (ix2 v i)) (fun i o => a9 (ix2 i o)) (fun q t => a10 (ix2 q t)) (fun q t => a11 (ix2 q t)) (fun o => a12 (ix1 o)))
      (fun o => a13 (ix1 o)) (fun o => a14 (ix1 o)) (fun i o => a15 (ix2 i o)))
    (fun t => a16 (ix2 0 t)) (fun t => a17 (ix2 0 t)) (fun o => a18 (ix1 o)))
    (fun o => a19 (ix1 o)) (fun o => a20 (ix1 o)) (fun o c => a21 (ix2 o c)) (fun c => a22 (ix1 c))

/-- The block the kernel writes, its whole-array loads read. -/
theorem out_read (g : Fin 50) (c : Fin 2) :
    out0_20 (F := Ideal) x a9 (spread a10) (spread a11) (row64 a12) (row64 a13) (row64 a14) a15 (col16 a16) (col16 a17) (row16 a18) (row16 a19)
        (row16 a20) a21 (row2 a22) rootSel meanSel poolSel minCol expand (ix2 g c)
      = superS x a9 a10 a11 a12 a13 a14 a15 a16 a17 a18 a19 a20 a21 a22 g c := by
  have r2 : ∀ c : FVec Ideal S500x500 .f32, k0_pay2 (F := Ideal) c = c := by intro c; funext i; rw [eq_ix2 i]; pointwise [k0_pay2]
  have r3 : ∀ c : FVec Ideal S500x500 .f32, k0_pay3 (F := Ideal) c = c := by intro c; funext i; rw [eq_ix2 i]; pointwise [k0_pay3]
  have hG : ∀ (f : Fin 500 → EReal) v, ∑ w, k0_pay2 (F := Ideal) rootSel (ix2 v w) * f w = f (root v) := by
    intro f v; rw [r2]; exact sum_root f v
  have hP : ∀ (f : Fin 500 → EReal) v, ∑ w, k0_pay3 (F := Ideal) meanSel (ix2 v w) * f w = Ideal.div (∑ u : Fin 10, f (gr (bk v) u)) ((10 : ℝ) : EReal) := by
    intro f v; rw [r3]; exact sum_mean f v
  have h11 := pay11_apply (k0_pay2 rootSel) (k0_pay3 meanSel) (k0_pay4 x a9) expand (k0_pay7 x rootSel a9 (spread a10) (spread a11))
    (k0_pay8 x a9 (spread a10) (spread a11)) (k0_pay9 (F := Ideal) minCol) k0_pay10 (row64 a12) (sS x a9 a10) (sS x a9 a11) (hS x a9) hG hP
    (pay4_apply x a9) sum_expand
    (by intro v q; rw [pay9_apply, pay7_apply, pay10_apply]; rfl) (pay8_apply x a9 a10 a11)
  have hb : ∀ o, row64 a12 (ix2 0 o) = a12 (ix1 o) := by intro o; pointwise [row64]
  have hb2 : ∀ o, row16 a18 (ix2 0 o) = a18 (ix1 o) := by intro o; pointwise [row16]
  simp only [hb] at h11
  have h12 := pay12_apply (k0_pay2 rootSel) (k0_pay3 meanSel) (k0_pay4 x a9) expand (k0_pay7 x rootSel a9 (spread a10) (spread a11))
    (k0_pay8 x a9 (spread a10) (spread a11)) (k0_pay9 (F := Ideal) minCol) k0_pay10 (row64 a12) _ hP h11
  have h13 := pay13_apply _ _ a13 a14 a15 _ h11 h12
  have h21 := pay21_apply (k0_pay2 rootSel) (k0_pay3 meanSel) _ _ _ (row16 a18) _ _ _ hG hP h13
    (pay19_apply _ _ _ _ _ a16 a17 _ h13) (pay20_apply _ _ _ _ _ a16 a17 _ h13) _ rfl
  simp only [hb2] at h21
  have h1 := pay1_apply _ a19 a20 a21 a22 _ h21 g c
  unfold superS
  refine Eq.trans ?_ h1
  have l0 : ∀ X : Vec Ideal S500x19 .f32, View.ld X r0_0 = X := fun X => View.ld_unit_lit _ _ (by decide)
  have l1 : ∀ X : Vec Ideal S500x500 .f32, View.ld X r0_1 = X := fun X => View.ld_unit_lit _ _ (by decide)
  have l2 : ∀ X : Vec Ideal S500x1 .f32, View.ld X r0_2 = X := fun X => View.ld_unit_lit _ _ (by decide)
  have l3 : ∀ X : Vec Ideal S19x64 .f32, View.ld X r0_3 = X := fun X => View.ld_unit_lit _ _ (by decide)
  have l4 : ∀ X : Vec Ideal S64x4 .f32, View.ld X r0_4 = X := fun X => View.ld_unit_lit _ _ (by decide)
  have l5 : ∀ X : Vec Ideal S4x64 .f32, View.ld X r0_5 = X := fun X => View.ld_unit_lit _ _ (by decide)
  have l6 : ∀ X : Vec Ideal S1x64 .f32, View.ld X r0_6 = X := fun X => View.ld_unit_lit _ _ (by decide)
  have l7 : ∀ X : Vec Ideal S64x16 .f32, View.ld X r0_7 = X := fun X => View.ld_unit_lit _ _ (by decide)
  have l8 : ∀ X : Vec Ideal S16x1 .f32, View.ld X r0_8 = X := fun X => View.ld_unit_lit _ _ (by decide)
  have l9 : ∀ X : Vec Ideal S1x16 .f32, View.ld X r0_9 = X := fun X => View.ld_unit_lit _ _ (by decide)
  have l10 : ∀ X : Vec Ideal S50x500 .f32, View.ld X r0_10 = X := fun X => View.ld_unit_lit _ _ (by decide)
  have l11 : ∀ X : Vec Ideal S16x2 .f32, View.ld X r0_11 = X := fun X => View.ld_unit_lit _ _ (by decide)
  have l12 : ∀ X : Vec Ideal S1x2 .f32, View.ld X r0_12 = X := fun X => View.ld_unit_lit _ _ (by decide)
  unfold_out out0_20
  rw [View.canon_cons_unit_lit _ _ _ (by decide)]
  simp only [l0, l1, l2, l3, l4, l5, l6, l7, l8, l9, l10, l11, l12]

end Cert.Val.K

end
-- ==== Proof.Val.RSuper.lean ====
/-
  The reference's second stage is the second stage.
-/
module

public import proofs.«01_k».proof.Proof.Val.RGat1
public import proofs.«01_k».proof.Proof.Val.RGat2
public import proofs.«01_k».proof.Proof.Val.KSuper

@[expose] public section

set_option maxRecDepth 16384

noncomputable section

namespace Cert.Val.R

open Idealize.ShloMosaic Cert.ReferenceIdeal Cert.ReferenceIdeal.Gen Cert.ReferenceIdeal.Value

attribute [local instance] Cert.ReferenceIdeal.Gen.facts

/-- The second layer's features from the first's. -/
def next (y : FVec Ideal S500x64 .f32) (w b : FVec Ideal S64 .f32) (a : FVec Ideal S64x16 .f32) : FVec Ideal S500x1x16 .f32 :=
  shapeCast _ (Host.dotGeneral dot_S500x64_S64x16_S500x16_1_0_0_1_n_n none (R1.ln y w b) a) shapeCasts_S500x16_S500x1x16

/-- The stars' sums of the last features. -/
def lastSum (y : FVec Ideal S500x16 .f32) : FVec Ideal S50x16 .f32 :=
  Host.scatterAdd scatter_S50x16_S500x1_S500x16_1_0_0_1 (broadcastInDim S50x16 ![] bcast_S_S50x16 (constant S_ .f32 0x00000000#32)) starcol y

/-- The stars' numbers of nodes. -/
def lastCount : FVec Ideal S50x1 .f32 :=
  Host.scatterAdd scatter_S50x1_S500x1_S500x1_1_0_0_1 (broadcastInDim S50x1 ![] bcast_S_S50x1 (constant S_ .f32 0x00000000#32)) starcol (broadcastInDim S500x1 ![] bcast_S_S500x1 (constant S_ .f32 0x3F800000#32))

/-- The means through the last linear map. -/
def lastMap (s : FVec Ideal S50x16 .f32) (n : FVec Ideal S50x1 .f32) (w : FVec Ideal S16x2 .f32) (b : FVec Ideal S2 .f32) : FVec Ideal S50x2 .f32 :=
  addf (Host.dotGeneral dot_S50x16_S16x2_S50x2_1_0_0_1_n_n none (Host.divf s (broadcastInDim S50x16 ![0, 1] bcast_S50x1_S50x16_0_1 (maximumf (broadcastInDim S50x1 ![] bcast_S_S50x1 (id (constant S_ .f32 0x3F800000#32))) n))) w) (broadcastInDim S50x2 ![0, 1] bcast_S1x2_S50x2_0_1 (broadcastInDim S1x2 ![1] bcast_S2_S1x2_1 b))

/-- The second stage, from the features of its first layer. -/
def second (H : FVec Ideal S500x4x16 .f32) (a10 a11 : FVec Ideal S4x16 .f32) (a12 a13 a14 : FVec Ideal S64 .f32) (a15 : FVec Ideal S64x16 .f32)
    (a16 a17 : FVec Ideal S1x16 .f32) (a18 a19 a20 : FVec Ideal S16 .f32) (a21 : FVec Ideal S16x2 .f32) (a22 : FVec Ideal S2 .f32) : FVec Ideal S50x2 .f32 :=
  lastMap (lastSum (R2.ln (R2.cen (R2.layer (next (R1.cen (R1.layer H a10 a11 a12)) a13 a14 a15) a16 a17 a18)) a19 a20)) lastCount a21 a22

/-! ## The reference's terms -/

section
variable (V : Valuation τ sig (Elt Ideal))

theorem res_layer1 : res_main_v342 V = R1.layer (res_main_v258 V) (V (Proc.devRef .tc main_arg10)) (V (Proc.devRef .tc main_arg11)) (V (Proc.devRef .tc main_arg12)) := rfl

theorem res_den1 : res_main_v353 V = R1.den := rfl

theorem res_cen1 : res_main_v373 V = R1.cen (res_main_v342 V) := by
  rw [show R1.cen (res_main_v342 V) = subf (res_main_v342 V) (R1.wide (at500 (Host.divf (segS (R1.rowSum (res_main_v342 V))) R1.den))) from rfl, ← res_den1 V]
  rfl

theorem res_next : res_main_v412 V = next (res_main_v373 V) (V (Proc.devRef .tc main_arg13)) (V (Proc.devRef .tc main_arg14)) (V (Proc.devRef .tc main_arg15)) := rfl

theorem res_layer2 : res_main_v496 V = R2.layer (res_main_v412 V) (V (Proc.devRef .tc main_arg16)) (V (Proc.devRef .tc main_arg17)) (V (Proc.devRef .tc main_arg18)) := rfl

theorem res_den2 : res_main_v507 V = R2.den := rfl

theorem res_cen2 : res_main_v527 V = R2.cen (res_main_v496 V) := by
  rw [show R2.cen (res_main_v496 V) = subf (res_main_v496 V) (R2.wide (at500 (Host.divf (segS (R2.rowSum (res_main_v496 V))) R2.den))) from rfl, ← res_den2 V]
  rfl

end

/-! ## The reading -/

theorem next_apply (y : FVec Ideal S500x64 .f32) (w b : FVec Ideal S64 .f32) (a : FVec Ideal S64x16 .f32) (v : Fin 500) (q : Fin 1) (o : Fin 16) :
    next y w b a (ix3 v q o) = lin2S (fun v o => y (ix2 v o)) (fun o => w (ix1 o)) (fun o => b (ix1 o)) (fun i o => a (ix2 i o)) v o := by
  have key : ∀ z : FVec Ideal S500x64 .f32, (shapeCast S500x1x16 (Host.dotGeneral dot_S500x64_S64x16_S500x16_1_0_0_1_n_n none z a) shapeCasts_S500x16_S500x1x16) (ix3 v q o)
      = ∑ i : Fin 64, z (ix2 v i) * a (ix2 i o) := by
    intro z
    obtain rfl : q = 0 := Subsingleton.elim _ _
    pointwise
    try rfl
  unfold next lin2S mulS
  rw [key]
  simp only [R1.ln_apply]

theorem lastSum_apply (y : FVec Ideal S500x16 .f32) (g : Fin 50) (o : Fin 16) : lastSum y (ix2 g o) = ∑ u : Fin 10, y (ix2 (gr g u) o) := by
  have h0 : broadcastInDim S50x16 ![] bcast_S_S50x16 (constant (F := Ideal) S_ .f32 0x00000000#32) (ix2 g o) = (0 : EReal) := by pointwise
  unfold lastSum
  rw [scatter_S50x16_S500x1_S500x16_1_0_0_1_apply, h0, zero_add, sum_starcol (fun w => y (ix2 w o))]

theorem lastCount_apply (g : Fin 50) (q : Fin 1) : lastCount (ix2 g q) = ((10 : ℝ) : EReal) := by
  have h0 : broadcastInDim S50x1 ![] bcast_S_S50x1 (constant (F := Ideal) S_ .f32 0x00000000#32) (ix2 g q) = (0 : EReal) := by pointwise
  have h1 : ∀ w : Fin 500, broadcastInDim S500x1 ![] bcast_S_S500x1 (constant (F := Ideal) S_ .f32 0x3F800000#32) (ix2 w q) = (1 : EReal) := by
    intro w
    pointwise
  unfold lastCount
  rw [scatter_S50x1_S500x1_S500x1_1_0_0_1_apply, h0, zero_add, sum_starcol (fun w => broadcastInDim S500x1 ![] bcast_S_S500x1 (constant (F := Ideal) S_ .f32 0x3F800000#32) (ix2 w q)),
    Finset.sum_congr rfl fun u _ => h1 (gr g u), sum_one 10]
  norm_num

theorem lastMap_apply (s : FVec Ideal S50x16 .f32) (n : FVec Ideal S50x1 .f32) (w : FVec Ideal S16x2 .f32) (b : FVec Ideal S2 .f32) (g : Fin 50) (c : Fin 2) :
    lastMap s n w b (ix2 g c) = (∑ o : Fin 16, Ideal.div (s (ix2 g o)) (max 1 (n (ix2 g 0))) * w (ix2 o c)) + b (ix1 c) := by
  unfold lastMap
  simp only [id_eq]
  pointwise
  try rfl

/-- A star's results from its last features. -/
theorem end_apply (y : FVec Ideal S500x16 .f32) (a19 a20 : FVec Ideal S16 .f32) (a21 : FVec Ideal S16x2 .f32) (a22 : FVec Ideal S2 .f32) (g : Fin 50) (c : Fin 2) :
    lastMap (lastSum (R2.ln y a19 a20)) lastCount a21 a22 (ix2 g c)
      = endS (fun v o => y (ix2 v o)) (fun o => a19 (ix1 o)) (fun o => a20 (ix1 o)) (fun o c => a21 (ix2 o c)) (fun c => a22 (ix1 c)) g c := by
  rw [lastMap_apply, lastCount_apply, max_one (by norm_num)]
  simp only [lastSum_apply, R2.ln_apply]
  rfl

theorem lin2_apply (x : FVec Ideal S500x19 .f32) (w : FVec Ideal S19x64 .f32) (v : Fin 500) (q : Fin 4) (t : Fin 16) :
    lin2 x w (ix3 v q t) = mulS (fun v i => x (ix2 v i)) (fun i o => w (ix2 i o)) v (hd q t) := by
  pointwise [lin2]
  try rfl

theorem hd_hq (o : Fin 64) : hd (hq o) ⟨o.val % 16, by omega⟩ = o := by
  simp only [Fin.ext_iff, hd, hq]; omega

theorem mid1_apply (x : FVec Ideal S500x19 .f32) (a9 : FVec Ideal S19x64 .f32) (a10 a11 : FVec Ideal S4x16 .f32) (a12 : FVec Ideal S64 .f32) (v : Fin 500) (o : Fin 64) :
    R1.cen (R1.layer (lin2 x a9) a10 a11 a12) (ix2 v o)
      = mid1S (fun v i => x (ix2 v i)) (fun i o => a9 (ix2 i o)) (fun q t => a10 (ix2 q t)) (fun q t => a11 (ix2 q t)) (fun o => a12 (ix1 o)) v o := by
  rw [R1.cen_apply]
  unfold mid1S
  refine congrFun (congrFun (congrArg (cenS 640) ?_) v) o
  funext v o
  rw [R1.layer_apply]
  simp only [lin2_apply, hd_hq]
  rfl

theorem mid2_apply (H : FVec Ideal S500x1x16 .f32) (a16 a17 : FVec Ideal S1x16 .f32) (a18 : FVec Ideal S16 .f32) (v : Fin 500) (o : Fin 16) :
    R2.cen (R2.layer H a16 a17 a18) (ix2 v o) = mid2S (fun v o => H (ix3 v 0 o)) (fun t => a16 (ix2 0 t)) (fun t => a17 (ix2 0 t)) (fun o => a18 (ix1 o)) v o := by
  rw [R2.cen_apply]
  unfold mid2S
  refine congrFun (congrFun (congrArg (cenS 160) ?_) v) o
  funext v o
  rw [R2.layer_apply]
  rfl

/-- The second stage at a star and a class. -/
theorem second_apply (x : FVec Ideal S500x19 .f32) (a9 : FVec Ideal S19x64 .f32) (a10 a11 : FVec Ideal S4x16 .f32) (a12 a13 a14 : FVec Ideal S64 .f32) (a15 : FVec Ideal S64x16 .f32)
    (a16 a17 : FVec Ideal S1x16 .f32) (a18 a19 a20 : FVec Ideal S16 .f32) (a21 : FVec Ideal S16x2 .f32) (a22 : FVec Ideal S2 .f32) (g : Fin 50) (c : Fin 2) :
    second (lin2 x a9) a10 a11 a12 a13 a14 a15 a16 a17 a18 a19 a20 a21 a22 (ix2 g c)
      = K.superS x a9 a10 a11 a12 a13 a14 a15 a16 a17 a18 a19 a20 a21 a22 g c := by
  unfold second
  rw [end_apply]
  simp only [mid2_apply, next_apply, mid1_apply]
  rfl

end Cert.Val.R

end
-- ==== Proof.Algebraic.lean ====
/-
  The two idealizations end with the same result.
-/
module

public import proofs.«01_k».proof.Defs
public import proofs.«01_k».proof.Proof.Val.Ranges
public import proofs.«01_k».proof.Proof.Val.RSuper
public import Idealize.ShloMosaic.Lib.Claim

@[expose] public section

set_option maxRecDepth 16384

noncomputable section

namespace Cert.Val

open Idealize.ShloMosaic Idealize.ShloMosaic.StableHlo

attribute [local instance] Cert.KernelIdeal.Gen.facts
attribute [local instance] Cert.ReferenceIdeal.Gen.facts
attribute [local instance] Cert.Pre_ranges.Gen.facts

section
open Cert.ReferenceIdeal Cert.ReferenceIdeal.Value

/-- The reference's result from its buffers. -/
def refOut (V : Valuation τ sig (Elt Ideal)) : FVec Ideal S50x2 .f32 :=
  R.lastMap (R.lastSum (R2.ln (res_main_v527 V) (V (Proc.devRef .tc main_arg19)) (V (Proc.devRef .tc main_arg20)))) R.lastCount (V (Proc.devRef .tc main_arg21)) (V (Proc.devRef .tc main_arg22))

variable (V : Valuation τ sig (Elt Ideal))

/-- The reference's result is the second stage of its rows. -/
theorem refOut_eq {S D : Fin 10 → Fin 160000 → Fin 10000} (hE : Edges (V (Proc.devRef .tc main_arg1)) S D) (hR : Runs (V (Proc.devRef .tc main_arg2))) (g : Fin 50) (c : Fin 2) :
    refOut V (ix2 g c) = K.superS
      (K.rowsOf (K.xn (K.hid (V (Proc.devRef .tc main_arg0)) (V (Proc.devRef .tc main_arg1)) (V (Proc.devRef .tc main_arg4)) (V (Proc.devRef .tc main_arg5)))
          (V (Proc.devRef .tc main_arg6)) (V (Proc.devRef .tc main_arg7)))
        (V (Proc.devRef .tc main_arg3)) (V (Proc.devRef .tc main_arg8)))
      (V (Proc.devRef .tc main_arg9)) (V (Proc.devRef .tc main_arg10)) (V (Proc.devRef .tc main_arg11)) (V (Proc.devRef .tc main_arg12)) (V (Proc.devRef .tc main_arg13))
      (V (Proc.devRef .tc main_arg14)) (V (Proc.devRef .tc main_arg15)) (V (Proc.devRef .tc main_arg16)) (V (Proc.devRef .tc main_arg17)) (V (Proc.devRef .tc main_arg18))
      (V (Proc.devRef .tc main_arg19)) (V (Proc.devRef .tc main_arg20)) (V (Proc.devRef .tc main_arg21)) (V (Proc.devRef .tc main_arg22)) g c := by
  have hx : K.graphs (res_main_v163 V) = K.xn (K.hid (V (Proc.devRef .tc main_arg0)) (V (Proc.devRef .tc main_arg1)) (V (Proc.devRef .tc main_arg4)) (V (Proc.devRef .tc main_arg5)))
      (V (Proc.devRef .tc main_arg6)) (V (Proc.devRef .tc main_arg7)) := by
    rw [R.res_nrm, R.res_cent, R.res_hid, R.hid_eq hE, K.xn_eq hR]
  have h2 : res_main_v258 V = R.lin2 (K.rowsOf (K.xn (K.hid (V (Proc.devRef .tc main_arg0)) (V (Proc.devRef .tc main_arg1)) (V (Proc.devRef .tc main_arg4)) (V (Proc.devRef .tc main_arg5)))
          (V (Proc.devRef .tc main_arg6)) (V (Proc.devRef .tc main_arg7)))
        (V (Proc.devRef .tc main_arg3)) (V (Proc.devRef .tc main_arg8))) (V (Proc.devRef .tc main_arg9)) := by
    rw [R.res_lin2, R.res_score, R.lin2_eq hR, hx]
  unfold refOut
  rw [R.res_cen2, R.res_layer2, R.res_next, R.res_cen1, R.res_layer1, h2]
  exact R.second_apply _ _ _ _ _ _ _ _ _ _ _ _ _ _ _ g c

end

section
open Cert.KernelIdeal Cert.KernelIdeal.Gen Idealize.ShloMosaic.TcCoe

/-- The kernel's result at a star and a class. -/
theorem stage2_apply (m : (ℓ : Loc nD τ sig) → Buf (Elt Ideal) ℓ) (d : Dev nD) (g : Fin 50) (c : Fin 2) :
    K.stage2 m d (ix2 g c) = K.superS
      (K.rowsOf (K.xn (K.hid (m ((d : Thread nD τ).loc main_arg0)) (m ((d : Thread nD τ).loc main_arg1)) (m ((d : Thread nD τ).loc main_arg4)) (m ((d : Thread nD τ).loc main_arg5)))
          (m ((d : Thread nD τ).loc main_arg6)) (m ((d : Thread nD τ).loc main_arg7)))
        (m ((d : Thread nD τ).loc main_arg3)) (m ((d : Thread nD τ).loc main_arg8)))
      (m ((d : Thread nD τ).loc main_arg9)) (m ((d : Thread nD τ).loc main_arg10)) (m ((d : Thread nD τ).loc main_arg11)) (m ((d : Thread nD τ).loc main_arg12)) (m ((d : Thread nD τ).loc main_arg13))
      (m ((d : Thread nD τ).loc main_arg14)) (m ((d : Thread nD τ).loc main_arg15)) (m ((d : Thread nD τ).loc main_arg16)) (m ((d : Thread nD τ).loc main_arg17)) (m ((d : Thread nD τ).loc main_arg18))
      (m ((d : Thread nD τ).loc main_arg19)) (m ((d : Thread nD τ).loc main_arg20)) (m ((d : Thread nD τ).loc main_arg21)) (m ((d : Thread nD τ).loc main_arg22)) g c :=
  K.out_read _ _ _ _ _ _ _ _ _ _ _ _ _ _ _ g c

end

/-- Under the precondition the two results agree. -/
theorem result_eq (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (hE : ∃ S D, Edges (V (Proc.devRef .tc Cert.ReferenceIdeal.main_arg1)) S D) (hR : Runs (V (Proc.devRef .tc Cert.ReferenceIdeal.main_arg2)))
    (h0 : V (Proc.devRef .tc Cert.ReferenceIdeal.main_arg0) = m ((d.tc : Thread Cert.KernelIdeal.nD Cert.KernelIdeal.τ).loc Cert.KernelIdeal.main_arg0))
    (h1 : V (Proc.devRef .tc Cert.ReferenceIdeal.main_arg1) = m ((d.tc : Thread Cert.KernelIdeal.nD Cert.KernelIdeal.τ).loc Cert.KernelIdeal.main_arg1))
    (h2 : V (Proc.devRef .tc Cert.ReferenceIdeal.main_arg2) = m ((d.tc : Thread Cert.KernelIdeal.nD Cert.KernelIdeal.τ).loc Cert.KernelIdeal.main_arg2))
    (h3 : V (Proc.devRef .tc Cert.ReferenceIdeal.main_arg3) = m ((d.tc : Thread Cert.KernelIdeal.nD Cert.KernelIdeal.τ).loc Cert.KernelIdeal.main_arg3))
    (h4 : V (Proc.devRef .tc Cert.ReferenceIdeal.main_arg4) = m ((d.tc : Thread Cert.KernelIdeal.nD Cert.KernelIdeal.τ).loc Cert.KernelIdeal.main_arg4))
    (h5 : V (Proc.devRef .tc Cert.ReferenceIdeal.main_arg5) = m ((d.tc : Thread Cert.KernelIdeal.nD Cert.KernelIdeal.τ).loc Cert.KernelIdeal.main_arg5))
    (h6 : V (Proc.devRef .tc Cert.ReferenceIdeal.main_arg6) = m ((d.tc : Thread Cert.KernelIdeal.nD Cert.KernelIdeal.τ).loc Cert.KernelIdeal.main_arg6))
    (h7 : V (Proc.devRef .tc Cert.ReferenceIdeal.main_arg7) = m ((d.tc : Thread Cert.KernelIdeal.nD Cert.KernelIdeal.τ).loc Cert.KernelIdeal.main_arg7))
    (h8 : V (Proc.devRef .tc Cert.ReferenceIdeal.main_arg8) = m ((d.tc : Thread Cert.KernelIdeal.nD Cert.KernelIdeal.τ).loc Cert.KernelIdeal.main_arg8))
    (h9 : V (Proc.devRef .tc Cert.ReferenceIdeal.main_arg9) = m ((d.tc : Thread Cert.KernelIdeal.nD Cert.KernelIdeal.τ).loc Cert.KernelIdeal.main_arg9))
    (h10 : V (Proc.devRef .tc Cert.ReferenceIdeal.main_arg10) = m ((d.tc : Thread Cert.KernelIdeal.nD Cert.KernelIdeal.τ).loc Cert.KernelIdeal.main_arg10))
    (h11 : V (Proc.devRef .tc Cert.ReferenceIdeal.main_arg11) = m ((d.tc : Thread Cert.KernelIdeal.nD Cert.KernelIdeal.τ).loc Cert.KernelIdeal.main_arg11))
    (h12 : V (Proc.devRef .tc Cert.ReferenceIdeal.main_arg12) = m ((d.tc : Thread Cert.KernelIdeal.nD Cert.KernelIdeal.τ).loc Cert.KernelIdeal.main_arg12))
    (h13 : V (Proc.devRef .tc Cert.ReferenceIdeal.main_arg13) = m ((d.tc : Thread Cert.KernelIdeal.nD Cert.KernelIdeal.τ).loc Cert.KernelIdeal.main_arg13))
    (h14 : V (Proc.devRef .tc Cert.ReferenceIdeal.main_arg14) = m ((d.tc : Thread Cert.KernelIdeal.nD Cert.KernelIdeal.τ).loc Cert.KernelIdeal.main_arg14))
    (h15 : V (Proc.devRef .tc Cert.ReferenceIdeal.main_arg15) = m ((d.tc : Thread Cert.KernelIdeal.nD Cert.KernelIdeal.τ).loc Cert.KernelIdeal.main_arg15))
    (h16 : V (Proc.devRef .tc Cert.ReferenceIdeal.main_arg16) = m ((d.tc : Thread Cert.KernelIdeal.nD Cert.KernelIdeal.τ).loc Cert.KernelIdeal.main_arg16))
    (h17 : V (Proc.devRef .tc Cert.ReferenceIdeal.main_arg17) = m ((d.tc : Thread Cert.KernelIdeal.nD Cert.KernelIdeal.τ).loc Cert.KernelIdeal.main_arg17))
    (h18 : V (Proc.devRef .tc Cert.ReferenceIdeal.main_arg18) = m ((d.tc : Thread Cert.KernelIdeal.nD Cert.KernelIdeal.τ).loc Cert.KernelIdeal.main_arg18))
    (h19 : V (Proc.devRef .tc Cert.ReferenceIdeal.main_arg19) = m ((d.tc : Thread Cert.KernelIdeal.nD Cert.KernelIdeal.τ).loc Cert.KernelIdeal.main_arg19))
    (h20 : V (Proc.devRef .tc Cert.ReferenceIdeal.main_arg20) = m ((d.tc : Thread Cert.KernelIdeal.nD Cert.KernelIdeal.τ).loc Cert.KernelIdeal.main_arg20))
    (h21 : V (Proc.devRef .tc Cert.ReferenceIdeal.main_arg21) = m ((d.tc : Thread Cert.KernelIdeal.nD Cert.KernelIdeal.τ).loc Cert.KernelIdeal.main_arg21))
    (h22 : V (Proc.devRef .tc Cert.ReferenceIdeal.main_arg22) = m ((d.tc : Thread Cert.KernelIdeal.nD Cert.KernelIdeal.τ).loc Cert.KernelIdeal.main_arg22)) :
    refOut V = K.stage2 m d := by
  obtain ⟨S, D, hE⟩ := hE
  have hn : ∀ (g : Fin 50) (c : Fin 2), refOut V (ix2 g c) = K.stage2 m d (ix2 g c) := by
    intro g c
    rw [stage2_apply, refOut_eq V hE hR, h0, h1, h3, h4, h5, h6, h7, h8, h9, h10, h11, h12, h13, h14, h15, h16, h17, h18, h19, h20, h21, h22]
  funext i
  rw [eq_ix2 i]
  exact hn _ _

/-- The algebraic claim. -/
theorem algebraic : Cert.algebraic_KernelIdeal_ReferenceIdeal_pre_ranges := by
  intro m g m' g' hpre hagree
  refine ⟨fun c => K.stage2 m c, ?_, ?_⟩
  · exact θ_run_mono (Cert.KernelIdeal.Value.run_blocks m g) fun r hr c => ⟨(hr c).1.trans (K.arrAt_out m c), (hr c).2⟩
  · refine θ_run_mono (Cert.ReferenceIdeal.Value.run m' g') fun r hr c => ⟨(hr c).1.trans ?_, (hr c).2⟩
    obtain ⟨h0, h1, h2, h3, h4, h5, h6, h7, h8, h9, h10, h11, h12, h13, h14, h15, h16, h17, h18, h19, h20, h21, h22⟩ := hagree c
    obtain ⟨hE, hR⟩ := ranges_read _ _ _ _ _ _ _ _ _ _ _ _ _ _ _ _ _ _ _ _ _ _ _ (hpre c)
    exact result_eq m c (launchContents m' c) (by obtain ⟨S, D, h⟩ := hE; exact ⟨S, D, fun r e => by rw [show launchContents m' c (Proc.devRef .tc Cert.ReferenceIdeal.main_arg1) = _ from h1]; exact h r e⟩)
      (fun i => by rw [show launchContents m' c (Proc.devRef .tc Cert.ReferenceIdeal.main_arg2) = _ from h2]; exact hR i) h0 h1 h2 h3 h4 h5 h6 h7 h8 h9 h10 h11 h12 h13 h14 h15 h16 h17 h18 h19 h20 h21 h22

end Cert.Val

end
-- ==== Proof.lean ====
/-
  The claims, put together: the three programs' frames, the naming of the mask, and the equality of the two idealizations' results.
-/
module

public import proofs.«01_k».proof.Proof.Frames
public import proofs.«01_k».proof.Proof.Algebraic

@[expose] public section

noncomputable section

namespace Cert.Proof

/-- Everything claimed. -/
theorem claim : Cert.Claim :=
  ⟨Cert.Kernel.Gen.facts, Cert.KernelIdeal.Gen.facts, Cert.ReferenceIdeal.Gen.facts, Cert.Pre_ranges.Gen.facts,
    Cert.Frames.kernel, Cert.Frames.kernelIdeal, Cert.Frames.kernelIdeal_pre, Cert.Frames.reference, Cert.Frames.reference_pre,
    Cert.Frames.preserves, Cert.Val.algebraic⟩

end Cert.Proof

end
